-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenRefIdeal (m : (ℓ : Loc Cert.TokenRefIdeal.nD Cert.TokenRefIdeal.τ Cert.TokenRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4)
      ∧ r.2.mem ((c.tc : Thread Cert.DwQkv.nD Cert.DwQkv.τ).loc Cert.DwQkv.main_arg5) = m ((c.tc : Thread Cert.DwQkv.nD Cert.DwQkv.τ).loc Cert.DwQkv.main_arg5))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
      ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4)
      ∧ r.2.mem ((c.tc : Thread Cert.DwQkvRefIdeal.nD Cert.DwQkvRefIdeal.τ).loc Cert.DwQkvRefIdeal.main_arg5) = m ((c.tc : Thread Cert.DwQkvRefIdeal.nD Cert.DwQkvRefIdeal.τ).loc Cert.DwQkvRefIdeal.main_arg5))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5)
      ∧ r.2.mem ((c.tc : Thread Cert.Token.nD Cert.Token.τ).loc Cert.Token.main_arg6) = m ((c.tc : Thread Cert.Token.nD Cert.Token.τ).loc Cert.Token.main_arg6)
      ∧ r.2.mem ((c.tc : Thread Cert.Token.nD Cert.Token.τ).loc Cert.Token.main_arg7) = m ((c.tc : Thread Cert.Token.nD Cert.Token.τ).loc Cert.Token.main_arg7)
      ∧ r.2.mem ((c.tc : Thread Cert.Token.nD Cert.Token.τ).loc Cert.Token.main_arg8) = m ((c.tc : Thread Cert.Token.nD Cert.Token.τ).loc Cert.Token.main_arg8)
      ∧ r.2.mem ((c.tc : Thread Cert.Token.nD Cert.Token.τ).loc Cert.Token.main_arg9) = m ((c.tc : Thread Cert.Token.nD Cert.Token.τ).loc Cert.Token.main_arg9)
      ∧ r.2.mem ((c.tc : Thread Cert.Token.nD Cert.Token.τ).loc Cert.Token.main_arg10) = m ((c.tc : Thread Cert.Token.nD Cert.Token.τ).loc Cert.Token.main_arg10)
      ∧ r.2.mem ((c.tc : Thread Cert.Token.nD Cert.Token.τ).loc Cert.Token.main_arg11) = m ((c.tc : Thread Cert.Token.nD Cert.Token.τ).loc Cert.Token.main_arg11)
      ∧ r.2.mem ((c.tc : Thread Cert.Token.nD Cert.Token.τ).loc Cert.Token.main_arg12) = m ((c.tc : Thread Cert.Token.nD Cert.Token.τ).loc Cert.Token.main_arg12)
      ∧ r.2.mem ((c.tc : Thread Cert.Token.nD Cert.Token.τ).loc Cert.Token.main_arg13) = m ((c.tc : Thread Cert.Token.nD Cert.Token.τ).loc Cert.Token.main_arg13)
      ∧ r.2.mem ((c.tc : Thread Cert.Token.nD Cert.Token.τ).loc Cert.Token.main_arg14) = m ((c.tc : Thread Cert.Token.nD Cert.Token.τ).loc Cert.Token.main_arg14)
      ∧ r.2.mem ((c.tc : Thread Cert.Token.nD Cert.Token.τ).loc Cert.Token.main_arg15) = m ((c.tc : Thread Cert.Token.nD Cert.Token.τ).loc Cert.Token.main_arg15))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
      ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
      ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
      ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
      ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
      ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13)
      ∧ r.2.mem ((c.tc : Thread Cert.TokenIdeal.nD Cert.TokenIdeal.τ).loc Cert.TokenIdeal.main_arg14) = m ((c.tc : Thread Cert.TokenIdeal.nD Cert.TokenIdeal.τ).loc Cert.TokenIdeal.main_arg14)
      ∧ r.2.mem ((c.tc : Thread Cert.TokenIdeal.nD Cert.TokenIdeal.τ).loc Cert.TokenIdeal.main_arg15) = m ((c.tc : Thread Cert.TokenIdeal.nD Cert.TokenIdeal.τ).loc Cert.TokenIdeal.main_arg15))
      ∧ r.2.sem = fun _ => 0)

def quiescent_TokenRefIdeal [hTokenRefIdeal : Cert.TokenRefIdeal.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5)
      ∧ r.2.mem ((c.tc : Thread Cert.TokenRefIdeal.nD Cert.TokenRefIdeal.τ).loc Cert.TokenRefIdeal.main_arg6) = m ((c.tc : Thread Cert.TokenRefIdeal.nD Cert.TokenRefIdeal.τ).loc Cert.TokenRefIdeal.main_arg6)
      ∧ r.2.mem ((c.tc : Thread Cert.TokenRefIdeal.nD Cert.TokenRefIdeal.τ).loc Cert.TokenRefIdeal.main_arg7) = m ((c.tc : Thread Cert.TokenRefIdeal.nD Cert.TokenRefIdeal.τ).loc Cert.TokenRefIdeal.main_arg7)
      ∧ r.2.mem ((c.tc : Thread Cert.TokenRefIdeal.nD Cert.TokenRefIdeal.τ).loc Cert.TokenRefIdeal.main_arg8) = m ((c.tc : Thread Cert.TokenRefIdeal.nD Cert.TokenRefIdeal.τ).loc Cert.TokenRefIdeal.main_arg8)
      ∧ r.2.mem ((c.tc : Thread Cert.TokenRefIdeal.nD Cert.TokenRefIdeal.τ).loc Cert.TokenRefIdeal.main_arg9) = m ((c.tc : Thread Cert.TokenRefIdeal.nD Cert.TokenRefIdeal.τ).loc Cert.TokenRefIdeal.main_arg9)
      ∧ r.2.mem ((c.tc : Thread Cert.TokenRefIdeal.nD Cert.TokenRefIdeal.τ).loc Cert.TokenRefIdeal.main_arg10) = m ((c.tc : Thread Cert.TokenRefIdeal.nD Cert.TokenRefIdeal.τ).loc Cert.TokenRefIdeal.main_arg10)
      ∧ r.2.mem ((c.tc : Thread Cert.TokenRefIdeal.nD Cert.TokenRefIdeal.τ).loc Cert.TokenRefIdeal.main_arg11) = m ((c.tc : Thread Cert.TokenRefIdeal.nD Cert.TokenRefIdeal.τ).loc Cert.TokenRefIdeal.main_arg11)
      ∧ r.2.mem ((c.tc : Thread Cert.TokenRefIdeal.nD Cert.TokenRefIdeal.τ).loc Cert.TokenRefIdeal.main_arg12) = m ((c.tc : Thread Cert.TokenRefIdeal.nD Cert.TokenRefIdeal.τ).loc Cert.TokenRefIdeal.main_arg12)
      ∧ r.2.mem ((c.tc : Thread Cert.TokenRefIdeal.nD Cert.TokenRefIdeal.τ).loc Cert.TokenRefIdeal.main_arg13) = m ((c.tc : Thread Cert.TokenRefIdeal.nD Cert.TokenRefIdeal.τ).loc Cert.TokenRefIdeal.main_arg13)
      ∧ r.2.mem ((c.tc : Thread Cert.TokenRefIdeal.nD Cert.TokenRefIdeal.τ).loc Cert.TokenRefIdeal.main_arg14) = m ((c.tc : Thread Cert.TokenRefIdeal.nD Cert.TokenRefIdeal.τ).loc Cert.TokenRefIdeal.main_arg14)
      ∧ r.2.mem ((c.tc : Thread Cert.TokenRefIdeal.nD Cert.TokenRefIdeal.τ).loc Cert.TokenRefIdeal.main_arg15) = m ((c.tc : Thread Cert.TokenRefIdeal.nD Cert.TokenRefIdeal.τ).loc Cert.TokenRefIdeal.main_arg15))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v8)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v8) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)) →
    ∃ (v0 : (c : Dev Cert.DwInIdeal.nD) → Buf (Elt Ideal) ((c.tc : Thread Cert.DwInIdeal.nD Cert.DwInIdeal.τ).loc Cert.DwInIdeal.main_v7)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v7) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)
      ∧ m' ((c.tc : Thread Cert.DwQkvRefIdeal.nD Cert.DwQkvRefIdeal.τ).loc Cert.DwQkvRefIdeal.main_arg5) = m ((c.tc : Thread Cert.DwQkvIdeal.nD Cert.DwQkvIdeal.τ).loc Cert.DwQkvIdeal.main_arg5)) →
    ∃ (v0 : (c : Dev Cert.DwQkvIdeal.nD) → Buf (Elt Ideal) ((c.tc : Thread Cert.DwQkvIdeal.nD Cert.DwQkvIdeal.τ).loc Cert.DwQkvIdeal.main_v8)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v8) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
          ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v8) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4)
          ∧ r.2.mem ((c.tc : Thread Cert.DwQkvRefIdeal.nD Cert.DwQkvRefIdeal.τ).loc Cert.DwQkvRefIdeal.main_arg5) = m' ((c.tc : Thread Cert.DwQkvRefIdeal.nD Cert.DwQkvRefIdeal.τ).loc Cert.DwQkvRefIdeal.main_arg5))

def preserves_Token_TokenIdeal : Prop :=
  IdealRules.named_const.Statement Cert.TokenIdeal.κ "c_a" .f32 0x3D122279#32 ((35677408136300126361 / 1000000000000000000000 : ℝ) : EReal)
  ∧ IdealRules.named_const.Statement Cert.TokenIdeal.κ "c" .f32 0x3F4C422A#32 ((3989422804014327 / 5000000000000000 : ℝ) : EReal)
  ∧ IdealRules.named_const.Statement Cert.TokenIdeal.κ "three_half_c_a" .f32 0x3D5B33B6#32 ((107032224408900379083 / 2000000000000000000000 : ℝ) : EReal)
  ∧ IdealRules.named_const.Statement Cert.TokenIdeal.κ "half_c" .f32 0x3ECC422A#32 ((3989422804014327 / 10000000000000000 : ℝ) : EReal)

def algebraic_TokenIdeal_TokenRefIdeal [hTokenIdeal : Cert.TokenIdeal.Facts] [hTokenRefIdeal : Cert.TokenRefIdeal.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenRefIdeal.nD Cert.TokenRefIdeal.τ Cert.TokenRefIdeal.sig) → Buf (Elt Ideal) ℓ) (g' : Dev Cert.TokenRefIdeal.nD → PrngReg), Pre_TokenIdeal m →
    (∀ c : Dev Cert.TokenIdeal.nD,
      m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0)
      ∧ m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1)
      ∧ m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2)
      ∧ m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3)
      ∧ m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4)
      ∧ m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5)
      ∧ m' ((c.tc : Thread Cert.TokenRefIdeal.nD Cert.TokenRefIdeal.τ).loc Cert.TokenRefIdeal.main_arg6) = m ((c.tc : Thread Cert.TokenIdeal.nD Cert.TokenIdeal.τ).loc Cert.TokenIdeal.main_arg6)
      ∧ m' ((c.tc : Thread Cert.TokenRefIdeal.nD Cert.TokenRefIdeal.τ).loc Cert.TokenRefIdeal.main_arg7) = m ((c.tc : Thread Cert.TokenIdeal.nD Cert.TokenIdeal.τ).loc Cert.TokenIdeal.main_arg7)
      ∧ m' ((c.tc : Thread Cert.TokenRefIdeal.nD Cert.TokenRefIdeal.τ).loc Cert.TokenRefIdeal.main_arg8) = m ((c.tc : Thread Cert.TokenIdeal.nD Cert.TokenIdeal.τ).loc Cert.TokenIdeal.main_arg8)
      ∧ m' ((c.tc : Thread Cert.TokenRefIdeal.nD Cert.TokenRefIdeal.τ).loc Cert.TokenRefIdeal.main_arg9) = m ((c.tc : Thread Cert.TokenIdeal.nD Cert.TokenIdeal.τ).loc Cert.TokenIdeal.main_arg9)
      ∧ m' ((c.tc : Thread Cert.TokenRefIdeal.nD Cert.TokenRefIdeal.τ).loc Cert.TokenRefIdeal.main_arg10) = m ((c.tc : Thread Cert.TokenIdeal.nD Cert.TokenIdeal.τ).loc Cert.TokenIdeal.main_arg10)
      ∧ m' ((c.tc : Thread Cert.TokenRefIdeal.nD Cert.TokenRefIdeal.τ).loc Cert.TokenRefIdeal.main_arg11) = m ((c.tc : Thread Cert.TokenIdeal.nD Cert.TokenIdeal.τ).loc Cert.TokenIdeal.main_arg11)
      ∧ m' ((c.tc : Thread Cert.TokenRefIdeal.nD Cert.TokenRefIdeal.τ).loc Cert.TokenRefIdeal.main_arg12) = m ((c.tc : Thread Cert.TokenIdeal.nD Cert.TokenIdeal.τ).loc Cert.TokenIdeal.main_arg12)
      ∧ m' ((c.tc : Thread Cert.TokenRefIdeal.nD Cert.TokenRefIdeal.τ).loc Cert.TokenRefIdeal.main_arg13) = m ((c.tc : Thread Cert.TokenIdeal.nD Cert.TokenIdeal.τ).loc Cert.TokenIdeal.main_arg13)
      ∧ m' ((c.tc : Thread Cert.TokenRefIdeal.nD Cert.TokenRefIdeal.τ).loc Cert.TokenRefIdeal.main_arg14) = m ((c.tc : Thread Cert.TokenIdeal.nD Cert.TokenIdeal.τ).loc Cert.TokenIdeal.main_arg14)
      ∧ m' ((c.tc : Thread Cert.TokenRefIdeal.nD Cert.TokenRefIdeal.τ).loc Cert.TokenRefIdeal.main_arg15) = m ((c.tc : Thread Cert.TokenIdeal.nD Cert.TokenIdeal.τ).loc Cert.TokenIdeal.main_arg15)) →
    ∃ (v0 : (c : Dev Cert.TokenIdeal.nD) → Buf (Elt Ideal) ((c.tc : Thread Cert.TokenIdeal.nD Cert.TokenIdeal.τ).loc Cert.TokenIdeal.main_v22)) (v1 : (c : Dev Cert.TokenIdeal.nD) → Buf (Elt Ideal) ((c.tc : Thread Cert.TokenIdeal.nD Cert.TokenIdeal.τ).loc Cert.TokenIdeal.main_v23)) (v2 : (c : Dev Cert.TokenIdeal.nD) → Buf (Elt Ideal) ((c.tc : Thread Cert.TokenIdeal.nD Cert.TokenIdeal.τ).loc Cert.TokenIdeal.main_v24)) (v3 : (c : Dev Cert.TokenIdeal.nD) → Buf (Elt Ideal) ((c.tc : Thread Cert.TokenIdeal.nD Cert.TokenIdeal.τ).loc Cert.TokenIdeal.main_v25)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          r.2.mem ((c.tc : Thread Cert.TokenIdeal.nD Cert.TokenIdeal.τ).loc Cert.TokenIdeal.main_v22) = v0 c
          ∧ r.2.mem ((c.tc : Thread Cert.TokenIdeal.nD Cert.TokenIdeal.τ).loc Cert.TokenIdeal.main_v23) = v1 c
          ∧ r.2.mem ((c.tc : Thread Cert.TokenIdeal.nD Cert.TokenIdeal.τ).loc Cert.TokenIdeal.main_v24) = v2 c
          ∧ r.2.mem ((c.tc : Thread Cert.TokenIdeal.nD Cert.TokenIdeal.τ).loc Cert.TokenIdeal.main_v25) = v3 c
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
          ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
          ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
          ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
          ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
          ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
          ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
          ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
          ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13)
          ∧ r.2.mem ((c.tc : Thread Cert.TokenIdeal.nD Cert.TokenIdeal.τ).loc Cert.TokenIdeal.main_arg14) = m ((c.tc : Thread Cert.TokenIdeal.nD Cert.TokenIdeal.τ).loc Cert.TokenIdeal.main_arg14)
          ∧ r.2.mem ((c.tc : Thread Cert.TokenIdeal.nD Cert.TokenIdeal.τ).loc Cert.TokenIdeal.main_arg15) = m ((c.tc : Thread Cert.TokenIdeal.nD Cert.TokenIdeal.τ).loc Cert.TokenIdeal.main_arg15))
      ∧ θ_run (Cert.TokenRefIdeal.defs (F := Ideal)) (onTc (τ := Cert.TokenRefIdeal.τ) (Cert.TokenRefIdeal.main (F := Ideal))) ⟨m', fun _ => 0, g'⟩ (fun r => ∀ c : Dev Cert.TokenRefIdeal.nD,
          r.2.mem ((c.tc : Thread Cert.TokenRefIdeal.nD Cert.TokenRefIdeal.τ).loc Cert.TokenRefIdeal.main_v15) = v0 c
          ∧ r.2.mem ((c.tc : Thread Cert.TokenRefIdeal.nD Cert.TokenRefIdeal.τ).loc Cert.TokenRefIdeal.main_v16) = v1 c
          ∧ r.2.mem ((c.tc : Thread Cert.TokenRefIdeal.nD Cert.TokenRefIdeal.τ).loc Cert.TokenRefIdeal.main_v17) = v2 c
          ∧ r.2.mem ((c.tc : Thread Cert.TokenRefIdeal.nD Cert.TokenRefIdeal.τ).loc Cert.TokenRefIdeal.main_v18) = v3 c
          ∧ r.2.mem ((c.tc : Thread Cert.TokenRefIdeal.nD Cert.TokenRefIdeal.τ).loc Cert.TokenRefIdeal.main_arg0) = m' ((c.tc : Thread Cert.TokenRefIdeal.nD Cert.TokenRefIdeal.τ).loc Cert.TokenRefIdeal.main_arg0)
          ∧ r.2.mem ((c.tc : Thread Cert.TokenRefIdeal.nD Cert.TokenRefIdeal.τ).loc Cert.TokenRefIdeal.main_arg1) = m' ((c.tc : Thread Cert.TokenRefIdeal.nD Cert.TokenRefIdeal.τ).loc Cert.TokenRefIdeal.main_arg1)
          ∧ r.2.mem ((c.tc : Thread Cert.TokenRefIdeal.nD Cert.TokenRefIdeal.τ).loc Cert.TokenRefIdeal.main_arg2) = m' ((c.tc : Thread Cert.TokenRefIdeal.nD Cert.TokenRefIdeal.τ).loc Cert.TokenRefIdeal.main_arg2)
          ∧ r.2.mem ((c.tc : Thread Cert.TokenRefIdeal.nD Cert.TokenRefIdeal.τ).loc Cert.TokenRefIdeal.main_arg3) = m' ((c.tc : Thread Cert.TokenRefIdeal.nD Cert.TokenRefIdeal.τ).loc Cert.TokenRefIdeal.main_arg3)
          ∧ r.2.mem ((c.tc : Thread Cert.TokenRefIdeal.nD Cert.TokenRefIdeal.τ).loc Cert.TokenRefIdeal.main_arg4) = m' ((c.tc : Thread Cert.TokenRefIdeal.nD Cert.TokenRefIdeal.τ).loc Cert.TokenRefIdeal.main_arg4)
          ∧ r.2.mem ((c.tc : Thread Cert.TokenRefIdeal.nD Cert.TokenRefIdeal.τ).loc Cert.TokenRefIdeal.main_arg5) = m' ((c.tc : Thread Cert.TokenRefIdeal.nD Cert.TokenRefIdeal.τ).loc Cert.TokenRefIdeal.main_arg5)
          ∧ r.2.mem ((c.tc : Thread Cert.TokenRefIdeal.nD Cert.TokenRefIdeal.τ).loc Cert.TokenRefIdeal.main_arg6) = m' ((c.tc : Thread Cert.TokenRefIdeal.nD Cert.TokenRefIdeal.τ).loc Cert.TokenRefIdeal.main_arg6)
          ∧ r.2.mem ((c.tc : Thread Cert.TokenRefIdeal.nD Cert.TokenRefIdeal.τ).loc Cert.TokenRefIdeal.main_arg7) = m' ((c.tc : Thread Cert.TokenRefIdeal.nD Cert.TokenRefIdeal.τ).loc Cert.TokenRefIdeal.main_arg7)
          ∧ r.2.mem ((c.tc : Thread Cert.TokenRefIdeal.nD Cert.TokenRefIdeal.τ).loc Cert.TokenRefIdeal.main_arg8) = m' ((c.tc : Thread Cert.TokenRefIdeal.nD Cert.TokenRefIdeal.τ).loc Cert.TokenRefIdeal.main_arg8)
          ∧ r.2.mem ((c.tc : Thread Cert.TokenRefIdeal.nD Cert.TokenRefIdeal.τ).loc Cert.TokenRefIdeal.main_arg9) = m' ((c.tc : Thread Cert.TokenRefIdeal.nD Cert.TokenRefIdeal.τ).loc Cert.TokenRefIdeal.main_arg9)
          ∧ r.2.mem ((c.tc : Thread Cert.TokenRefIdeal.nD Cert.TokenRefIdeal.τ).loc Cert.TokenRefIdeal.main_arg10) = m' ((c.tc : Thread Cert.TokenRefIdeal.nD Cert.TokenRefIdeal.τ).loc Cert.TokenRefIdeal.main_arg10)
          ∧ r.2.mem ((c.tc : Thread Cert.TokenRefIdeal.nD Cert.TokenRefIdeal.τ).loc Cert.TokenRefIdeal.main_arg11) = m' ((c.tc : Thread Cert.TokenRefIdeal.nD Cert.TokenRefIdeal.τ).loc Cert.TokenRefIdeal.main_arg11)
          ∧ r.2.mem ((c.tc : Thread Cert.TokenRefIdeal.nD Cert.TokenRefIdeal.τ).loc Cert.TokenRefIdeal.main_arg12) = m' ((c.tc : Thread Cert.TokenRefIdeal.nD Cert.TokenRefIdeal.τ).loc Cert.TokenRefIdeal.main_arg12)
          ∧ r.2.mem ((c.tc : Thread Cert.TokenRefIdeal.nD Cert.TokenRefIdeal.τ).loc Cert.TokenRefIdeal.main_arg13) = m' ((c.tc : Thread Cert.TokenRefIdeal.nD Cert.TokenRefIdeal.τ).loc Cert.TokenRefIdeal.main_arg13)
          ∧ r.2.mem ((c.tc : Thread Cert.TokenRefIdeal.nD Cert.TokenRefIdeal.τ).loc Cert.TokenRefIdeal.main_arg14) = m' ((c.tc : Thread Cert.TokenRefIdeal.nD Cert.TokenRefIdeal.τ).loc Cert.TokenRefIdeal.main_arg14)
          ∧ r.2.mem ((c.tc : Thread Cert.TokenRefIdeal.nD Cert.TokenRefIdeal.τ).loc Cert.TokenRefIdeal.main_arg15) = m' ((c.tc : Thread Cert.TokenRefIdeal.nD Cert.TokenRefIdeal.τ).loc Cert.TokenRefIdeal.main_arg15))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hToken : Cert.Token.Facts) (hTokenIdeal : Cert.TokenIdeal.Facts) (hTokenRefIdeal : Cert.TokenRefIdeal.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Token (hToken := hToken)
    ∧ quiescent_TokenIdeal (hTokenIdeal := hTokenIdeal)
    ∧ quiescent_TokenRefIdeal (hTokenRefIdeal := hTokenRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Token_TokenIdeal
    ∧ algebraic_TokenIdeal_TokenRefIdeal (hTokenIdeal := hTokenIdeal) (hTokenRefIdeal := hTokenRefIdeal)
-- ==== DwOut.lean ====
abbrev S6x4096x5632 : Shape := ⟨3, ![6, 4096, 5632]⟩
abbrev S6x4096 : Shape := ⟨2, ![6, 4096]⟩
abbrev S6x4096x2048 : Shape := ⟨3, ![6, 4096, 2048]⟩
abbrev S24576x2048 : Shape := ⟨2, ![24576, 2048]⟩
abbrev S24576x5632 : Shape := ⟨2, ![24576, 5632]⟩
abbrev S24576 : Shape := ⟨1, ![24576]⟩
abbrev S_ : Shape := ⟨0, ![]⟩
abbrev S5632 : Shape := ⟨1, ![5632]⟩
abbrev S24x1x1024 : Shape := ⟨3, ![24, 1, 1024]⟩
abbrev S4x1x1408 : Shape := ⟨3, ![4, 1, 1408]⟩
abbrev S5632x2048 : Shape := ⟨2, ![5632, 2048]⟩
abbrev S1024x1408 : Shape := ⟨2, ![1024, 1408]⟩
abbrev S1x1x1024 : Shape := ⟨3, ![1, 1, 1024]⟩
abbrev S1024x2048 : Shape := ⟨2, ![1024, 2048]⟩
abbrev S1x1x1408 : Shape := ⟨3, ![1, 1, 1408]⟩
abbrev S1408x2048 : Shape := ⟨2, ![1408, 2048]⟩
abbrev S1024 : Shape := ⟨1, ![1024]⟩
abbrev S1024x1 : Shape := ⟨2, ![1024, 1]⟩
abbrev S1408 : Shape := ⟨1, ![1408]⟩
abbrev S1408x1 : Shape := ⟨2, ![1408, 1]⟩

abbrev nBuf : Space → Nat
  | .hbm => 14
  | .vmem => 11
  | .smem => 0
  | _ => 0

abbrev bufTy : (tb : Table) → Fin (tcTables nBuf tb) → BufTy
  | .hbm, ⟨0, _⟩ => ⟨S6x4096x5632, .fp8e4m3⟩
  | .hbm, ⟨1, _⟩ => ⟨S6x4096, .f32⟩
  | .hbm, ⟨2, _⟩ => ⟨S6x4096x2048, .fp8e5m2⟩
  | .hbm, ⟨3, _⟩ => ⟨S6x4096, .f32⟩
  | .hbm, ⟨4, _⟩ => ⟨S24576x2048, .fp8e5m2⟩
  | .hbm, ⟨5, _⟩ => ⟨S24576x5632, .fp8e4m3⟩
  | .hbm, ⟨6, _⟩ => ⟨S24576, .f32⟩
  | .hbm, ⟨7, _⟩ => ⟨S24576, .f32⟩
  | .hbm, ⟨8, _⟩ => ⟨S_, .f32⟩
  | .hbm, ⟨9, _⟩ => ⟨S5632, .f32⟩
  | .hbm, ⟨10, _⟩ => ⟨S24576, .f32⟩
  | .hbm, ⟨11, _⟩ => ⟨S24x1x1024, .f32⟩
  | .hbm, ⟨12, _⟩ => ⟨S4x1x1408, .f32⟩
  | .hbm, ⟨13, _⟩ => ⟨S5632x2048, .bf16⟩
  | .local _ .vmem, ⟨0, _⟩ => ⟨S1024x1408, .fp8e4m3⟩
  | .local _ .vmem, ⟨1, _⟩ => ⟨S1024x1408, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S1024x2048, .fp8e5m2⟩
  | .local _ .vmem, ⟨5, _⟩ => ⟨S1024x2048, .fp8e5m2⟩
  | .local _ .vmem, ⟨6, _⟩ => ⟨S1x1x1408, .f32⟩
  | .local _ .vmem, ⟨7, _⟩ => ⟨S1x1x1408, .f32⟩
  | .local _ .vmem, ⟨8, _⟩ => ⟨S1408x2048, .bf16⟩
  | .local _ .vmem, ⟨9, _⟩ => ⟨S1408x2048, .bf16⟩
  | .local _ .vmem, ⟨10, _⟩ => ⟨S1408x2048, .f32⟩
  | _, _ => ⟨S6x4096x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 24], ![false, false, false]⟩

def k0_cond2 (i : grid0.Coords) : BitVec 1 :=
  let arg2 : BitVec 32 := BitVec.ofNat 32 (i 2).val
  let c23_i32 : BitVec 32 := 23#32
  let v20 : BitVec 1 := Scalar.cmpi .eq arg2 c23_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwOutRefIdeal.lean ====
abbrev S6x4096x5632 : Shape := ⟨3, ![6, 4096, 5632]⟩
abbrev S6x4096 : Shape := ⟨2, ![6, 4096]⟩
abbrev S6x4096x2048 : Shape := ⟨3, ![6, 4096, 2048]⟩
abbrev S24576x5632 : Shape := ⟨2, ![24576, 5632]⟩
abbrev S6x4096x1 : Shape := ⟨3, ![6, 4096, 1]⟩
abbrev S24576x1 : Shape := ⟨2, ![24576, 1]⟩
abbrev S24576x2048 : Shape := ⟨2, ![24576, 2048]⟩
abbrev S5632x2048 : Shape := ⟨2, ![5632, 2048]⟩

abbrev nBuf : Space → Nat
  | .hbm => 11
  | .vmem => 5
  | .smem => 0
  | _ => 0

abbrev bufTy : (tb : Table) → Fin (tcTables nBuf tb) → BufTy
  | .hbm, ⟨0, _⟩ => ⟨S6x4096x5632, .fp8e4m3⟩
  | .hbm, ⟨1, _⟩ => ⟨S6x4096, .f32⟩
  | .hbm, ⟨2, _⟩ => ⟨S6x4096x2048, .fp8e5m2⟩
  | .hbm, ⟨3, _⟩ => ⟨S6x4096, .f32⟩
  | .hbm, ⟨4, _⟩ => ⟨S24576x5632, .fp8e4m3⟩
  | .hbm, ⟨5, _⟩ => ⟨S6x4096x1, .f32⟩
  | .hbm, ⟨6, _⟩ => ⟨S24576x1, .f32⟩
  | .hbm, ⟨7, _⟩ => ⟨S24576x2048, .fp8e5m2⟩
  | .hbm, ⟨8, _⟩ => ⟨S6x4096x1, .f32⟩
  | .hbm, ⟨9, _⟩ => ⟨S24576x1, .f32⟩
  | .hbm, ⟨10, _⟩ => ⟨S5632x2048, .bf16⟩
  | .local _ .vmem, ⟨0, _⟩ => ⟨S24576x5632, .fp8e4m3⟩
  | .local _ .vmem, ⟨1, _⟩ => ⟨S24576x1, .f32⟩
  | .local _ .vmem, ⟨2, _⟩ => ⟨S24576x2048, .fp8e5m2⟩
  | .local _ .vmem, ⟨3, _⟩ => ⟨S24576x1, .f32⟩
  | .local _ .vmem, ⟨4, _⟩ => ⟨S5632x2048, .bf16⟩
  | _, _ => ⟨S6x4096x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x5632 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwIn.lean ====
abbrev S6x4096x2048 : Shape := ⟨3, ![6, 4096, 2048]⟩
abbrev S6x4096 : Shape := ⟨2, ![6, 4096]⟩
abbrev S6x4096x5632 : Shape := ⟨3, ![6, 4096, 5632]⟩
abbrev S2048 : Shape := ⟨1, ![2048]⟩
abbrev S24576x2048 : Shape := ⟨2, ![24576, 2048]⟩
abbrev S24576x5632 : Shape := ⟨2, ![24576, 5632]⟩
abbrev S24576 : Shape := ⟨1, ![24576]⟩
abbrev S24x1x1024 : Shape := ⟨3, ![24, 1, 1024]⟩
abbrev S2x1x1024 : Shape := ⟨3, ![2, 1, 1024]⟩
abbrev S2048x5632 : Shape := ⟨2, ![2048, 5632]⟩
abbrev S1024x1024 : Shape := ⟨2, ![1024, 1024]⟩
abbrev S1x1x1024 : Shape := ⟨3, ![1, 1, 1024]⟩
abbrev S1024x2816 : Shape := ⟨2, ![1024, 2816]⟩
abbrev S1024 : Shape := ⟨1, ![1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x4096x5632, .fp8e5m2⟩
  | .hbm, ⟨3, _⟩ => ⟨S6x4096, .f32⟩
  | .hbm, ⟨4, _⟩ => ⟨S2048, .f32⟩
  | .hbm, ⟨5, _⟩ => ⟨S24576x2048, .fp8e4m3⟩
  | .hbm, ⟨6, _⟩ => ⟨S24576x5632, .fp8e5m2⟩
  | .hbm, ⟨7, _⟩ => ⟨S24576, .f32⟩
  | .hbm, ⟨8, _⟩ => ⟨S24576, .f32⟩
  | .hbm, ⟨9, _⟩ => ⟨S24576, .f32⟩
  | .hbm, ⟨10, _⟩ => ⟨S24x1x1024, .f32⟩
  | .hbm, ⟨11, _⟩ => ⟨S2x1x1024, .f32⟩
  | .hbm, ⟨12, _⟩ => ⟨S2048x5632, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S1024x2816, .fp8e5m2⟩
  | .local _ .vmem, ⟨5, _⟩ => ⟨S1024x2816, .fp8e5m2⟩
  | .local _ .vmem, ⟨6, _⟩ => ⟨S1x1x1024, .f32⟩
  | .local _ .vmem, ⟨7, _⟩ => ⟨S1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S1024x2816, .f32⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 24], ![false, false, false]⟩

def k0_cond2 (i : grid0.Coords) : BitVec 1 :=
  let arg2 : BitVec 32 := BitVec.ofNat 32 (i 2).val
  let c23_i32 : BitVec 32 := 23#32
  let v20 : BitVec 1 := Scalar.cmpi .eq arg2 c23_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2816 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwInRefIdeal.lean ====
abbrev S6x4096x2048 : Shape := ⟨3, ![6, 4096, 2048]⟩
abbrev S6x4096 : Shape := ⟨2, ![6, 4096]⟩
abbrev S6x4096x5632 : Shape := ⟨3, ![6, 4096, 5632]⟩
abbrev S2048 : Shape := ⟨1, ![2048]⟩
abbrev S24576x2048 : Shape := ⟨2, ![24576, 2048]⟩
abbrev S6x4096x1 : Shape := ⟨3, ![6, 4096, 1]⟩
abbrev S24576x1 : Shape := ⟨2, ![24576, 1]⟩
abbrev S24576x5632 : Shape := ⟨2, ![24576, 5632]⟩
abbrev S2048x1 : Shape := ⟨2, ![2048, 1]⟩
abbrev S2048x5632 : Shape := ⟨2, ![2048, 5632]⟩

abbrev nBuf : Space → Nat
  | .hbm => 13
  | .vmem => 6
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x4096x5632, .fp8e5m2⟩
  | .hbm, ⟨3, _⟩ => ⟨S6x4096, .f32⟩
  | .hbm, ⟨4, _⟩ => ⟨S2048, .f32⟩
  | .hbm, ⟨5, _⟩ => ⟨S24576x2048, .fp8e4m3⟩
  | .hbm, ⟨6, _⟩ => ⟨S6x4096x1, .f32⟩
  | .hbm, ⟨7, _⟩ => ⟨S24576x1, .f32⟩
  | .hbm, ⟨8, _⟩ => ⟨S24576x5632, .fp8e5m2⟩
  | .hbm, ⟨9, _⟩ => ⟨S6x4096x1, .f32⟩
  | .hbm, ⟨10, _⟩ => ⟨S24576x1, .f32⟩
  | .hbm, ⟨11, _⟩ => ⟨S2048x1, .f32⟩
  | .hbm, ⟨12, _⟩ => ⟨S2048x5632, .bf16⟩
  | .local _ .vmem, ⟨0, _⟩ => ⟨S24576x2048, .fp8e4m3⟩
  | .local _ .vmem, ⟨1, _⟩ => ⟨S24576x1, .f32⟩
  | .local _ .vmem, ⟨2, _⟩ => ⟨S24576x5632, .fp8e5m2⟩
  | .local _ .vmem, ⟨3, _⟩ => ⟨S24576x1, .f32⟩
  | .local _ .vmem, ⟨4, _⟩ => ⟨S2048x1, .f32⟩
  | .local _ .vmem, ⟨5, _⟩ => ⟨S2048x5632, .bf16⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x5632 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwQkv.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S2048x3x32x64 : Shape := ⟨4, ![2048, 3, 32, 64]⟩
abbrev S24576x2048 : Shape := ⟨2, ![24576, 2048]⟩
abbrev S24576x6144 : Shape := ⟨2, ![24576, 6144]⟩
abbrev S24576 : Shape := ⟨1, ![24576]⟩
abbrev S24x1x1024 : Shape := ⟨3, ![24, 1, 1024]⟩
abbrev S2x1x1024 : Shape := ⟨3, ![2, 1, 1024]⟩
abbrev S2048x6144 : Shape := ⟨2, ![2048, 6144]⟩
abbrev S1024x1024 : Shape := ⟨2, ![1024, 1024]⟩
abbrev S1x1x1024 : Shape := ⟨3, ![1, 1, 1024]⟩
abbrev S1024x3072 : Shape := ⟨2, ![1024, 3072]⟩
abbrev S1024 : Shape := ⟨1, ![1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S2048, .f32⟩
  | .hbm, ⟨5, _⟩ => ⟨S2048x3x32x64, .fp8e4m3⟩
  | .hbm, ⟨6, _⟩ => ⟨S24576x2048, .fp8e4m3⟩
  | .hbm, ⟨7, _⟩ => ⟨S24576x6144, .fp8e5m2⟩
  | .hbm, ⟨8, _⟩ => ⟨S24576, .f32⟩
  | .hbm, ⟨9, _⟩ => ⟨S24576, .f32⟩
  | .hbm, ⟨10, _⟩ => ⟨S24576, .f32⟩
  | .hbm, ⟨11, _⟩ => ⟨S24x1x1024, .f32⟩
  | .hbm, ⟨12, _⟩ => ⟨S2x1x1024, .f32⟩
  | .hbm, ⟨13, _⟩ => ⟨S2048x6144, .bf16⟩
  | .hbm, ⟨14, _⟩ => ⟨S2048x3x32x64, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S1024x3072, .fp8e5m2⟩
  | .local _ .vmem, ⟨5, _⟩ => ⟨S1024x3072, .fp8e5m2⟩
  | .local _ .vmem, ⟨6, _⟩ => ⟨S1x1x1024, .f32⟩
  | .local _ .vmem, ⟨7, _⟩ => ⟨S1x1x1024, .f32⟩
  | .local _ .vmem, ⟨8, _⟩ => ⟨S1024x3072, .bf16⟩
  | .local _ .vmem, ⟨9, _⟩ => ⟨S1024x3072, .bf16⟩
  | .local _ .vmem, ⟨10, _⟩ => ⟨S1024x3072, .f32⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 24], ![false, false, false]⟩

def k0_cond2 (i : grid0.Coords) : BitVec 1 :=
  let arg2 : BitVec 32 := BitVec.ofNat 32 (i 2).val
  let c23_i32 : BitVec 32 := 23#32
  let v20 : BitVec 1 := Scalar.cmpi .eq arg2 c23_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x3072 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwQkvRefIdeal.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S2048x3x32x64 : Shape := ⟨4, ![2048, 3, 32, 64]⟩
abbrev S24576x2048 : Shape := ⟨2, ![24576, 2048]⟩
abbrev S6x4096x1 : Shape := ⟨3, ![6, 4096, 1]⟩
abbrev S24576x1 : Shape := ⟨2, ![24576, 1]⟩
abbrev S24576x6144 : Shape := ⟨2, ![24576, 6144]⟩
abbrev S2048x1 : Shape := ⟨2, ![2048, 1]⟩
abbrev S2048x6144 : Shape := ⟨2, ![2048, 6144]⟩

abbrev nBuf : Space → Nat
  | .hbm => 15
  | .vmem => 6
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S2048, .f32⟩
  | .hbm, ⟨5, _⟩ => ⟨S2048x3x32x64, .fp8e4m3⟩
  | .hbm, ⟨6, _⟩ => ⟨S24576x2048, .fp8e4m3⟩
  | .hbm, ⟨7, _⟩ => ⟨S6x4096x1, .f32⟩
  | .hbm, ⟨8, _⟩ => ⟨S24576x1, .f32⟩
  | .hbm, ⟨9, _⟩ => ⟨S24576x6144, .fp8e5m2⟩
  | .hbm, ⟨10, _⟩ => ⟨S6x4096x1, .f32⟩
  | .hbm, ⟨11, _⟩ => ⟨S24576x1, .f32⟩
  | .hbm, ⟨12, _⟩ => ⟨S2048x1, .f32⟩
  | .hbm, ⟨13, _⟩ => ⟨S2048x6144, .bf16⟩
  | .hbm, ⟨14, _⟩ => ⟨S2048x3x32x64, .bf16⟩
  | .local _ .vmem, ⟨0, _⟩ => ⟨S24576x2048, .fp8e4m3⟩
  | .local _ .vmem, ⟨1, _⟩ => ⟨S24576x1, .f32⟩
  | .local _ .vmem, ⟨2, _⟩ => ⟨S24576x6144, .fp8e5m2⟩
  | .local _ .vmem, ⟨3, _⟩ => ⟨S24576x1, .f32⟩
  | .local _ .vmem, ⟨4, _⟩ => ⟨S2048x1, .f32⟩
  | .local _ .vmem, ⟨5, _⟩ => ⟨S2048x6144, .bf16⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Token.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S6x4096x5632 : Shape := ⟨3, ![6, 4096, 5632]⟩
abbrev S2048x5632 : Shape := ⟨2, ![2048, 5632]⟩
abbrev S5632 : Shape := ⟨1, ![5632]⟩
abbrev S5632x2048 : Shape := ⟨2, ![5632, 2048]⟩
abbrev S2048x3x32x64 : Shape := ⟨4, ![2048, 3, 32, 64]⟩
abbrev S3x32x64 : Shape := ⟨3, ![3, 32, 64]⟩
abbrev S24576x2048 : Shape := ⟨2, ![24576, 2048]⟩
abbrev S24576x6144 : Shape := ⟨2, ![24576, 6144]⟩
abbrev S24576x5632 : Shape := ⟨2, ![24576, 5632]⟩
abbrev S24576 : Shape := ⟨1, ![24576]⟩
abbrev S2048x6144 : Shape := ⟨2, ![2048, 6144]⟩
abbrev S6144 : Shape := ⟨1, ![6144]⟩
abbrev S96x1x256 : Shape := ⟨3, ![96, 1, 256]⟩
abbrev S1x2048 : Shape := ⟨2, ![1, 2048]⟩
abbrev S1x5632 : Shape := ⟨2, ![1, 5632]⟩
abbrev S1x6144 : Shape := ⟨2, ![1, 6144]⟩
abbrev S8x2048 : Shape := ⟨2, ![8, 2048]⟩
abbrev S256x2048 : Shape := ⟨2, ![256, 2048]⟩
abbrev S1x1x256 : Shape := ⟨3, ![1, 1, 256]⟩
abbrev S256x6144 : Shape := ⟨2, ![256, 6144]⟩
abbrev S256x5632 : Shape := ⟨2, ![256, 5632]⟩
abbrev S256 : Shape := ⟨1, ![256]⟩
abbrev S256x1 : Shape := ⟨2, ![256, 1]⟩
abbrev S256x128 : Shape := ⟨2, ![256, 128]⟩
abbrev S512x2048 : Shape := ⟨2, ![512, 2048]⟩
abbrev S256x512 : Shape := ⟨2, ![256, 512]⟩
abbrev S1x252 : Shape := ⟨2, ![1, 252]⟩
abbrev S256x252 : Shape := ⟨2, ![256, 252]⟩
abbrev S32x8x2048 : Shape := ⟨3, ![32, 8, 2048]⟩
abbrev S_ : Shape := ⟨0, ![]⟩

abbrev nBuf : Space → Nat
  | .hbm => 46
  | .vmem => 33
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096, .f32⟩
  | .hbm, ⟨7, _⟩ => ⟨S2048, .f32⟩
  | .hbm, ⟨8, _⟩ => ⟨S6x4096x5632, .fp8e4m3⟩
  | .hbm, ⟨9, _⟩ => ⟨S6x4096, .f32⟩
  | .hbm, ⟨10, _⟩ => ⟨S2048x5632, .fp8e4m3⟩
  | .hbm, ⟨11, _⟩ => ⟨S5632, .f32⟩
  | .hbm, ⟨12, _⟩ => ⟨S5632x2048, .fp8e4m3⟩
  | .hbm, ⟨13, _⟩ => ⟨S2048, .f32⟩
  | .hbm, ⟨14, _⟩ => ⟨S2048x3x32x64, .fp8e4m3⟩
  | .hbm, ⟨15, _⟩ => ⟨S3x32x64, .f32⟩
  | .hbm, ⟨16, _⟩ => ⟨S24576x2048, .fp8e5m2⟩
  | .hbm, ⟨17, _⟩ => ⟨S24576x6144, .fp8e5m2⟩
  | .hbm, ⟨18, _⟩ => ⟨S24576x2048, .fp8e4m3⟩
  | .hbm, ⟨19, _⟩ => ⟨S24576x5632, .fp8e4m3⟩
  | .hbm, ⟨20, _⟩ => ⟨S24576, .f32⟩
  | .hbm, ⟨21, _⟩ => ⟨S24576, .f32⟩
  | .hbm, ⟨22, _⟩ => ⟨S24576, .f32⟩
  | .hbm, ⟨23, _⟩ => ⟨S24576, .f32⟩
  | .hbm, ⟨24, _⟩ => ⟨S24576, .f32⟩
  | .hbm, ⟨25, _⟩ => ⟨S2048x6144, .fp8e4m3⟩
  | .hbm, ⟨26, _⟩ => ⟨S6144, .f32⟩
  | .hbm, ⟨27, _⟩ => ⟨S96x1x256, .f32⟩
  | .hbm, ⟨28, _⟩ => ⟨S96x1x256, .f32⟩
  | .hbm, ⟨29, _⟩ => ⟨S96x1x256, .f32⟩
  | .hbm, ⟨30, _⟩ => ⟨S96x1x256, .f32⟩
  | .hbm, ⟨31, _⟩ => ⟨S1x2048, .f32⟩
  | .hbm, ⟨32, _⟩ => ⟨S96x1x256, .f32⟩
  | .hbm, ⟨33, _⟩ => ⟨S1x5632, .f32⟩
  | .hbm, ⟨34, _⟩ => ⟨S1x2048, .f32⟩
  | .hbm, ⟨35, _⟩ => ⟨S1x6144, .f32⟩
  | .hbm, ⟨36, _⟩ => ⟨S24576x2048, .bf16⟩
  | .hbm, ⟨37, _⟩ => ⟨S24576x5632, .fp8e5m2⟩
  | .hbm, ⟨38, _⟩ => ⟨S96x1x256, .f32⟩
  | .hbm, ⟨39, _⟩ => ⟨S8x2048, .f32⟩
  | .hbm, ⟨40, _⟩ => ⟨S24576, .f32⟩
  | .hbm, ⟨41, _⟩ => ⟨S6x4096x2048, .bf16⟩
  | .hbm, ⟨42, _⟩ => ⟨S_, .f32⟩
  | .hbm, ⟨43, _⟩ => ⟨S2048, .f32⟩
  | .hbm, ⟨44, _⟩ => ⟨S6x4096x5632, .fp8e5m2⟩
  | .hbm, ⟨45, _⟩ => ⟨S6x4096, .f32⟩
  | .local _ .vmem, ⟨0, _⟩ => ⟨S256x2048, .fp8e5m2⟩
  | .local _ .vmem, ⟨1, _⟩ => ⟨S256x2048, .fp8e5m2⟩
  | .local _ .vmem, ⟨2, _⟩ => ⟨S1x1x256, .f32⟩
  | .local _ .vmem, ⟨3, _⟩ => ⟨S1x1x256, .f32⟩
  | .local _ .vmem, ⟨4, _⟩ => ⟨S256x6144, .fp8e5m2⟩
  | .local _ .vmem, ⟨5, _⟩ => ⟨S256x6144, .fp8e5m2⟩
  | .local _ .vmem, ⟨6, _⟩ => ⟨S1x1x256, .f32⟩
  | .local _ .vmem, ⟨7, _⟩ => ⟨S1x1x256, .f32⟩
  | .local _ .vmem, ⟨8, _⟩ => ⟨S256x2048, .fp8e4m3⟩
  | .local _ .vmem, ⟨9, _⟩ => ⟨S256x2048, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x2048, .f32⟩
  | .local _ .vmem, ⟨15, _⟩ => ⟨S256x5632, .fp8e4m3⟩
  | .local _ .vmem, ⟨16, _⟩ => ⟨S256x5632, .fp8e4m3⟩
  | .local _ .vmem, ⟨17, _⟩ => ⟨S1x1x256, .f32⟩
  | .local _ .vmem, ⟨18, _⟩ => ⟨S1x1x256, .f32⟩
  | .local _ .vmem, ⟨19, _⟩ => ⟨S2048x5632, .fp8e4m3⟩
  | .local _ .vmem, ⟨20, _⟩ => ⟨S1x5632, .f32⟩
  | .local _ .vmem, ⟨21, _⟩ => ⟨S5632x2048, .fp8e4m3⟩
  | .local _ .vmem, ⟨22, _⟩ => ⟨S1x2048, .f32⟩
  | .local _ .vmem, ⟨23, _⟩ => ⟨S2048x6144, .fp8e4m3⟩
  | .local _ .vmem, ⟨24, _⟩ => ⟨S1x6144, .f32⟩
  | .local _ .vmem, ⟨25, _⟩ => ⟨S256x2048, .bf16⟩
  | .local _ .vmem, ⟨26, _⟩ => ⟨S256x2048, .bf16⟩
  | .local _ .vmem, ⟨27, _⟩ => ⟨S256x5632, .fp8e5m2⟩
  | .local _ .vmem, ⟨28, _⟩ => ⟨S256x5632, .fp8e5m2⟩
  | .local _ .vmem, ⟨29, _⟩ => ⟨S1x1x256, .f32⟩
  | .local _ .vmem, ⟨30, _⟩ => ⟨S1x1x256, .f32⟩
  | .local _ .vmem, ⟨31, _⟩ => ⟨S8x2048, .f32⟩
  | .local _ .vmem, ⟨32, _⟩ => ⟨S256x5632, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x5632 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5632x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x6144 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x5632 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== TokenIdeal.lean ====
variable {F : FTy → Type} [FloatOps F] [Named F]
def κ : String → Option EReal := fun
  | "c" => some ((3989422804014327 / 5000000000000000 : ℝ) : EReal)
  | "c_a" => some ((35677408136300126361 / 1000000000000000000000 : ℝ) : EReal)
  | "half_c" => some ((3989422804014327 / 10000000000000000 : ℝ) : EReal)
  | "three_half_c_a" => some ((107032224408900379083 / 2000000000000000000000 : ℝ) : EReal)
  | _ => none
-- ==== TokenRefIdeal.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S6x4096x5632 : Shape := ⟨3, ![6, 4096, 5632]⟩
abbrev S2048x5632 : Shape := ⟨2, ![2048, 5632]⟩
abbrev S5632 : Shape := ⟨1, ![5632]⟩
abbrev S5632x2048 : Shape := ⟨2, ![5632, 2048]⟩
abbrev S2048x3x32x64 : Shape := ⟨4, ![2048, 3, 32, 64]⟩
abbrev S3x32x64 : Shape := ⟨3, ![3, 32, 64]⟩
abbrev S24576x2048 : Shape := ⟨2, ![24576, 2048]⟩
abbrev S24576x1 : Shape := ⟨2, ![24576, 1]⟩
abbrev S24576x6144 : Shape := ⟨2, ![24576, 6144]⟩
abbrev S1x2048 : Shape := ⟨2, ![1, 2048]⟩
abbrev S24576x5632 : Shape := ⟨2, ![24576, 5632]⟩
abbrev S1x5632 : Shape := ⟨2, ![1, 5632]⟩
abbrev S2048x6144 : Shape := ⟨2, ![2048, 6144]⟩
abbrev S1x6144 : Shape := ⟨2, ![1, 6144]⟩
abbrev S24576 : Shape := ⟨1, ![24576]⟩
abbrev S1x252 : Shape := ⟨2, ![1, 252]⟩
abbrev S24576x252 : Shape := ⟨2, ![24576, 252]⟩

abbrev nBuf : Space → Nat
  | .hbm => 38
  | .vmem => 20
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096, .f32⟩
  | .hbm, ⟨7, _⟩ => ⟨S2048, .f32⟩
  | .hbm, ⟨8, _⟩ => ⟨S6x4096x5632, .fp8e4m3⟩
  | .hbm, ⟨9, _⟩ => ⟨S6x4096, .f32⟩
  | .hbm, ⟨10, _⟩ => ⟨S2048x5632, .fp8e4m3⟩
  | .hbm, ⟨11, _⟩ => ⟨S5632, .f32⟩
  | .hbm, ⟨12, _⟩ => ⟨S5632x2048, .fp8e4m3⟩
  | .hbm, ⟨13, _⟩ => ⟨S2048, .f32⟩
  | .hbm, ⟨14, _⟩ => ⟨S2048x3x32x64, .fp8e4m3⟩
  | .hbm, ⟨15, _⟩ => ⟨S3x32x64, .f32⟩
  | .hbm, ⟨16, _⟩ => ⟨S24576x2048, .fp8e5m2⟩
  | .hbm, ⟨17, _⟩ => ⟨S24576x1, .f32⟩
  | .hbm, ⟨18, _⟩ => ⟨S24576x6144, .fp8e5m2⟩
  | .hbm, ⟨19, _⟩ => ⟨S24576x1, .f32⟩
  | .hbm, ⟨20, _⟩ => ⟨S24576x2048, .fp8e4m3⟩
  | .hbm, ⟨21, _⟩ => ⟨S24576x1, .f32⟩
  | .hbm, ⟨22, _⟩ => ⟨S24576x1, .f32⟩
  | .hbm, ⟨23, _⟩ => ⟨S1x2048, .f32⟩
  | .hbm, ⟨24, _⟩ => ⟨S24576x5632, .fp8e4m3⟩
  | .hbm, ⟨25, _⟩ => ⟨S24576x1, .f32⟩
  | .hbm, ⟨26, _⟩ => ⟨S1x5632, .f32⟩
  | .hbm, ⟨27, _⟩ => ⟨S1x2048, .f32⟩
  | .hbm, ⟨28, _⟩ => ⟨S2048x6144, .fp8e4m3⟩
  | .hbm, ⟨29, _⟩ => ⟨S1x6144, .f32⟩
  | .hbm, ⟨30, _⟩ => ⟨S24576x2048, .bf16⟩
  | .hbm, ⟨31, _⟩ => ⟨S24576x5632, .fp8e5m2⟩
  | .hbm, ⟨32, _⟩ => ⟨S24576x1, .f32⟩
  | .hbm, ⟨33, _⟩ => ⟨S1x2048, .f32⟩
  | .hbm, ⟨34, _⟩ => ⟨S6x4096x2048, .bf16⟩
  | .hbm, ⟨35, _⟩ => ⟨S2048, .f32⟩
  | .hbm, ⟨36, _⟩ => ⟨S6x4096x5632, .fp8e5m2⟩
  | .hbm, ⟨37, _⟩ => ⟨S6x4096, .f32⟩
  | .local _ .vmem, ⟨0, _⟩ => ⟨S24576x2048, .fp8e5m2⟩
  | .local _ .vmem, ⟨1, _⟩ => ⟨S24576x1, .f32⟩
  | .local _ .vmem, ⟨2, _⟩ => ⟨S24576x6144, .fp8e5m2⟩
  | .local _ .vmem, ⟨3, _⟩ => ⟨S24576x1, .f32⟩
  | .local _ .vmem, ⟨4, _⟩ => ⟨S24576x2048, .fp8e4m3⟩
  | .local _ .vmem, ⟨5, _⟩ => ⟨S24576x1, .f32⟩
  | .local _ .vmem, ⟨6, _⟩ => ⟨S24576x1, .f32⟩
  | .local _ .vmem, ⟨7, _⟩ => ⟨S1x2048, .f32⟩
  | .local _ .vmem, ⟨8, _⟩ => ⟨S24576x5632, .fp8e4m3⟩
  | .local _ .vmem, ⟨9, _⟩ => ⟨S24576x1, .f32⟩
  | .local _ .vmem, ⟨10, _⟩ => ⟨S2048x5632, .fp8e4m3⟩
  | .local _ .vmem, ⟨11, _⟩ => ⟨S1x5632, .f32⟩
  | .local _ .vmem, ⟨12, _⟩ => ⟨S5632x2048, .fp8e4m3⟩
  | .local _ .vmem, ⟨13, _⟩ => ⟨S1x2048, .f32⟩
  | .local _ .vmem, ⟨14, _⟩ => ⟨S2048x6144, .fp8e4m3⟩
  | .local _ .vmem, ⟨15, _⟩ => ⟨S1x6144, .f32⟩
  | .local _ .vmem, ⟨16, _⟩ => ⟨S24576x2048, .bf16⟩
  | .local _ .vmem, ⟨17, _⟩ => ⟨S24576x5632, .fp8e5m2⟩
  | .local _ .vmem, ⟨18, _⟩ => ⟨S24576x1, .f32⟩
  | .local _ .vmem, ⟨19, _⟩ => ⟨S1x2048, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F] [Named F]

def κ : String → Option EReal := fun
  | "a" => some ((8943 / 200000 : ℝ) : EReal)
  | "c" => some ((3989422804014327 / 5000000000000000 : ℝ) : EReal)
  | "three_a" => some ((26829 / 200000 : ℝ) : EReal)
  | _ => none

abbrev grid0 : Pipeline.Grid := .none

abbrev stage0_0 : Fin 1 → Memref sig .tc .vmem S24576x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x5632 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5632x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x6144 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24576x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24576x5632 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24576x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.DwQkvVal.lean ====
/-
  The result array of the third weight gradient and of its plain reference, block by block, and both programs' runs: after
  the call the host reshapes the array to the weight's shape.
-/
module

public import proofs.«01_k».proof.Proof.Gen.DwQkvIdeal.Frame
public import proofs.«01_k».proof.Proof.Gen.DwQkvRefIdeal.Frame
public import Idealize.ShloMosaic.Lib.Pipeline.Value
public import Idealize.ShloMosaic.PureOps.Ideal
public import Idealize.ShloMosaic.Lib.Tactic

@[expose] public section

noncomputable section

open Idealize.ShloMosaic Idealize.ShloMosaic.TcCoe Idealize.SL.Sem

namespace Cert.DwQkvIdeal.Value

open Cert.DwQkvIdeal Cert.DwQkvIdeal.Gen

variable (m : (ℓ : Loc nD τ sig) → Buf (Elt Ideal) ℓ) (ρ : Dev nD → PrngReg)

/-- What two equal points leave is the same. -/
theorem outs_congr (c : Dev nD) : ∀ (j : ℕ) (h : j < cfg0.N) (j' : ℕ) (h' : j' < cfg0.N), j = j' → outsAt0 m c j h = outsAt0 m c j' h' := by
  intro j h j' h' hj; subst hj; rfl

/-- The block that holds an index, numbered in the order of writing. -/
abbrev run4Of (i : S2048x6144.Idx) : ℕ := 2 * ((i 0).val / 1024 - 0) + 1 * ((i 1).val / 3072 - 0)

set_option backward.proofsInPublic true in
/-- The index's place in its block. -/
abbrev loc4Of (i : S2048x6144.Idx) : S1024x3072.Idx := fun a => match a with
  | ⟨0, _⟩ => ⟨(i 0).val % 1024, Nat.mod_lt _ (by decide)⟩
  | ⟨1, _⟩ => ⟨(i 1).val % 3072, Nat.mod_lt _ (by decide)⟩

/-- The point that writes the index's block back. -/
abbrev pt4Of (i : S2048x6144.Idx) : ℕ := 24 * run4Of i + 23

/-- The array after the grid: at every index what the point that writes its block back left in the block. -/
def G4 (c : Dev nD) : Buf (Elt Ideal) ((c : Thread nD τ).loc (Pipeline.arrRef spec0 4)) := fun i =>
  if h : pt4Of i < cfg0.N then
    (outsAt0 m c (pt4Of i) h).1 (loc4Of i)
  else V m c (Pipeline.arrRef spec0 4) i

/-- The block indices, over the grid. -/
theorem idx_facts4 : ∀ t : Fin cfg0.N, 0 ≤ win0_4.index t (0 : Fin 2) ∧ win0_4.index t (0 : Fin 2) ≤ 1
    ∧ 0 ≤ win0_4.index t (1 : Fin 2) ∧ win0_4.index t (1 : Fin 2) ≤ 1
    ∧ 2 * (win0_4.index t (0 : Fin 2) - 0) + 1 * (win0_4.index t (1 : Fin 2) - 0) = t.val / 24 :=
  (by decide +kernel : ∀ t : Fin grid0.N, _)

/-- The point that writes back a given block. -/
abbrev onto4Pt (q0 : Fin 2) (q1 : Fin 2) : Fin grid0.N :=
  ⟨24 * (2 * q0.val + 1 * q1.val) + 23, lt_of_lt_of_eq (by omega) N_0.symm⟩

/-- Every block is written back. -/
theorem idx_onto4 : ∀ (q0 : Fin 2) (q1 : Fin 2), ∃ t : Fin cfg0.N, (cfg0.win 4).flush t = true ∧ win0_4.index t = ![q0.val + 0, q1.val + 0] :=
  fun q0 q1 => ⟨onto4Pt q0 q1, (by decide +kernel : ∀ (q0 : Fin 2) (q1 : Fin 2), win0_4.flush (onto4Pt q0 q1) = true ∧ win0_4.index (onto4Pt q0 q1) = ![q0.val + 0, q1.val + 0]) q0 q1⟩

/-- What a point writes back is its block of the array. -/
theorem flushed4_eq (c : Dev nD) (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  have hm : t.val % 24 = 23 := (flush0_4 t).mp hf
  obtain ⟨e0, e1, e2⟩ := idx_facts4 t
  funext y
  have hy0 : (y 0).val < 1024 := (y 0).isLt
  have hy1 : (y 1).val < 3072 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 3072 + 1 * (y 1).val := rfl
  have hr : run4Of (((cfg0.win 4).blk t).view.emb y) = t.val / 24 := by
    show 2 * ((((cfg0.win 4).blk t).view.emb y 0).val / 1024 - 0) + 1 * ((((cfg0.win 4).blk t).view.emb y 1).val / 3072 - 0) = _
    rw [hb0, hb1]
    rw [show (win0_4.index t (0 : Fin 2) * 1024 + 1 * (y 0).val) / 1024 = win0_4.index t (0 : Fin 2) from by omega]; rw [show (win0_4.index t (1 : Fin 2) * 3072 + 1 * (y 1).val) / 3072 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1024 = (y 0).val; rw [hb0]; omega
    | ⟨1, _⟩ => show (((cfg0.win 4).blk t).view.emb y 1).val % 3072 = (y 1).val; rw [hb1]; omega
  have hp : pt4Of (((cfg0.win 4).blk t).view.emb y) = t.val := by
    show 24 * run4Of (((cfg0.win 4).blk t).view.emb y) + 23 = _
    rw [hr]; have := Nat.div_add_mod t.val 24; omega
  show (outsAt0 m c t.val t.isLt).1 ((cfg0.win 4).xinj (grid0.coords t) y) = G4 m c (((cfg0.win 4).blk t).view.emb y)
  unfold G4
  rw [dif_pos (by rw [hp]; exact t.isLt), hl, outs_congr m c _ _ _ _ hp.symm]

/-- An index is in a point's block when its coordinates are in the block's ranges. -/
theorem mem_blk4 (t : Fin cfg0.N) (i : S2048x6144.Idx) :
    i ∈ ((cfg0.win 4).blk t).view.set ↔ ∀ a : Fin 2, win0_4.index t a * S1024x3072.size a ≤ (i a).val ∧ (i a).val < win0_4.index t a * S1024x3072.size a + S1024x3072.size a := by
  show i ∈ ((View.whole main_v7).slice (win0_4.rect t)).set ↔ _
  rw [View.set_slice_whole, Rect.mem_set_unit]
  exact Iff.rfl

/-- The blocks cover the array. -/
theorem covered_iff4 (i : S2048x6144.Idx) :
    (∃ t : Fin cfg0.N, (cfg0.win 4).flush t = true ∧ i ∈ ((cfg0.win 4).blk t).view.set) ↔ 0 ≤ (i 0).val ∧ (i 0).val < 2048 ∧ 0 ≤ (i 1).val ∧ (i 1).val < 6144 := by
  constructor
  · rintro ⟨t, -, hi⟩
    rw [mem_blk4] at hi
    have b0 : win0_4.index t (0 : Fin 2) * 1024 ≤ (i 0).val ∧ (i 0).val < win0_4.index t (0 : Fin 2) * 1024 + 1024 := hi 0
    have b1 : win0_4.index t (1 : Fin 2) * 3072 ≤ (i 1).val ∧ (i 1).val < win0_4.index t (1 : Fin 2) * 3072 + 3072 := hi 1
    obtain ⟨e0, e1, e2⟩ := idx_facts4 t
    omega
  · intro h
    have hi0 : (i 0).val < 2048 := (i 0).isLt
    have hi1 : (i 1).val < 6144 := (i 1).isLt
    obtain ⟨t, hft, ht⟩ := idx_onto4 ⟨(i 0).val / 1024 - 0, by omega⟩ ⟨(i 1).val / 3072 - 0, by omega⟩
    have q0 : win0_4.index t (0 : Fin 2) = (i 0).val / 1024 - 0 + 0 := congrFun ht 0
    have q1 : win0_4.index t (1 : Fin 2) = (i 1).val / 3072 - 0 + 0 := congrFun ht 1
    refine ⟨t, hft, ?_⟩
    rw [mem_blk4]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 3072 ≤ (i 1).val ∧ (i 1).val < win0_4.index t (1 : Fin 2) * 3072 + 3072; omega

/-- The array after the grid. -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 2048 := (i 0).isLt; have h1 : (i 1).val < 6144 := (i 1).isLt; omega))

/-- The host reshapes the array. -/
theorem host_dw (W : Valuation τ sig (Elt Ideal)) : StableHlo.after hostOps1 W main_v8
    = shapeCast S2048x3x32x64 (W main_v7) shapeCasts_S2048x6144_S2048x3x32x64 := by
  after_results
  try rfl

/-- The run: what the result array holds, and the arguments unchanged. -/
theorem run : θ_run defs (onTc (τ := τ) (main (F := Ideal))) ⟨m, fun _ => 0, ρ⟩ fun r => ∀ c : Dev nD,
      r.2.mem ((c : Thread nD τ).loc main_v8) = shapeCast S2048x3x32x64 (G4 m c) shapeCasts_S2048x6144_S2048x3x32x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).2 main_v8 (Pipeline.mem_restRefs_of main_v8 (by decide) (by decide))).trans
      ((host_dw (Pipeline.withArrays spec0 c (V0 m c) fun w => (dats m 0 c).arrAt w cfg0.N)).trans
        (congrArg (fun x => shapeCast S2048x3x32x64 x shapeCasts_S2048x6144_S2048x3x32x64)
          ((Pipeline.withArrays_arr spec0 launch0.win.arr_inj c (V0 m c) _ 4).trans (final4 m c)))),
      h.2 c⟩)
    (θ_run_and (run_main m ρ) (unchanged m ρ))

end Cert.DwQkvIdeal.Value

namespace Cert.DwQkvRefIdeal.Value

open Cert.DwQkvRefIdeal Cert.DwQkvRefIdeal.Gen

variable (m : (ℓ : Loc nD τ sig) → Buf (Elt Ideal) ℓ) (ρ : Dev nD → PrngReg)

/-- What the one point writes back. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- Distinct points write distinct blocks. -/
theorem idx_inj5 : ∀ t t' : Fin cfg0.N, win0_5.index t = win0_5.index t' → t = t' :=
  (by decide +kernel : ∀ t t' : Fin grid0.N, win0_5.index t = win0_5.index t' → t = t')

/-- Two points' blocks share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- A block of the final array is what its point wrote back. -/
theorem blocks5 (c : Dev nD) (t : Fin cfg0.N) (hf : (cfg0.win 5).flush t = true) :
    ((cfg0.win 5).blk t).view.read (Elt Ideal) ((dats m 0 c).arrAt 5 cfg0.N) = (dats m 0 c).flushed 5 t :=
  (dats m 0 c).read_blk_arrAt_eq_flushed 5 disjoint5 cfg0.N t t.isLt hf

/-- The host reshapes the array. -/
theorem host_dw (W : Valuation τ sig (Elt Ideal)) : StableHlo.after hostOps1 W main_v8
    = shapeCast S2048x3x32x64 (W main_v7) shapeCasts_S2048x6144_S2048x3x32x64 := by
  after_results
  try rfl

/-- The run: what the result array holds, and the arguments unchanged. -/
theorem run : θ_run defs (onTc (τ := τ) (main (F := Ideal))) ⟨m, fun _ => 0, ρ⟩ fun r => ∀ c : Dev nD,
      r.2.mem ((c : Thread nD τ).loc main_v8) = shapeCast S2048x3x32x64 ((dats m 0 c).arrAt 5 cfg0.N) shapeCasts_S2048x6144_S2048x3x32x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).2 main_v8 (Pipeline.mem_restRefs_of main_v8 (by decide) (by decide))).trans
      ((host_dw (Pipeline.withArrays spec0 c (V0 m c) fun w => (dats m 0 c).arrAt w cfg0.N)).trans
        (congrArg (fun x => shapeCast S2048x3x32x64 x shapeCasts_S2048x6144_S2048x3x32x64)
          ((Pipeline.withArrays_arr spec0 launch0.win.arr_inj c (V0 m c) _ 5)))),
      h.2 c⟩)
    (θ_run_and (run_main m ρ) (unchanged m ρ))

end Cert.DwQkvRefIdeal.Value

end
-- ==== Proof.TokenVal.lean ====
/-
  What each grid point of the token pass writes back to its four result arrays, and the final arrays block by block. The host
  works on after the call, so these facts are stated here from the frame.
-/
module

public import proofs.«01_k».proof.Proof.Gen.TokenIdeal.Frame
public import Idealize.ShloMosaic.Lib.Pipeline.Value

@[expose] public section

noncomputable section

open Idealize.ShloMosaic Idealize.ShloMosaic.TcCoe Idealize.SL.Sem

namespace Cert.TokenIdeal.Value

open Cert.TokenIdeal Cert.TokenIdeal.Gen

variable (m : (ℓ : Loc nD τ sig) → Buf (Elt Ideal) ℓ)

/-- What a point writes back to the array of the input gradients. -/
theorem flushed16 (c : Dev nD) (t : Fin cfg0.N) :
    (dats m 0 c).flushed 16 t = (cfg0.win 16).cut (grid0.coords t) ((outsAt0 m c t.val t.isLt).1) := by
  show (cfg0.win 16).cut (grid0.coords t) ((dats m 0 c).after 16 t) = _
  rw [after0_16]

/-- Distinct points write distinct blocks of the input gradients. -/
theorem idx_inj16 : ∀ t t' : Fin cfg0.N, win0_16.index t = win0_16.index t' → t = t' :=
  (by decide +kernel : ∀ t t' : Fin grid0.N, win0_16.index t = win0_16.index t' → t = t')

/-- Two points' blocks share no index of the input gradients. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- A block of the final array is what its point wrote back: the input gradients. -/
theorem blocks16 (c : Dev nD) (t : Fin cfg0.N) (hf : (cfg0.win 16).flush t = true) :
    ((cfg0.win 16).blk t).view.read (Elt Ideal) ((dats m 0 c).arrAt 16 cfg0.N) = (dats m 0 c).flushed 16 t :=
  (dats m 0 c).read_blk_arrAt_eq_flushed 16 disjoint16 cfg0.N t t.isLt hf

/-- What a point writes back to the array of the codes. -/
theorem flushed17 (c : Dev nD) (t : Fin cfg0.N) :
    (dats m 0 c).flushed 17 t = (cfg0.win 17).cut (grid0.coords t) ((outsAt0 m c t.val t.isLt).2.1) := by
  show (cfg0.win 17).cut (grid0.coords t) ((dats m 0 c).after 17 t) = _
  rw [after0_17]

/-- Distinct points write distinct blocks of the codes. -/
theorem idx_inj17 : ∀ t t' : Fin cfg0.N, win0_17.index t = win0_17.index t' → t = t' :=
  (by decide +kernel : ∀ t t' : Fin grid0.N, win0_17.index t = win0_17.index t' → t = t')

/-- Two points' blocks share no index of the codes. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- A block of the final array is what its point wrote back: the codes. -/
theorem blocks17 (c : Dev nD) (t : Fin cfg0.N) (hf : (cfg0.win 17).flush t = true) :
    ((cfg0.win 17).blk t).view.read (Elt Ideal) ((dats m 0 c).arrAt 17 cfg0.N) = (dats m 0 c).flushed 17 t :=
  (dats m 0 c).read_blk_arrAt_eq_flushed 17 disjoint17 cfg0.N t t.isLt hf

/-- What a point writes back to the array of the scales. -/
theorem flushed18 (c : Dev nD) (t : Fin cfg0.N) :
    (dats m 0 c).flushed 18 t = (cfg0.win 18).cut (grid0.coords t) ((outsAt0 m c t.val t.isLt).2.2.1) := by
  show (cfg0.win 18).cut (grid0.coords t) ((dats m 0 c).after 18 t) = _
  rw [after0_18]

/-- Distinct points write distinct blocks of the scales. -/
theorem idx_inj18 : ∀ t t' : Fin cfg0.N, win0_18.index t = win0_18.index t' → t = t' :=
  (by decide +kernel : ∀ t t' : Fin grid0.N, win0_18.index t = win0_18.index t' → t = t')

/-- Two points' blocks share no index of the scales. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- A block of the final array is what its point wrote back: the scales. -/
theorem blocks18 (c : Dev nD) (t : Fin cfg0.N) (hf : (cfg0.win 18).flush t = true) :
    ((cfg0.win 18).blk t).view.read (Elt Ideal) ((dats m 0 c).arrAt 18 cfg0.N) = (dats m 0 c).flushed 18 t :=
  (dats m 0 c).read_blk_arrAt_eq_flushed 18 disjoint18 cfg0.N t t.isLt hf

/-- What a point writes back to the array of the gain's sums. -/
theorem flushed19 (c : Dev nD) (t : Fin cfg0.N) :
    (dats m 0 c).flushed 19 t = (cfg0.win 19).cut (grid0.coords t) ((outsAt0 m c t.val t.isLt).2.2.2) := by
  show (cfg0.win 19).cut (grid0.coords t) ((dats m 0 c).after 19 t) = _
  rw [after0_19]

end Cert.TokenIdeal.Value

end
-- ==== Proof.TokenRefVal.lean ====
/-
  What each grid point of the token pass's plain reference writes back to its four result arrays, and the final arrays block
  by block. The host works on after the call, so these facts are stated here from the frame.
-/
module

public import proofs.«01_k».proof.Proof.Gen.TokenRefIdeal.Frame
public import Idealize.ShloMosaic.Lib.Pipeline.Value

@[expose] public section

noncomputable section

open Idealize.ShloMosaic Idealize.ShloMosaic.TcCoe Idealize.SL.Sem

namespace Cert.TokenRefIdeal.Value

open Cert.TokenRefIdeal Cert.TokenRefIdeal.Gen

variable (m : (ℓ : Loc nD τ sig) → Buf (Elt Ideal) ℓ)

/-- What a point writes back to the array of the input gradients. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 16).cut (grid0.coords t) ((dats m 0 c).after 16 t) = _
  rw [after0_16]

/-- Distinct points write distinct blocks of the input gradients. -/
theorem idx_inj16 : ∀ t t' : Fin cfg0.N, win0_16.index t = win0_16.index t' → t = t' :=
  (by decide +kernel : ∀ t t' : Fin grid0.N, win0_16.index t = win0_16.index t' → t = t')

/-- Two points' blocks share no index of the input gradients. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- A block of the final array is what its point wrote back: the input gradients. -/
theorem blocks16 (c : Dev nD) (t : Fin cfg0.N) (hf : (cfg0.win 16).flush t = true) :
    ((cfg0.win 16).blk t).view.read (Elt Ideal) ((dats m 0 c).arrAt 16 cfg0.N) = (dats m 0 c).flushed 16 t :=
  (dats m 0 c).read_blk_arrAt_eq_flushed 16 disjoint16 cfg0.N t t.isLt hf

/-- What a point writes back to the array of the codes. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 17).cut (grid0.coords t) ((dats m 0 c).after 17 t) = _
  rw [after0_17]

/-- Distinct points write distinct blocks of the codes. -/
theorem idx_inj17 : ∀ t t' : Fin cfg0.N, win0_17.index t = win0_17.index t' → t = t' :=
  (by decide +kernel : ∀ t t' : Fin grid0.N, win0_17.index t = win0_17.index t' → t = t')

/-- Two points' blocks share no index of the codes. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- A block of the final array is what its point wrote back: the codes. -/
theorem blocks17 (c : Dev nD) (t : Fin cfg0.N) (hf : (cfg0.win 17).flush t = true) :
    ((cfg0.win 17).blk t).view.read (Elt Ideal) ((dats m 0 c).arrAt 17 cfg0.N) = (dats m 0 c).flushed 17 t :=
  (dats m 0 c).read_blk_arrAt_eq_flushed 17 disjoint17 cfg0.N t t.isLt hf

/-- What a point writes back to the array of the scales. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 18).cut (grid0.coords t) ((dats m 0 c).after 18 t) = _
  rw [after0_18]

/-- Distinct points write distinct blocks of the scales. -/
theorem idx_inj18 : ∀ t t' : Fin cfg0.N, win0_18.index t = win0_18.index t' → t = t' :=
  (by decide +kernel : ∀ t t' : Fin grid0.N, win0_18.index t = win0_18.index t' → t = t')

/-- Two points' blocks share no index of the scales. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- A block of the final array is what its point wrote back: the scales. -/
theorem blocks18 (c : Dev nD) (t : Fin cfg0.N) (hf : (cfg0.win 18).flush t = true) :
    ((cfg0.win 18).blk t).view.read (Elt Ideal) ((dats m 0 c).arrAt 18 cfg0.N) = (dats m 0 c).flushed 18 t :=
  (dats m 0 c).read_blk_arrAt_eq_flushed 18 disjoint18 cfg0.N t t.isLt hf

/-- What a point writes back to the array of the gain's sums. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 19).cut (grid0.coords t) ((dats m 0 c).after 19 t) = _
  rw [after0_19]

/-- Distinct points write distinct blocks of the gain's sums. -/
theorem idx_inj19 : ∀ t t' : Fin cfg0.N, win0_19.index t = win0_19.index t' → t = t' :=
  (by decide +kernel : ∀ t t' : Fin grid0.N, win0_19.index t = win0_19.index t' → t = t')

/-- Two points' blocks share no index of the gain's sums. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- A block of the final array is what its point wrote back: the gain's sums. -/
theorem blocks19 (c : Dev nD) (t : Fin cfg0.N) (hf : (cfg0.win 19).flush t = true) :
    ((cfg0.win 19).blk t).view.read (Elt Ideal) ((dats m 0 c).arrAt 19 cfg0.N) = (dats m 0 c).flushed 19 t :=
  (dats m 0 c).read_blk_arrAt_eq_flushed 19 disjoint19 cfg0.N t t.isLt hf

end Cert.TokenRefIdeal.Value

end
-- ==== Proof.DwOutSum.lean ====
/-
  What the weight-gradient kernel of `DwOutIdeal` leaves in its result array: for every entry (i, j) the sum over all
  24576 tokens of x[t, i] · c[t] · y[t, j], times the gain of row i. The kernel adds the tokens up in 24 blocks of 1024
  into a scratch that starts at zero, and writes the block out after the last one.
-/
module

public import proofs.«01_k».proof.Proof.Gen.DwOutIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwOutIdeal.Sum

open Cert.DwOutIdeal Cert.DwOutIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point computes -/

section Point

variable (c : Dev nD) (i : grid0.Coords) (arg3 : Memref sig .tc .vmem S1024x1408 .fp8e4m3) (harg3 : arg3.IsWhole)
  (arg4 : Memref sig .tc .vmem S1x1x1024 .f32) (harg4 : arg4.IsWhole)
  (arg5 : Memref sig .tc .vmem S1024x2048 .fp8e5m2) (harg5 : arg5.IsWhole)
  (arg6 : Memref sig .tc .vmem S1x1x1408 .f32) (harg6 : arg6.IsWhole)
  (arg7 : Memref sig .tc .vmem S1408x2048 .bf16) (harg7 : arg7.IsWhole)
  (arg8 : Memref sig .tc .vmem S1408x2048 .f32) (harg8 : arg8.IsWhole)
  (x0 : Vec Ideal S1024x1408 .fp8e4m3) (x1 : Vec Ideal S1x1x1024 .f32) (x2 : Vec Ideal S1024x2048 .fp8e5m2)
  (x3 : Vec Ideal S1x1x1408 .f32) (xs0 : Vec Ideal S1408x2048 .f32)

/-- The first token block of an output block leaves in the scratch its product added to zeros. -/
theorem sout_A (hc0 : cond0_0 i) (hc1 : ¬cond0_1 i) :
    sout0_A_0 (F := Ideal) c i arg3 harg3 arg4 harg4 arg5 harg5 arg6 harg6 arg7 harg7 arg8 harg8 hc0 hc1 x0 x1 x2 x3
      = k0_pay2 x0 x1 (k0_pay1 (F := Ideal)) x2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1408x2048) hz2, View.readCov_unit_zero (S := S1408x2048) _ hz2]
  simp only [View.readAt_eq_ld, harg3.read_unread, harg4.read_unread, harg5.read_unread,
    View.ld_unit_zero (S := S1024x1408) hz2, View.ld_unit_zero (S := S1024x2048) hz2, View.ld_unit_zero (S := S1x1x1024) hz3]

/-- Every later token block adds its product to what the scratch held. -/
theorem sout_B (hc0 : ¬cond0_0 i) (hc1 : ¬cond0_1 i) :
    sout0_B_0 (F := Ideal) c i arg3 harg3 arg4 harg4 arg5 harg5 arg6 harg6 arg7 harg7 arg8 harg8 hc0 hc1 x0 x1 x2 x3 xs0
      = k0_pay2 x0 x1 xs0 x2 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg8.read_unread,
    View.ld_unit_zero (S := S1024x1408) hz2, View.ld_unit_zero (S := S1024x2048) hz2, View.ld_unit_zero (S := S1x1x1024) hz3,
    View.ld_unit_zero (S := S1408x2048) hz2]

/-- The last token block writes out the finished scratch times the gain. -/
theorem out_C (hc0 : ¬cond0_0 i) (hc1 : cond0_1 i) :
    out0_C_4 (F := Ideal) c i arg3 harg3 arg4 harg4 arg5 harg5 arg6 harg6 arg7 harg7 arg8 harg8 hc0 hc1 x0 x1 x2 x3 xs0
      = k0_pay3 (k0_pay2 x0 x1 xs0 x2) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1408x2048) _ hz2]
  simp only [View.readAt_eq_ld, harg3.read_unread, harg4.read_unread, harg5.read_unread, harg6.read_unread, harg8.read_unread,
    View.ld_unit_zero (S := S1024x1408) hz2, View.ld_unit_zero (S := S1024x2048) hz2, View.ld_unit_zero (S := S1x1x1024) hz3,
    View.ld_unit_zero (S := S1x1x1408) hz3, View.ld_unit_zero (S := S1408x2048) hz2]

/-- The accumulating product at an entry: the old entry plus the sum over the block's 1024 tokens. -/
theorem pay2_at (p : Fin 1408) (q : Fin 2048) :
    k0_pay2 (F := Ideal) x0 x1 xs0 x2 (ix2 p q)
      = (show EReal from xs0 (ix2 p q)) + ∑ k : Fin 1024, (show EReal from x0 (ix2 k p)) * (show EReal from x1 (ix3 0 0 k)) * (show EReal from x2 (ix2 k q)) := by
  pointwise [k0_pay2]
/-- The zero block is zero. -/
theorem pay1_at (p : Fin 1408) (q : Fin 2048) : k0_pay1 (F := Ideal) (ix2 p q) = (0 : EReal) := by
  pointwise [k0_pay1]
/-- The write-out at an entry: the finished sum times the gain of its row. -/
theorem pay3_at (p : Fin 1408) (q : Fin 2048) :
    k0_pay3 (F := Ideal) xs0 x3 (ix2 p q) = (show EReal from xs0 (ix2 p q)) * (show EReal from x3 (ix3 0 0 p)) := by
  pointwise [k0_pay3]

end Point

/-! ## Which part of each array a grid point reads -/

/-- The block indices of the four inputs at grid point `t`. -/
theorem idx_facts : ∀ t : Fin cfg0.N,
    (win0_0.index t 0 = t.val % 24 ∧ win0_0.index t 1 = t.val / 24)
    ∧ (win0_1.index t 0 = t.val % 24 ∧ win0_1.index t 1 = 0 ∧ win0_1.index t 2 = 0)
    ∧ (win0_2.index t 0 = t.val % 24 ∧ win0_2.index t 1 = t.val / 24 % 1)
    ∧ (win0_3.index t 0 = t.val / 24 ∧ win0_3.index t 1 = 0 ∧ win0_3.index t 2 = 0) := by decide +kernel

variable (m : (ℓ : Loc nD τ sig) → Buf (Elt Ideal) ℓ)

/-- Entry (t, i) of the left operand as the launch finds it. -/
def xv (c : Dev nD) (t i : ℕ) : EReal :=
  if h : t < 24576 ∧ i < 5632 then V m c main_v1 (ix2 (⟨t, h.1⟩ : Fin 24576) (⟨i, h.2⟩ : Fin 5632)) else 0
/-- The scale of token t as the launch finds it. -/
def cv (c : Dev nD) (t : ℕ) : EReal :=
  if h : t < 24576 then V m c main_v6 (ix3 (⟨t / 1024, by omega⟩ : Fin 24) (0 : Fin 1) (⟨t % 1024, by omega⟩ : Fin 1024)) else 0
/-- Entry (t, j) of the right operand as the launch finds it. -/
def yv (c : Dev nD) (t j : ℕ) : EReal :=
  if h : t < 24576 ∧ j < 2048 then V m c main_v0 (ix2 (⟨t, h.1⟩ : Fin 24576) (⟨j, h.2⟩ : Fin 2048)) else 0
/-- The gain of row i as the launch finds it. -/
def gv (c : Dev nD) (i : ℕ) : EReal :=
  if h : i < 5632 then V m c main_v7 (ix3 (⟨i / 1408, by omega⟩ : Fin 4) (0 : Fin 1) (⟨i % 1408, by omega⟩ : Fin 1408)) else 0

/-- One token's contribution to entry (i, j). -/
def term (c : Dev nD) (i j t : ℕ) : EReal := xv m c t i * cv m c t * yv m c t j

theorem blk0_at (c : Dev nD) (t : Fin cfg0.N) (k : Fin 1024) (p : Fin 1408) :
    (iblk m c 0 t : Vec Ideal S1024x1408 .fp8e4m3) (ix2 k p) = xv m c (1024 * (t.val % 24) + k.val) (1408 * (t.val / 24) + p.val) := by
  have hN : t.val < 96 := lt_of_lt_of_eq t.isLt (show cfg0.N = 96 from N_0)
  have hk := k.isLt
  have hp := p.isLt
  have hi := (idx_facts t).1
  unfold xv
  rw [dif_pos ⟨by omega, by omega⟩]
  unfold iblk
  rw [View.read_apply]
  show V m c main_v1 _ = _
  congr 1
  funext a
  apply Fin.ext
  match a with
  | ⟨0, _⟩ => show win0_0.index t 0 * 1024 + 1 * k.val = _; rw [hi.1]; show _ = 1024 * (t.val % 24) + k.val; omega
  | ⟨1, _⟩ => show win0_0.index t 1 * 1408 + 1 * p.val = _; rw [hi.2]; show _ = 1408 * (t.val / 24) + p.val; omega

theorem blk1_at (c : Dev nD) (t : Fin cfg0.N) (k : Fin 1024) :
    (iblk m c 1 t : Vec Ideal S1x1x1024 .f32) (ix3 0 0 k) = cv m c (1024 * (t.val % 24) + k.val) := by
  have hN : t.val < 96 := lt_of_lt_of_eq t.isLt (show cfg0.N = 96 from N_0)
  have hk := k.isLt
  have hi := (idx_facts t).2.1
  unfold cv
  rw [dif_pos (by omega)]
  unfold iblk
  rw [View.read_apply]
  show V m c main_v6 _ = _
  congr 1
  funext a
  apply Fin.ext
  match a with
  | ⟨0, _⟩ => show win0_1.index t 0 * 1 + 1 * 0 = _; rw [hi.1]; show _ = (1024 * (t.val % 24) + k.val) / 1024; omega
  | ⟨1, _⟩ => show win0_1.index t 1 * 1 + 1 * 0 = _; rw [hi.2.1]; rfl
  | ⟨2, _⟩ => show win0_1.index t 2 * 1024 + 1 * k.val = _; rw [hi.2.2]; show _ = (1024 * (t.val % 24) + k.val) % 1024; omega

theorem blk2_at (c : Dev nD) (t : Fin cfg0.N) (k : Fin 1024) (q : Fin 2048) :
    (iblk m c 2 t : Vec Ideal S1024x2048 .fp8e5m2) (ix2 k q) = yv m c (1024 * (t.val % 24) + k.val) (2048 * (t.val / 24 % 1) + q.val) := by
  have hN : t.val < 96 := lt_of_lt_of_eq t.isLt (show cfg0.N = 96 from N_0)
  have hk := k.isLt
  have hq := q.isLt
  have hi := (idx_facts t).2.2.1
  unfold yv
  rw [dif_pos ⟨by omega, by omega⟩]
  unfold iblk
  rw [View.read_apply]
  show V m c main_v0 _ = _
  congr 1
  funext a
  apply Fin.ext
  match a with
  | ⟨0, _⟩ => show win0_2.index t 0 * 1024 + 1 * k.val = _; rw [hi.1]; show _ = 1024 * (t.val % 24) + k.val; omega
  | ⟨1, _⟩ => show win0_2.index t 1 * 2048 + 1 * q.val = _; rw [hi.2]; show _ = 2048 * (t.val / 24 % 1) + q.val; omega

theorem blk3_at (c : Dev nD) (t : Fin cfg0.N) (p : Fin 1408) :
    (iblk m c 3 t : Vec Ideal S1x1x1408 .f32) (ix3 0 0 p) = gv m c (1408 * (t.val / 24) + p.val) := by
  have hN : t.val < 96 := lt_of_lt_of_eq t.isLt (show cfg0.N = 96 from N_0)
  have hp := p.isLt
  have hi := (idx_facts t).2.2.2
  unfold gv
  rw [dif_pos (by omega)]
  unfold iblk
  rw [View.read_apply]
  show V m c main_v7 _ = _
  congr 1
  funext a
  apply Fin.ext
  match a with
  | ⟨0, _⟩ => show win0_3.index t 0 * 1 + 1 * 0 = _; rw [hi.1]; show _ = (1408 * (t.val / 24) + p.val) / 1408; omega
  | ⟨1, _⟩ => show win0_3.index t 1 * 1 + 1 * 0 = _; rw [hi.2.1]; rfl
  | ⟨2, _⟩ => show win0_3.index t 2 * 1408 + 1 * p.val = _; rw [hi.2.2]; show _ = (1408 * (t.val / 24) + p.val) % 1408; omega

/-! ## The scratch after each point, and the result -/

/-- One block's product at an entry, as 1024 terms of the whole sum. -/
theorem point_at (c : Dev nD) (t : Fin cfg0.N) (acc : Vec Ideal S1408x2048 .f32) (p : Fin 1408) (q : Fin 2048) :
    k0_pay2 (F := Ideal) (iblk m c 0 t) (iblk m c 1 t) acc (iblk m c 2 t) (ix2 p q)
      = (show EReal from acc (ix2 p q))
        + ∑ k ∈ Finset.range 1024, term m c (1408 * (t.val / 24) + p.val) (2048 * (t.val / 24 % 1) + q.val) (1024 * (t.val % 24) + k) := by
  rw [pay2_at, ← Fin.sum_univ_eq_sum_range (fun k => term m c (1408 * (t.val / 24) + p.val) (2048 * (t.val / 24 % 1) + q.val) (1024 * (t.val % 24) + k))]
  congr 1
  refine Finset.sum_congr rfl fun k _ => ?_
  rw [blk0_at, blk1_at, blk2_at]
  rfl

/-- After point `n` (not the last of its output block) the scratch holds the sum over the tokens seen so far. -/
theorem scratch_at (c : Dev nD) (p : Fin 1408) (q : Fin 2048) : ∀ (n : ℕ) (h : n < cfg0.N), ¬ n % 24 = 23 →
    (outsAt0 m c n h).2 (ix2 p q)
      = ∑ t ∈ Finset.range (1024 * (n % 24 + 1)), term m c (1408 * (n / 24) + p.val) (2048 * (n / 24 % 1) + q.val) t := by
  intro n
  induction n with
  | zero =>
    intro h h1
    rw [outsAt0_A m c ⟨0, h⟩ rfl h1]
    dsimp only
    rw [sout_A, point_at, pay1_at]
    simp
  | succ n ih =>
    intro h h1
    have hN : n + 1 < 96 := lt_of_lt_of_eq h (show cfg0.N = 96 from N_0)
    by_cases h0 : (n + 1) % 24 = 0
    · rw [outsAt0_A m c ⟨n + 1, h⟩ h0 h1]
      dsimp only
      rw [sout_A, point_at, pay1_at]
      dsimp only
      rw [h0]
      simp
    · rw [outsAt0_B m c ⟨n + 1, h⟩ h0 h1]
      dsimp only
      rw [sout_B, point_at]
      dsimp only
      have e := ih (Nat.lt_of_succ_lt h) (by omega)
      have e1 : n / 24 = (n + 1) / 24 := by omega
      have e2 : n / 24 = (n + 1) / 24 := by omega
      have e3 : n % 24 + 1 = (n + 1) % 24 := by omega
      rw [e1] at e
      try rw [e2] at e
      rw [e3] at e
      rw [show 1024 * ((n + 1) % 24 + 1) = 1024 * ((n + 1) % 24) + 1024 by ring, Finset.sum_range_add]
      exact congrArg (· + _) e

/-- At the last token block of an output block, the written entry is the sum over all tokens times the gain. -/
theorem out_at (c : Dev nD) (p : Fin 1408) (q : Fin 2048) (t : Fin cfg0.N) (h1 : t.val % 24 = 23) :
    (outsAt0 m c t.val t.isLt).1 (ix2 p q)
      = (∑ k ∈ Finset.range 24576, term m c (1408 * (t.val / 24) + p.val) (2048 * (t.val / 24 % 1) + q.val) k)
          * gv m c (1408 * (t.val / 24) + p.val) := by
  have hN : t.val < 96 := lt_of_lt_of_eq t.isLt (show cfg0.N = 96 from N_0)
  have h0 : ¬ t.val % 24 = 0 := by omega
  rw [outsAt0_C m c t h0 h1]
  dsimp only
  rw [out_C, pay3_at, blk3_at]
  refine congrArg (fun z : EReal => z * gv m c (1408 * (t.val / 24) + p.val)) ?_
  refine (point_at m c t _ p q).trans ?_
  have e := scratch_at m c p q (t.val - 1) (Nat.lt_of_le_of_lt (Nat.sub_le _ _) t.isLt) (by omega)
  have e1 : (t.val - 1) / 24 = t.val / 24 := by omega
  have e2 : (t.val - 1) / 24 = t.val / 24 := by omega
  have e3 : 1024 * ((t.val - 1) % 24 + 1) = 1024 * (t.val % 24) := by omega
  rw [e1] at e
  try rw [e2] at e
  rw [e3] at e
  rw [show 24576 = 1024 * (t.val % 24) + 1024 by omega, Finset.sum_range_add]
  exact congrArg (· + _) e

/-- THE RESULT ARRAY: entry (i, j) is the sum over all tokens of x[t, i] · c[t] · y[t, j], times the gain of row i. -/
theorem result_at (c : Dev nD) (i : Fin 5632) (j : Fin 2048) :
    Value.G4 m c (ix2 i j) = (∑ t ∈ Finset.range 24576, term m c i.val j.val t) * gv m c i.val := by
  have hi := i.isLt
  have hj := j.isLt
  unfold Value.G4
  have hpt : Value.pt4Of (ix2 i j) = 24 * (1 * (i.val / 1408) + j.val / 2048) + 23 := by
    show 24 * (1 * (i.val / 1408 - 0) + 1 * (j.val / 2048 - 0)) + 23 = _
    omega
  have hlt : Value.pt4Of (ix2 i j) < cfg0.N := by
    rw [hpt, show cfg0.N = 96 from N_0]; omega
  rw [dif_pos hlt, ← Value.outsAt0_sweep m c _ hlt]
  have e := out_at m c ⟨i.val % 1408, by omega⟩ ⟨j.val % 2048, by omega⟩ ⟨_, hlt⟩ (by dsimp only; omega)
  have hl : Value.loc4Of (ix2 i j) = ix2 (⟨i.val % 1408, by omega⟩ : Fin 1408) (⟨j.val % 2048, by omega⟩ : Fin 2048) := by
    funext a
    match a with
    | ⟨0, _⟩ => rfl
    | ⟨1, _⟩ => rfl
  rw [hl]
  refine e.trans ?_
  dsimp only
  rw [hpt, show 1408 * ((24 * (1 * (i.val / 1408) + j.val / 2048) + 23) / 24) + i.val % 1408 = i.val by omega,
    show 2048 * ((24 * (1 * (i.val / 1408) + j.val / 2048) + 23) / 24 % 1) + j.val % 2048 = j.val by omega]

end Cert.DwOutIdeal.Sum

end
-- ==== Proof.DwOutRefSum.lean ====
/-
  What the plain reference of `DwOut` leaves in its result array: for every entry (i, j) the sum over all 24576 tokens
  of (x[t, i] · s[t]) · (y[t, j] · u[t]).
-/
module

public import proofs.«01_k».proof.Proof.Gen.DwOutRefIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwOutRefIdeal.Sum

open Cert.DwOutRefIdeal Cert.DwOutRefIdeal.Gen

theorem hz2 : (![0, 0] : Fin 2 → Nat) = fun _ => 0 := funext fun a => by fin_cases a <;> rfl

/-- The reference's one product at an entry. -/
theorem out_at (x0 : Vec Ideal S24576x5632 .fp8e4m3) (x1 : Vec Ideal S24576x1 .f32) (x2 : Vec Ideal S24576x2048 .fp8e5m2)
    (x3 : Vec Ideal S24576x1 .f32) (p : Fin 5632) (q : Fin 2048) :
    out0_4 (F := Ideal) x0 x1 x2 x3 (ix2 p q)
      = (∑ k : Fin 24576, ((show EReal from x0 (ix2 k p)) * (show EReal from x1 (ix2 k 0)))
          * ((show EReal from x2 (ix2 k q)) * (show EReal from x3 (ix2 k 0)))) := by
  unfold out0_4
  rw [View.canon_unit_zero hz2, View.ld_unit_zero (S := S24576x5632) hz2, View.ld_unit_zero (S := S24576x2048) hz2,
    View.ld_unit_zero (S := S24576x1) hz2, View.ld_unit_zero (S := S24576x1) hz2]
  pointwise [k0_pay1]

variable (m : (ℓ : Loc nD τ sig) → Buf (Elt Ideal) ℓ)

theorem blk0 (c : Dev nD) : (iblk m c 0 t0_0 : Vec Ideal S24576x5632 .fp8e4m3) = V m c main_v0 := by
  funext j
  unfold iblk
  rw [View.read_apply]
  show V m c main_v0 _ = V m c main_v0 j
  congr 1
  funext a
  apply Fin.ext
  match a with
  | ⟨0, _⟩ => show 0 * 24576 + 1 * (j 0).val = (j 0).val; omega
  | ⟨1, _⟩ => show 0 * 5632 + 1 * (j 1).val = (j 1).val; omega

theorem blk1 (c : Dev nD) : (iblk m c 1 t0_0 : Vec Ideal S24576x1 .f32) = V m c main_v2 := by
  funext j
  unfold iblk
  rw [View.read_apply]
  show V m c main_v2 _ = V m c main_v2 j
  congr 1
  funext a
  apply Fin.ext
  match a with
  | ⟨0, _⟩ => show 0 * 24576 + 1 * (j 0).val = (j 0).val; omega
  | ⟨1, _⟩ => show 0 * 1 + 1 * (j 1).val = (j 1).val; omega

theorem blk2 (c : Dev nD) : (iblk m c 2 t0_0 : Vec Ideal S24576x2048 .fp8e5m2) = V m c main_v3 := by
  funext j
  unfold iblk
  rw [View.read_apply]
  show V m c main_v3 _ = V m c main_v3 j
  congr 1
  funext a
  apply Fin.ext
  match a with
  | ⟨0, _⟩ => show 0 * 24576 + 1 * (j 0).val = (j 0).val; omega
  | ⟨1, _⟩ => show 0 * 2048 + 1 * (j 1).val = (j 1).val; omega

theorem blk3 (c : Dev nD) : (iblk m c 3 t0_0 : Vec Ideal S24576x1 .f32) = V m c main_v5 := by
  funext j
  unfold iblk
  rw [View.read_apply]
  show V m c main_v5 _ = V m c main_v5 j
  congr 1
  funext a
  apply Fin.ext
  match a with
  | ⟨0, _⟩ => show 0 * 24576 + 1 * (j 0).val = (j 0).val; omega
  | ⟨1, _⟩ => show 0 * 1 + 1 * (j 1).val = (j 1).val; omega

/-- The reference's result array is what its one block computes. -/
theorem final_eq (c : Dev nD) (j : S5632x2048.Idx) :
    (dats m 0 c).arrAt 4 cfg0.N j
      = out0_4 (F := Ideal) (V m c main_v0) (V m c main_v2) (V m c main_v3) (V m c main_v5) j := by
  have e := congrFun ((Value.blocks4 m c t0_0 rfl).trans (Value.flushed4 m c t0_0)) j
  rw [blk0, blk1, blk2, blk3] at e
  rw [View.read_apply] at e
  refine Eq.trans ?_ e
  congr 1
  funext a
  apply Fin.ext
  match a with
  | ⟨0, _⟩ => show (j 0).val = 0 * 5632 + 1 * (j 0).val; omega
  | ⟨1, _⟩ => show (j 1).val = 0 * 2048 + 1 * (j 1).val; omega

end Cert.DwOutRefIdeal.Sum

end
-- ==== Proof.DwOutEq.lean ====
/-
  The kernel's result array and the reference's are the same array for `DwOut`: both are the sum over the tokens, entry
  by entry; the kernel multiplies the two scales of a token together before it meets the left operand, the reference
  scales each operand by its own, and the products agree by re-ordering the factors.
-/
module

public import proofs.«01_k».proof.Defs
public import proofs.«01_k».proof.Proof.DwOutSum
public import proofs.«01_k».proof.Proof.DwOutRefSum

@[expose] public section

set_option maxRecDepth 100000

noncomputable section

open Idealize.ShloMosaic Idealize.ShloMosaic.TcCoe Idealize.SL.Sem
open scoped BigOperators

namespace Cert.DwOutEq

/-- The re-ordering of one token's four factors. -/
theorem shuffle (x s y u : EReal) : (x * s) * (y * u) = x * (s * u) * y := by ac_rfl

/-! ## Reading the host's reshapes -/

/-- A token scale cut in blocks of tokens, the product of two flattened scales, read at token t. -/
theorem scale_split (s d : (⟨2, ![6, 4096]⟩ : Shape).Idx → EReal) (h1 h2 : (⟨2, ![6, 4096]⟩ : Shape).ShapeCasts ⟨1, ![24576]⟩)
    (h : (⟨1, ![24576]⟩ : Shape).ShapeCasts ⟨3, ![24, 1, 1024]⟩) (t : Fin 24576) :
    shapeCast ⟨3, ![24, 1, 1024]⟩ (mulf (F := Ideal) (φ := .f32) (shapeCast ⟨1, ![24576]⟩ s h1) (shapeCast ⟨1, ![24576]⟩ d h2)) h
        (ix3 (⟨t.val / 1024, by omega⟩ : Fin 24) (0 : Fin 1) (⟨t.val % 1024, by omega⟩ : Fin 1024))
      = s (ix2 (⟨t.val / 4096, by omega⟩ : Fin 6) (⟨t.val % 4096, by omega⟩ : Fin 4096))
        * d (ix2 (⟨t.val / 4096, by omega⟩ : Fin 6) (⟨t.val % 4096, by omega⟩ : Fin 4096)) := by
  pointwise
/-- A token scale as one column, read at token t. -/
theorem scale_col (s : (⟨2, ![6, 4096]⟩ : Shape).Idx → EReal) (h1 : (⟨2, ![6, 4096]⟩ : Shape).BroadcastsInDim ⟨3, ![6, 4096, 1]⟩ ![0, 1])
    (h : (⟨3, ![6, 4096, 1]⟩ : Shape).ShapeCasts ⟨2, ![24576, 1]⟩) (t : Fin 24576) :
    shapeCast ⟨2, ![24576, 1]⟩ (broadcastInDim ⟨3, ![6, 4096, 1]⟩ ![0, 1] h1 s) h (ix2 t 0)
      = s (ix2 (⟨t.val / 4096, by omega⟩ : Fin 6) (⟨t.val % 4096, by omega⟩ : Fin 4096)) := by
  pointwise

end Cert.DwOutEq

/-! ## The kernel's arrays, from its arguments -/

namespace Cert.DwOutIdeal.Sum

open Cert.DwOutIdeal Cert.DwOutIdeal.Gen Cert.DwOutEq

variable (m : (ℓ : Loc nD τ sig) → Buf (Elt Ideal) ℓ)

/-- The left operand is the flattened first argument. -/
theorem x_eq (c : Dev nD) : V m c main_v1 = shapeCast S24576x5632 (m ((c : Thread nD τ).loc main_arg0)) shapeCasts_S6x4096x5632_S24576x5632 := by
  show StableHlo.after hostOps0 (fun b => m (c, b)) main_v1 = _
  after_results
  rfl
/-- The right operand is the flattened third argument. -/
theorem y_eq (c : Dev nD) : V m c main_v0 = shapeCast S24576x2048 (m ((c : Thread nD τ).loc main_arg2)) shapeCasts_S6x4096x2048_S24576x2048 := by
  show StableHlo.after hostOps0 (fun b => m (c, b)) main_v0 = _
  after_results
  rfl
/-- The scale of token t is the product of its two scales. -/
theorem cv_at (c : Dev nD) (t : Fin 24576) : cv m c t.val
    = (show EReal from m ((c : Thread nD τ).loc main_arg1) (ix2 (⟨t.val / 4096, by omega⟩ : Fin 6) (⟨t.val % 4096, by omega⟩ : Fin 4096)))
      * (show EReal from m ((c : Thread nD τ).loc main_arg3) (ix2 (⟨t.val / 4096, by omega⟩ : Fin 6) (⟨t.val % 4096, by omega⟩ : Fin 4096))) := by
  have ht := t.isLt
  unfold cv
  rw [dif_pos ht]
  have e : V m c main_v6 = shapeCast S24x1x1024 (mulf (F := Ideal) (φ := .f32) (shapeCast S24576 (m ((c : Thread nD τ).loc main_arg1)) shapeCasts_S6x4096_S24576)
      (shapeCast S24576 (m ((c : Thread nD τ).loc main_arg3)) shapeCasts_S6x4096_S24576)) shapeCasts_S24576_S24x1x1024 := by
    show StableHlo.after hostOps0 (fun b => m (c, b)) main_v6 = _
    after_results
    rfl
  rw [e]
  generalize m ((c : Thread nD τ).loc main_arg1) = s
  generalize m ((c : Thread nD τ).loc main_arg3) = d
  exact scale_split s d _ _ _ t
/-- The gain is one in every row. -/
theorem gv_at (c : Dev nD) (i : Fin 5632) : gv m c i.val = (1 : EReal) := by
  have hi := i.isLt
  unfold gv
  rw [dif_pos hi]
  have e : V m c main_v7 = shapeCast S4x1x1408 (broadcastInDim S5632 ![] bcast_S_S5632 (constant (F := Ideal) S_ .f32 0x3F800000#32)) shapeCasts_S5632_S4x1x1408 := by
    show StableHlo.after hostOps0 (fun b => m (c, b)) main_v7 = _
    after_results
    rfl
  rw [e]
  pointwise

end Cert.DwOutIdeal.Sum

/-! ## The reference's arrays, from its arguments -/

namespace Cert.DwOutRefIdeal.Sum

open Cert.DwOutRefIdeal Cert.DwOutRefIdeal.Gen Cert.DwOutEq

variable (m : (ℓ : Loc nD τ sig) → Buf (Elt Ideal) ℓ)

/-- The left operand is the flattened first argument. -/
theorem x_eq (c : Dev nD) : V m c main_v0 = shapeCast S24576x5632 (m ((c : Thread nD τ).loc main_arg0)) shapeCasts_S6x4096x5632_S24576x5632 := by
  show StableHlo.after hostOps0 (fun b => m (c, b)) main_v0 = _
  after_results
  rfl
/-- The right operand is the flattened third argument. -/
theorem y_eq (c : Dev nD) : V m c main_v3 = shapeCast S24576x2048 (m ((c : Thread nD τ).loc main_arg2)) shapeCasts_S6x4096x2048_S24576x2048 := by
  show StableHlo.after hostOps0 (fun b => m (c, b)) main_v3 = _
  after_results
  rfl
/-- The left operand's scale column at token t. -/
theorem s_at (c : Dev nD) (t : Fin 24576) : (show EReal from V m c main_v2 (ix2 t 0))
    = (show EReal from m ((c : Thread nD τ).loc main_arg1) (ix2 (⟨t.val / 4096, by omega⟩ : Fin 6) (⟨t.val % 4096, by omega⟩ : Fin 4096))) := by
  have e : V m c main_v2 = shapeCast S24576x1 (broadcastInDim S6x4096x1 ![0, 1] bcast_S6x4096_S6x4096x1_0_1 (m ((c : Thread nD τ).loc main_arg1))) shapeCasts_S6x4096x1_S24576x1 := by
    show StableHlo.after hostOps0 (fun b => m (c, b)) main_v2 = _
    after_results
    rfl
  rw [e]
  generalize m ((c : Thread nD τ).loc main_arg1) = s
  exact scale_col s _ _ t
/-- The right operand's scale column at token t. -/
theorem u_at (c : Dev nD) (t : Fin 24576) : (show EReal from V m c main_v5 (ix2 t 0))
    = (show EReal from m ((c : Thread nD τ).loc main_arg3) (ix2 (⟨t.val / 4096, by omega⟩ : Fin 6) (⟨t.val % 4096, by omega⟩ : Fin 4096))) := by
  have e : V m c main_v5 = shapeCast S24576x1 (broadcastInDim S6x4096x1 ![0, 1] bcast_S6x4096_S6x4096x1_0_1 (m ((c : Thread nD τ).loc main_arg3))) shapeCasts_S6x4096x1_S24576x1 := by
    show StableHlo.after hostOps0 (fun b => m (c, b)) main_v5 = _
    after_results
    rfl
  rw [e]
  generalize m ((c : Thread nD τ).loc main_arg3) = s
  exact scale_col s _ _ t

end Cert.DwOutRefIdeal.Sum

/-! ## The equation -/

namespace Cert.DwOutEq

/-- THE EQUATION: on equal arguments the kernel's result array is the reference's, entry by entry. -/
theorem result_eq (m : (ℓ : Loc Cert.DwOutIdeal.nD Cert.DwOutIdeal.τ Cert.DwOutIdeal.sig) → Buf (Elt Ideal) ℓ)
    (m' : (ℓ : Loc Cert.DwOutRefIdeal.nD Cert.DwOutRefIdeal.τ Cert.DwOutRefIdeal.sig) → Buf (Elt Ideal) ℓ)
    (c : Dev Cert.DwOutIdeal.nD)
    (h0 : m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0))
    (h1 : m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1))
    (h2 : m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2))
    (h3 : m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) :
    (Cert.DwOutRefIdeal.Gen.dats m' 0 c).arrAt 4 Cert.DwOutRefIdeal.cfg0.N = Cert.DwOutIdeal.Value.G4 m c := by
  funext j
  obtain ⟨p, q, rfl⟩ : ∃ (p : Fin 5632) (q : Fin 2048), j = ix2 p q := ⟨j 0, j 1, eq_ix2 j⟩
  refine (Cert.DwOutRefIdeal.Sum.final_eq m' c (ix2 p q)).trans ?_
  refine (Cert.DwOutRefIdeal.Sum.out_at _ _ _ _ p q).trans ?_
  refine Eq.trans ?_ (Cert.DwOutIdeal.Sum.result_at m c p q).symm
  rw [Cert.DwOutIdeal.Sum.gv_at, mul_one]
  rw [Finset.sum_range]
  refine Finset.sum_congr rfl fun t _ => ?_
  rw [Cert.DwOutRefIdeal.Sum.s_at, Cert.DwOutRefIdeal.Sum.u_at, Cert.DwOutRefIdeal.Sum.x_eq, Cert.DwOutRefIdeal.Sum.y_eq, h0, h1, h2, h3]
  unfold Cert.DwOutIdeal.Sum.term
  rw [Cert.DwOutIdeal.Sum.cv_at]
  unfold Cert.DwOutIdeal.Sum.xv Cert.DwOutIdeal.Sum.yv
  rw [dif_pos ⟨t.isLt, p.isLt⟩, dif_pos ⟨t.isLt, q.isLt⟩, Cert.DwOutIdeal.Sum.x_eq, Cert.DwOutIdeal.Sum.y_eq]
  exact shuffle _ _ _ _

end Cert.DwOutEq

end
-- ==== Proof.DwInSum.lean ====
/-
  What the weight-gradient kernel of `DwInIdeal` leaves in its result array: for every entry (i, j) the sum over all
  24576 tokens of x[t, i] · c[t] · y[t, j], times the gain of row i. The kernel adds the tokens up in 24 blocks of 1024
  into a scratch that starts at zero, and writes the block out after the last one.
-/
module

public import proofs.«01_k».proof.Proof.Gen.DwInIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwInIdeal.Sum

open Cert.DwInIdeal Cert.DwInIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point computes -/

section Point

variable (c : Dev nD) (i : grid0.Coords) (arg3 : Memref sig .tc .vmem S1024x1024 .fp8e4m3) (harg3 : arg3.IsWhole)
  (arg4 : Memref sig .tc .vmem S1x1x1024 .f32) (harg4 : arg4.IsWhole)
  (arg5 : Memref sig .tc .vmem S1024x2816 .fp8e5m2) (harg5 : arg5.IsWhole)
  (arg6 : Memref sig .tc .vmem S1x1x1024 .f32) (harg6 : arg6.IsWhole)
  (arg7 : Memref sig .tc .vmem S1024x2816 .bf16) (harg7 : arg7.IsWhole)
  (arg8 : Memref sig .tc .vmem S1024x2816 .f32) (harg8 : arg8.IsWhole)
  (x0 : Vec Ideal S1024x1024 .fp8e4m3) (x1 : Vec Ideal S1x1x1024 .f32) (x2 : Vec Ideal S1024x2816 .fp8e5m2)
  (x3 : Vec Ideal S1x1x1024 .f32) (xs0 : Vec Ideal S1024x2816 .f32)

/-- The first token block of an output block leaves in the scratch its product added to zeros. -/
theorem sout_A (hc0 : cond0_0 i) (hc1 : ¬cond0_1 i) :
    sout0_A_0 (F := Ideal) c i arg3 harg3 arg4 harg4 arg5 harg5 arg6 harg6 arg7 harg7 arg8 harg8 hc0 hc1 x0 x1 x2 x3
      = k0_pay2 x0 x1 (k0_pay1 (F := Ideal)) x2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2816) hz2, View.readCov_unit_zero (S := S1024x2816) _ hz2]
  simp only [View.readAt_eq_ld, harg3.read_unread, harg4.read_unread, harg5.read_unread,
    View.ld_unit_zero (S := S1024x1024) hz2, View.ld_unit_zero (S := S1024x2816) hz2, View.ld_unit_zero (S := S1x1x1024) hz3]

/-- Every later token block adds its product to what the scratch held. -/
theorem sout_B (hc0 : ¬cond0_0 i) (hc1 : ¬cond0_1 i) :
    sout0_B_0 (F := Ideal) c i arg3 harg3 arg4 harg4 arg5 harg5 arg6 harg6 arg7 harg7 arg8 harg8 hc0 hc1 x0 x1 x2 x3 xs0
      = k0_pay2 x0 x1 xs0 x2 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg8.read_unread,
    View.ld_unit_zero (S := S1024x1024) hz2, View.ld_unit_zero (S := S1024x2816) hz2, View.ld_unit_zero (S := S1x1x1024) hz3,
    View.ld_unit_zero (S := S1024x2816) hz2]

/-- The last token block writes out the finished scratch times the gain. -/
theorem out_C (hc0 : ¬cond0_0 i) (hc1 : cond0_1 i) :
    out0_C_4 (F := Ideal) c i arg3 harg3 arg4 harg4 arg5 harg5 arg6 harg6 arg7 harg7 arg8 harg8 hc0 hc1 x0 x1 x2 x3 xs0
      = k0_pay3 (k0_pay2 x0 x1 xs0 x2) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1024x2816) _ hz2]
  simp only [View.readAt_eq_ld, harg3.read_unread, harg4.read_unread, harg5.read_unread, harg6.read_unread, harg8.read_unread,
    View.ld_unit_zero (S := S1024x1024) hz2, View.ld_unit_zero (S := S1024x2816) hz2, View.ld_unit_zero (S := S1x1x1024) hz3,
    View.ld_unit_zero (S := S1x1x1024) hz3, View.ld_unit_zero (S := S1024x2816) hz2]

/-- The accumulating product at an entry: the old entry plus the sum over the block's 1024 tokens. -/
theorem pay2_at (p : Fin 1024) (q : Fin 2816) :
    k0_pay2 (F := Ideal) x0 x1 xs0 x2 (ix2 p q)
      = (show EReal from xs0 (ix2 p q)) + ∑ k : Fin 1024, (show EReal from x0 (ix2 k p)) * (show EReal from x1 (ix3 0 0 k)) * (show EReal from x2 (ix2 k q)) := by
  pointwise [k0_pay2]
/-- The zero block is zero. -/
theorem pay1_at (p : Fin 1024) (q : Fin 2816) : k0_pay1 (F := Ideal) (ix2 p q) = (0 : EReal) := by
  pointwise [k0_pay1]
/-- The write-out at an entry: the finished sum times the gain of its row. -/
theorem pay3_at (p : Fin 1024) (q : Fin 2816) :
    k0_pay3 (F := Ideal) xs0 x3 (ix2 p q) = (show EReal from xs0 (ix2 p q)) * (show EReal from x3 (ix3 0 0 p)) := by
  pointwise [k0_pay3]

end Point

/-! ## Which part of each array a grid point reads -/

/-- The block indices of the four inputs at grid point `t`. -/
theorem idx_facts : ∀ t : Fin cfg0.N,
    (win0_0.index t 0 = t.val % 24 ∧ win0_0.index t 1 = t.val / 48)
    ∧ (win0_1.index t 0 = t.val % 24 ∧ win0_1.index t 1 = 0 ∧ win0_1.index t 2 = 0)
    ∧ (win0_2.index t 0 = t.val % 24 ∧ win0_2.index t 1 = t.val / 24 % 2)
    ∧ (win0_3.index t 0 = t.val / 48 ∧ win0_3.index t 1 = 0 ∧ win0_3.index t 2 = 0) := by decide +kernel

variable (m : (ℓ : Loc nD τ sig) → Buf (Elt Ideal) ℓ)

/-- Entry (t, i) of the left operand as the launch finds it. -/
def xv (c : Dev nD) (t i : ℕ) : EReal :=
  if h : t < 24576 ∧ i < 2048 then V m c main_v0 (ix2 (⟨t, h.1⟩ : Fin 24576) (⟨i, h.2⟩ : Fin 2048)) else 0
/-- The scale of token t as the launch finds it. -/
def cv (c : Dev nD) (t : ℕ) : EReal :=
  if h : t < 24576 then V m c main_v5 (ix3 (⟨t / 1024, by omega⟩ : Fin 24) (0 : Fin 1) (⟨t % 1024, by omega⟩ : Fin 1024)) else 0
/-- Entry (t, j) of the right operand as the launch finds it. -/
def yv (c : Dev nD) (t j : ℕ) : EReal :=
  if h : t < 24576 ∧ j < 5632 then V m c main_v1 (ix2 (⟨t, h.1⟩ : Fin 24576) (⟨j, h.2⟩ : Fin 5632)) else 0
/-- The gain of row i as the launch finds it. -/
def gv (c : Dev nD) (i : ℕ) : EReal :=
  if h : i < 2048 then V m c main_v6 (ix3 (⟨i / 1024, by omega⟩ : Fin 2) (0 : Fin 1) (⟨i % 1024, by omega⟩ : Fin 1024)) else 0

/-- One token's contribution to entry (i, j). -/
def term (c : Dev nD) (i j t : ℕ) : EReal := xv m c t i * cv m c t * yv m c t j

theorem blk0_at (c : Dev nD) (t : Fin cfg0.N) (k : Fin 1024) (p : Fin 1024) :
    (iblk m c 0 t : Vec Ideal S1024x1024 .fp8e4m3) (ix2 k p) = xv m c (1024 * (t.val % 24) + k.val) (1024 * (t.val / 48) + p.val) := by
  have hN : t.val < 96 := lt_of_lt_of_eq t.isLt (show cfg0.N = 96 from N_0)
  have hk := k.isLt
  have hp := p.isLt
  have hi := (idx_facts t).1
  unfold xv
  rw [dif_pos ⟨by omega, by omega⟩]
  unfold iblk
  rw [View.read_apply]
  show V m c main_v0 _ = _
  congr 1
  funext a
  apply Fin.ext
  match a with
  | ⟨0, _⟩ => show win0_0.index t 0 * 1024 + 1 * k.val = _; rw [hi.1]; show _ = 1024 * (t.val % 24) + k.val; omega
  | ⟨1, _⟩ => show win0_0.index t 1 * 1024 + 1 * p.val = _; rw [hi.2]; show _ = 1024 * (t.val / 48) + p.val; omega

theorem blk1_at (c : Dev nD) (t : Fin cfg0.N) (k : Fin 1024) :
    (iblk m c 1 t : Vec Ideal S1x1x1024 .f32) (ix3 0 0 k) = cv m c (1024 * (t.val % 24) + k.val) := by
  have hN : t.val < 96 := lt_of_lt_of_eq t.isLt (show cfg0.N = 96 from N_0)
  have hk := k.isLt
  have hi := (idx_facts t).2.1
  unfold cv
  rw [dif_pos (by omega)]
  unfold iblk
  rw [View.read_apply]
  show V m c main_v5 _ = _
  congr 1
  funext a
  apply Fin.ext
  match a with
  | ⟨0, _⟩ => show win0_1.index t 0 * 1 + 1 * 0 = _; rw [hi.1]; show _ = (1024 * (t.val % 24) + k.val) / 1024; omega
  | ⟨1, _⟩ => show win0_1.index t 1 * 1 + 1 * 0 = _; rw [hi.2.1]; rfl
  | ⟨2, _⟩ => show win0_1.index t 2 * 1024 + 1 * k.val = _; rw [hi.2.2]; show _ = (1024 * (t.val % 24) + k.val) % 1024; omega

theorem blk2_at (c : Dev nD) (t : Fin cfg0.N) (k : Fin 1024) (q : Fin 2816) :
    (iblk m c 2 t : Vec Ideal S1024x2816 .fp8e5m2) (ix2 k q) = yv m c (1024 * (t.val % 24) + k.val) (2816 * (t.val / 24 % 2) + q.val) := by
  have hN : t.val < 96 := lt_of_lt_of_eq t.isLt (show cfg0.N = 96 from N_0)
  have hk := k.isLt
  have hq := q.isLt
  have hi := (idx_facts t).2.2.1
  unfold yv
  rw [dif_pos ⟨by omega, by omega⟩]
  unfold iblk
  rw [View.read_apply]
  show V m c main_v1 _ = _
  congr 1
  funext a
  apply Fin.ext
  match a with
  | ⟨0, _⟩ => show win0_2.index t 0 * 1024 + 1 * k.val = _; rw [hi.1]; show _ = 1024 * (t.val % 24) + k.val; omega
  | ⟨1, _⟩ => show win0_2.index t 1 * 2816 + 1 * q.val = _; rw [hi.2]; show _ = 2816 * (t.val / 24 % 2) + q.val; omega

theorem blk3_at (c : Dev nD) (t : Fin cfg0.N) (p : Fin 1024) :
    (iblk m c 3 t : Vec Ideal S1x1x1024 .f32) (ix3 0 0 p) = gv m c (1024 * (t.val / 48) + p.val) := by
  have hN : t.val < 96 := lt_of_lt_of_eq t.isLt (show cfg0.N = 96 from N_0)
  have hp := p.isLt
  have hi := (idx_facts t).2.2.2
  unfold gv
  rw [dif_pos (by omega)]
  unfold iblk
  rw [View.read_apply]
  show V m c main_v6 _ = _
  congr 1
  funext a
  apply Fin.ext
  match a with
  | ⟨0, _⟩ => show win0_3.index t 0 * 1 + 1 * 0 = _; rw [hi.1]; show _ = (1024 * (t.val / 48) + p.val) / 1024; omega
  | ⟨1, _⟩ => show win0_3.index t 1 * 1 + 1 * 0 = _; rw [hi.2.1]; rfl
  | ⟨2, _⟩ => show win0_3.index t 2 * 1024 + 1 * p.val = _; rw [hi.2.2]; show _ = (1024 * (t.val / 48) + p.val) % 1024; omega

/-! ## The scratch after each point, and the result -/

/-- One block's product at an entry, as 1024 terms of the whole sum. -/
theorem point_at (c : Dev nD) (t : Fin cfg0.N) (acc : Vec Ideal S1024x2816 .f32) (p : Fin 1024) (q : Fin 2816) :
    k0_pay2 (F := Ideal) (iblk m c 0 t) (iblk m c 1 t) acc (iblk m c 2 t) (ix2 p q)
      = (show EReal from acc (ix2 p q))
        + ∑ k ∈ Finset.range 1024, term m c (1024 * (t.val / 48) + p.val) (2816 * (t.val / 24 % 2) + q.val) (1024 * (t.val % 24) + k) := by
  rw [pay2_at, ← Fin.sum_univ_eq_sum_range (fun k => term m c (1024 * (t.val / 48) + p.val) (2816 * (t.val / 24 % 2) + q.val) (1024 * (t.val % 24) + k))]
  congr 1
  refine Finset.sum_congr rfl fun k _ => ?_
  rw [blk0_at, blk1_at, blk2_at]
  rfl

/-- After point `n` (not the last of its output block) the scratch holds the sum over the tokens seen so far. -/
theorem scratch_at (c : Dev nD) (p : Fin 1024) (q : Fin 2816) : ∀ (n : ℕ) (h : n < cfg0.N), ¬ n % 24 = 23 →
    (outsAt0 m c n h).2 (ix2 p q)
      = ∑ t ∈ Finset.range (1024 * (n % 24 + 1)), term m c (1024 * (n / 48) + p.val) (2816 * (n / 24 % 2) + q.val) t := by
  intro n
  induction n with
  | zero =>
    intro h h1
    rw [outsAt0_A m c ⟨0, h⟩ rfl h1]
    dsimp only
    rw [sout_A, point_at, pay1_at]
    simp
  | succ n ih =>
    intro h h1
    have hN : n + 1 < 96 := lt_of_lt_of_eq h (show cfg0.N = 96 from N_0)
    by_cases h0 : (n + 1) % 24 = 0
    · rw [outsAt0_A m c ⟨n + 1, h⟩ h0 h1]
      dsimp only
      rw [sout_A, point_at, pay1_at]
      dsimp only
      rw [h0]
      simp
    · rw [outsAt0_B m c ⟨n + 1, h⟩ h0 h1]
      dsimp only
      rw [sout_B, point_at]
      dsimp only
      have e := ih (Nat.lt_of_succ_lt h) (by omega)
      have e1 : n / 48 = (n + 1) / 48 := by omega
      have e2 : n / 24 = (n + 1) / 24 := by omega
      have e3 : n % 24 + 1 = (n + 1) % 24 := by omega
      rw [e1] at e
      try rw [e2] at e
      rw [e3] at e
      rw [show 1024 * ((n + 1) % 24 + 1) = 1024 * ((n + 1) % 24) + 1024 by ring, Finset.sum_range_add]
      exact congrArg (· + _) e

/-- At the last token block of an output block, the written entry is the sum over all tokens times the gain. -/
theorem out_at (c : Dev nD) (p : Fin 1024) (q : Fin 2816) (t : Fin cfg0.N) (h1 : t.val % 24 = 23) :
    (outsAt0 m c t.val t.isLt).1 (ix2 p q)
      = (∑ k ∈ Finset.range 24576, term m c (1024 * (t.val / 48) + p.val) (2816 * (t.val / 24 % 2) + q.val) k)
          * gv m c (1024 * (t.val / 48) + p.val) := by
  have hN : t.val < 96 := lt_of_lt_of_eq t.isLt (show cfg0.N = 96 from N_0)
  have h0 : ¬ t.val % 24 = 0 := by omega
  rw [outsAt0_C m c t h0 h1]
  dsimp only
  rw [out_C, pay3_at, blk3_at]
  refine congrArg (fun z : EReal => z * gv m c (1024 * (t.val / 48) + p.val)) ?_
  refine (point_at m c t _ p q).trans ?_
  have e := scratch_at m c p q (t.val - 1) (Nat.lt_of_le_of_lt (Nat.sub_le _ _) t.isLt) (by omega)
  have e1 : (t.val - 1) / 48 = t.val / 48 := by omega
  have e2 : (t.val - 1) / 24 = t.val / 24 := by omega
  have e3 : 1024 * ((t.val - 1) % 24 + 1) = 1024 * (t.val % 24) := by omega
  rw [e1] at e
  try rw [e2] at e
  rw [e3] at e
  rw [show 24576 = 1024 * (t.val % 24) + 1024 by omega, Finset.sum_range_add]
  exact congrArg (· + _) e

/-- THE RESULT ARRAY: entry (i, j) is the sum over all tokens of x[t, i] · c[t] · y[t, j], times the gain of row i. -/
theorem result_at (c : Dev nD) (i : Fin 2048) (j : Fin 5632) :
    Value.G4 m c (ix2 i j) = (∑ t ∈ Finset.range 24576, term m c i.val j.val t) * gv m c i.val := by
  have hi := i.isLt
  have hj := j.isLt
  unfold Value.G4
  have hpt : Value.pt4Of (ix2 i j) = 24 * (2 * (i.val / 1024) + j.val / 2816) + 23 := by
    show 24 * (2 * (i.val / 1024 - 0) + 1 * (j.val / 2816 - 0)) + 23 = _
    omega
  have hlt : Value.pt4Of (ix2 i j) < cfg0.N := by
    rw [hpt, show cfg0.N = 96 from N_0]; omega
  rw [dif_pos hlt, ← Value.outsAt0_sweep m c _ hlt]
  have e := out_at m c ⟨i.val % 1024, by omega⟩ ⟨j.val % 2816, by omega⟩ ⟨_, hlt⟩ (by dsimp only; omega)
  have hl : Value.loc4Of (ix2 i j) = ix2 (⟨i.val % 1024, by omega⟩ : Fin 1024) (⟨j.val % 2816, by omega⟩ : Fin 2816) := by
    funext a
    match a with
    | ⟨0, _⟩ => rfl
    | ⟨1, _⟩ => rfl
  rw [hl]
  refine e.trans ?_
  dsimp only
  rw [hpt, show 1024 * ((24 * (2 * (i.val / 1024) + j.val / 2816) + 23) / 48) + i.val % 1024 = i.val by omega,
    show 2816 * ((24 * (2 * (i.val / 1024) + j.val / 2816) + 23) / 24 % 2) + j.val % 2816 = j.val by omega]

end Cert.DwInIdeal.Sum

end
-- ==== Proof.DwInRefSum.lean ====
/-
  What the plain reference of `DwIn` leaves in its result array: for every entry (i, j) the sum over all 24576 tokens
  of (x[t, i] · s[t]) · (y[t, j] · u[t]), times the gain of row i.
-/
module

public import proofs.«01_k».proof.Proof.Gen.DwInRefIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwInRefIdeal.Sum

open Cert.DwInRefIdeal Cert.DwInRefIdeal.Gen

theorem hz2 : (![0, 0] : Fin 2 → Nat) = fun _ => 0 := funext fun a => by fin_cases a <;> rfl

/-- The reference's one product at an entry. -/
theorem out_at (x0 : Vec Ideal S24576x2048 .fp8e4m3) (x1 : Vec Ideal S24576x1 .f32) (x2 : Vec Ideal S24576x5632 .fp8e5m2)
    (x3 : Vec Ideal S24576x1 .f32) (x4 : Vec Ideal S2048x1 .f32) (p : Fin 2048) (q : Fin 5632) :
    out0_5 (F := Ideal) x0 x1 x2 x3 x4 (ix2 p q)
      = (show EReal from x4 (ix2 p 0)) * (∑ k : Fin 24576, ((show EReal from x0 (ix2 k p)) * (show EReal from x1 (ix2 k 0)))
          * ((show EReal from x2 (ix2 k q)) * (show EReal from x3 (ix2 k 0)))) := by
  unfold out0_5
  rw [View.canon_unit_zero hz2, View.ld_unit_zero (S := S24576x2048) hz2, View.ld_unit_zero (S := S24576x5632) hz2,
    View.ld_unit_zero (S := S24576x1) hz2, View.ld_unit_zero (S := S24576x1) hz2, View.ld_unit_zero (S := S2048x1) hz2]
  pointwise [k0_pay1]

variable (m : (ℓ : Loc nD τ sig) → Buf (Elt Ideal) ℓ)

theorem blk0 (c : Dev nD) : (iblk m c 0 t0_0 : Vec Ideal S24576x2048 .fp8e4m3) = V m c main_v0 := by
  funext j
  unfold iblk
  rw [View.read_apply]
  show V m c main_v0 _ = V m c main_v0 j
  congr 1
  funext a
  apply Fin.ext
  match a with
  | ⟨0, _⟩ => show 0 * 24576 + 1 * (j 0).val = (j 0).val; omega
  | ⟨1, _⟩ => show 0 * 2048 + 1 * (j 1).val = (j 1).val; omega

theorem blk1 (c : Dev nD) : (iblk m c 1 t0_0 : Vec Ideal S24576x1 .f32) = V m c main_v2 := by
  funext j
  unfold iblk
  rw [View.read_apply]
  show V m c main_v2 _ = V m c main_v2 j
  congr 1
  funext a
  apply Fin.ext
  match a with
  | ⟨0, _⟩ => show 0 * 24576 + 1 * (j 0).val = (j 0).val; omega
  | ⟨1, _⟩ => show 0 * 1 + 1 * (j 1).val = (j 1).val; omega

theorem blk2 (c : Dev nD) : (iblk m c 2 t0_0 : Vec Ideal S24576x5632 .fp8e5m2) = V m c main_v3 := by
  funext j
  unfold iblk
  rw [View.read_apply]
  show V m c main_v3 _ = V m c main_v3 j
  congr 1
  funext a
  apply Fin.ext
  match a with
  | ⟨0, _⟩ => show 0 * 24576 + 1 * (j 0).val = (j 0).val; omega
  | ⟨1, _⟩ => show 0 * 5632 + 1 * (j 1).val = (j 1).val; omega

theorem blk3 (c : Dev nD) : (iblk m c 3 t0_0 : Vec Ideal S24576x1 .f32) = V m c main_v5 := by
  funext j
  unfold iblk
  rw [View.read_apply]
  show V m c main_v5 _ = V m c main_v5 j
  congr 1
  funext a
  apply Fin.ext
  match a with
  | ⟨0, _⟩ => show 0 * 24576 + 1 * (j 0).val = (j 0).val; omega
  | ⟨1, _⟩ => show 0 * 1 + 1 * (j 1).val = (j 1).val; omega

theorem blk4 (c : Dev nD) : (iblk m c 4 t0_0 : Vec Ideal S2048x1 .f32) = V m c main_v6 := by
  funext j
  unfold iblk
  rw [View.read_apply]
  show V m c main_v6 _ = V m c main_v6 j
  congr 1
  funext a
  apply Fin.ext
  match a with
  | ⟨0, _⟩ => show 0 * 2048 + 1 * (j 0).val = (j 0).val; omega
  | ⟨1, _⟩ => show 0 * 1 + 1 * (j 1).val = (j 1).val; omega

/-- The reference's result array is what its one block computes. -/
theorem final_eq (c : Dev nD) (j : S2048x5632.Idx) :
    (dats m 0 c).arrAt 5 cfg0.N j
      = out0_5 (F := Ideal) (V m c main_v0) (V m c main_v2) (V m c main_v3) (V m c main_v5) (V m c main_v6) j := by
  have e := congrFun ((Value.blocks5 m c t0_0 rfl).trans (Value.flushed5 m c t0_0)) j
  rw [blk0, blk1, blk2, blk3, blk4] at e
  rw [View.read_apply] at e
  refine Eq.trans ?_ e
  congr 1
  funext a
  apply Fin.ext
  match a with
  | ⟨0, _⟩ => show (j 0).val = 0 * 2048 + 1 * (j 0).val; omega
  | ⟨1, _⟩ => show (j 1).val = 0 * 5632 + 1 * (j 1).val; omega

end Cert.DwInRefIdeal.Sum

end
-- ==== Proof.DwInEq.lean ====
/-
  The kernel's result array and the reference's are the same array for `DwIn`: both are the sum over the tokens, entry
  by entry; the kernel multiplies the two scales of a token together before it meets the left operand, the reference
  scales each operand by its own, and the products agree by re-ordering the factors.
-/
module

public import proofs.«01_k».proof.Defs
public import proofs.«01_k».proof.Proof.DwInSum
public import proofs.«01_k».proof.Proof.DwInRefSum

@[expose] public section

set_option maxRecDepth 100000

noncomputable section

open Idealize.ShloMosaic Idealize.ShloMosaic.TcCoe Idealize.SL.Sem
open scoped BigOperators

namespace Cert.DwInEq

/-- The re-ordering of one token's four factors. -/
theorem shuffle (x s y u : EReal) : (x * s) * (y * u) = x * (s * u) * y := by ac_rfl

/-! ## Reading the host's reshapes -/

/-- A token scale cut in blocks of tokens, the product of two flattened scales, read at token t. -/
theorem scale_split (s d : (⟨2, ![6, 4096]⟩ : Shape).Idx → EReal) (h1 h2 : (⟨2, ![6, 4096]⟩ : Shape).ShapeCasts ⟨1, ![24576]⟩)
    (h : (⟨1, ![24576]⟩ : Shape).ShapeCasts ⟨3, ![24, 1, 1024]⟩) (t : Fin 24576) :
    shapeCast ⟨3, ![24, 1, 1024]⟩ (mulf (F := Ideal) (φ := .f32) (shapeCast ⟨1, ![24576]⟩ s h1) (shapeCast ⟨1, ![24576]⟩ d h2)) h
        (ix3 (⟨t.val / 1024, by omega⟩ : Fin 24) (0 : Fin 1) (⟨t.val % 1024, by omega⟩ : Fin 1024))
      = s (ix2 (⟨t.val / 4096, by omega⟩ : Fin 6) (⟨t.val % 4096, by omega⟩ : Fin 4096))
        * d (ix2 (⟨t.val / 4096, by omega⟩ : Fin 6) (⟨t.val % 4096, by omega⟩ : Fin 4096)) := by
  pointwise
/-- A token scale as one column, read at token t. -/
theorem scale_col (s : (⟨2, ![6, 4096]⟩ : Shape).Idx → EReal) (h1 : (⟨2, ![6, 4096]⟩ : Shape).BroadcastsInDim ⟨3, ![6, 4096, 1]⟩ ![0, 1])
    (h : (⟨3, ![6, 4096, 1]⟩ : Shape).ShapeCasts ⟨2, ![24576, 1]⟩) (t : Fin 24576) :
    shapeCast ⟨2, ![24576, 1]⟩ (broadcastInDim ⟨3, ![6, 4096, 1]⟩ ![0, 1] h1 s) h (ix2 t 0)
      = s (ix2 (⟨t.val / 4096, by omega⟩ : Fin 6) (⟨t.val % 4096, by omega⟩ : Fin 4096)) := by
  pointwise

/-- The gain vector cut in blocks of rows, read at row i. -/
theorem gain_split (s : (⟨1, ![2048]⟩ : Shape).Idx → EReal) (h : (⟨1, ![2048]⟩ : Shape).ShapeCasts ⟨3, ![2, 1, 1024]⟩) (i : Fin 2048) :
    shapeCast ⟨3, ![2, 1, 1024]⟩ s h (ix3 (⟨i.val / 1024, by omega⟩ : Fin 2) (0 : Fin 1) (⟨i.val % 1024, by omega⟩ : Fin 1024)) = s (ix1 i) := by
  pointwise
/-- The gain vector as one column, read at row i. -/
theorem gain_col (s : (⟨1, ![2048]⟩ : Shape).Idx → EReal) (h : (⟨1, ![2048]⟩ : Shape).BroadcastsInDim ⟨2, ![2048, 1]⟩ ![0]) (i : Fin 2048) :
    broadcastInDim ⟨2, ![2048, 1]⟩ ![0] h s (ix2 i 0) = s (ix1 i) := by
  pointwise

end Cert.DwInEq

/-! ## The kernel's arrays, from its arguments -/

namespace Cert.DwInIdeal.Sum

open Cert.DwInIdeal Cert.DwInIdeal.Gen Cert.DwInEq

variable (m : (ℓ : Loc nD τ sig) → Buf (Elt Ideal) ℓ)

/-- The left operand is the flattened first argument. -/
theorem x_eq (c : Dev nD) : V m c main_v0 = shapeCast S24576x2048 (m ((c : Thread nD τ).loc main_arg0)) shapeCasts_S6x4096x2048_S24576x2048 := by
  show StableHlo.after hostOps0 (fun b => m (c, b)) main_v0 = _
  after_results
  rfl
/-- The right operand is the flattened third argument. -/
theorem y_eq (c : Dev nD) : V m c main_v1 = shapeCast S24576x5632 (m ((c : Thread nD τ).loc main_arg2)) shapeCasts_S6x4096x5632_S24576x5632 := by
  show StableHlo.after hostOps0 (fun b => m (c, b)) main_v1 = _
  after_results
  rfl
/-- The scale of token t is the product of its two scales. -/
theorem cv_at (c : Dev nD) (t : Fin 24576) : cv m c t.val
    = (show EReal from m ((c : Thread nD τ).loc main_arg1) (ix2 (⟨t.val / 4096, by omega⟩ : Fin 6) (⟨t.val % 4096, by omega⟩ : Fin 4096)))
      * (show EReal from m ((c : Thread nD τ).loc main_arg3) (ix2 (⟨t.val / 4096, by omega⟩ : Fin 6) (⟨t.val % 4096, by omega⟩ : Fin 4096))) := by
  have ht := t.isLt
  unfold cv
  rw [dif_pos ht]
  have e : V m c main_v5 = shapeCast S24x1x1024 (mulf (F := Ideal) (φ := .f32) (shapeCast S24576 (m ((c : Thread nD τ).loc main_arg1)) shapeCasts_S6x4096_S24576)
      (shapeCast S24576 (m ((c : Thread nD τ).loc main_arg3)) shapeCasts_S6x4096_S24576)) shapeCasts_S24576_S24x1x1024 := by
    show StableHlo.after hostOps0 (fun b => m (c, b)) main_v5 = _
    after_results
    rfl
  rw [e]
  generalize m ((c : Thread nD τ).loc main_arg1) = s
  generalize m ((c : Thread nD τ).loc main_arg3) = d
  exact scale_split s d _ _ _ t
/-- The gain of row i is entry i of the fifth argument. -/
theorem gv_at (c : Dev nD) (i : Fin 2048) : gv m c i.val = (show EReal from m ((c : Thread nD τ).loc main_arg4) (ix1 i)) := by
  have hi := i.isLt
  unfold gv
  rw [dif_pos hi]
  have e : V m c main_v6 = shapeCast S2x1x1024 (m ((c : Thread nD τ).loc main_arg4)) shapeCasts_S2048_S2x1x1024 := by
    show StableHlo.after hostOps0 (fun b => m (c, b)) main_v6 = _
    after_results
    rfl
  rw [e]
  generalize m ((c : Thread nD τ).loc main_arg4) = s
  exact gain_split s _ i

end Cert.DwInIdeal.Sum

/-! ## The reference's arrays, from its arguments -/

namespace Cert.DwInRefIdeal.Sum

open Cert.DwInRefIdeal Cert.DwInRefIdeal.Gen Cert.DwInEq

variable (m : (ℓ : Loc nD τ sig) → Buf (Elt Ideal) ℓ)

/-- The left operand is the flattened first argument. -/
theorem x_eq (c : Dev nD) : V m c main_v0 = shapeCast S24576x2048 (m ((c : Thread nD τ).loc main_arg0)) shapeCasts_S6x4096x2048_S24576x2048 := by
  show StableHlo.after hostOps0 (fun b => m (c, b)) main_v0 = _
  after_results
  rfl
/-- The right operand is the flattened third argument. -/
theorem y_eq (c : Dev nD) : V m c main_v3 = shapeCast S24576x5632 (m ((c : Thread nD τ).loc main_arg2)) shapeCasts_S6x4096x5632_S24576x5632 := by
  show StableHlo.after hostOps0 (fun b => m (c, b)) main_v3 = _
  after_results
  rfl
/-- The left operand's scale column at token t. -/
theorem s_at (c : Dev nD) (t : Fin 24576) : (show EReal from V m c main_v2 (ix2 t 0))
    = (show EReal from m ((c : Thread nD τ).loc main_arg1) (ix2 (⟨t.val / 4096, by omega⟩ : Fin 6) (⟨t.val % 4096, by omega⟩ : Fin 4096))) := by
  have e : V m c main_v2 = shapeCast S24576x1 (broadcastInDim S6x4096x1 ![0, 1] bcast_S6x4096_S6x4096x1_0_1 (m ((c : Thread nD τ).loc main_arg1))) shapeCasts_S6x4096x1_S24576x1 := by
    show StableHlo.after hostOps0 (fun b => m (c, b)) main_v2 = _
    after_results
    rfl
  rw [e]
  generalize m ((c : Thread nD τ).loc main_arg1) = s
  exact scale_col s _ _ t
/-- The right operand's scale column at token t. -/
theorem u_at (c : Dev nD) (t : Fin 24576) : (show EReal from V m c main_v5 (ix2 t 0))
    = (show EReal from m ((c : Thread nD τ).loc main_arg3) (ix2 (⟨t.val / 4096, by omega⟩ : Fin 6) (⟨t.val % 4096, by omega⟩ : Fin 4096))) := by
  have e : V m c main_v5 = shapeCast S24576x1 (broadcastInDim S6x4096x1 ![0, 1] bcast_S6x4096_S6x4096x1_0_1 (m ((c : Thread nD τ).loc main_arg3))) shapeCasts_S6x4096x1_S24576x1 := by
    show StableHlo.after hostOps0 (fun b => m (c, b)) main_v5 = _
    after_results
    rfl
  rw [e]
  generalize m ((c : Thread nD τ).loc main_arg3) = s
  exact scale_col s _ _ t
/-- The gain column as the reference lays it out, read at row i. -/
theorem g_at (c : Dev nD) (i : Fin 2048) :
    (show EReal from V m c main_v6 (ix2 i 0)) = (show EReal from m ((c : Thread nD τ).loc main_arg4) (ix1 i)) := by
  have e : V m c main_v6 = broadcastInDim S2048x1 ![0] bcast_S2048_S2048x1_0 (m ((c : Thread nD τ).loc main_arg4)) := by
    show StableHlo.after hostOps0 (fun b => m (c, b)) main_v6 = _
    after_results
  rw [e]
  generalize m ((c : Thread nD τ).loc main_arg4) = s
  exact gain_col s _ i

end Cert.DwInRefIdeal.Sum

/-! ## The equation -/

namespace Cert.DwInEq

/-- THE EQUATION: on equal arguments the kernel's result array is the reference's, entry by entry. -/
theorem result_eq (m : (ℓ : Loc Cert.DwInIdeal.nD Cert.DwInIdeal.τ Cert.DwInIdeal.sig) → Buf (Elt Ideal) ℓ)
    (m' : (ℓ : Loc Cert.DwInRefIdeal.nD Cert.DwInRefIdeal.τ Cert.DwInRefIdeal.sig) → Buf (Elt Ideal) ℓ)
    (c : Dev Cert.DwInIdeal.nD)
    (h0 : m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0))
    (h1 : m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1))
    (h2 : m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2))
    (h3 : m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3))
    (h4 : m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)) :
    (Cert.DwInRefIdeal.Gen.dats m' 0 c).arrAt 5 Cert.DwInRefIdeal.cfg0.N = Cert.DwInIdeal.Value.G4 m c := by
  funext j
  obtain ⟨p, q, rfl⟩ : ∃ (p : Fin 2048) (q : Fin 5632), j = ix2 p q := ⟨j 0, j 1, eq_ix2 j⟩
  refine (Cert.DwInRefIdeal.Sum.final_eq m' c (ix2 p q)).trans ?_
  refine (Cert.DwInRefIdeal.Sum.out_at _ _ _ _ _ p q).trans ?_
  refine Eq.trans ?_ (Cert.DwInIdeal.Sum.result_at m c p q).symm
  rw [mul_comm]
  refine Ideal.mul_congr ?_ ?_
  swap
  · rw [Cert.DwInIdeal.Sum.gv_at, Cert.DwInRefIdeal.Sum.g_at, h4]
  rw [Finset.sum_range]
  refine Finset.sum_congr rfl fun t _ => ?_
  rw [Cert.DwInRefIdeal.Sum.s_at, Cert.DwInRefIdeal.Sum.u_at, Cert.DwInRefIdeal.Sum.x_eq, Cert.DwInRefIdeal.Sum.y_eq, h0, h1, h2, h3]
  unfold Cert.DwInIdeal.Sum.term
  rw [Cert.DwInIdeal.Sum.cv_at]
  unfold Cert.DwInIdeal.Sum.xv Cert.DwInIdeal.Sum.yv
  rw [dif_pos ⟨t.isLt, p.isLt⟩, dif_pos ⟨t.isLt, q.isLt⟩, Cert.DwInIdeal.Sum.x_eq, Cert.DwInIdeal.Sum.y_eq]
  exact shuffle _ _ _ _

end Cert.DwInEq

end
-- ==== Proof.DwQkvSum.lean ====
/-
  What the weight-gradient kernel of `DwQkvIdeal` leaves in its result array: for every entry (i, j) the sum over all
  24576 tokens of x[t, i] · c[t] · y[t, j], times the gain of row i. The kernel adds the tokens up in 24 blocks of 1024
  into a scratch that starts at zero, and writes the block out after the last one.
-/
module

public import proofs.«01_k».proof.Proof.DwQkvVal
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwQkvIdeal.Sum

open Cert.DwQkvIdeal Cert.DwQkvIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point computes -/

section Point

variable (c : Dev nD) (i : grid0.Coords) (arg3 : Memref sig .tc .vmem S1024x1024 .fp8e4m3) (harg3 : arg3.IsWhole)
  (arg4 : Memref sig .tc .vmem S1x1x1024 .f32) (harg4 : arg4.IsWhole)
  (arg5 : Memref sig .tc .vmem S1024x3072 .fp8e5m2) (harg5 : arg5.IsWhole)
  (arg6 : Memref sig .tc .vmem S1x1x1024 .f32) (harg6 : arg6.IsWhole)
  (arg7 : Memref sig .tc .vmem S1024x3072 .bf16) (harg7 : arg7.IsWhole)
  (arg8 : Memref sig .tc .vmem S1024x3072 .f32) (harg8 : arg8.IsWhole)
  (x0 : Vec Ideal S1024x1024 .fp8e4m3) (x1 : Vec Ideal S1x1x1024 .f32) (x2 : Vec Ideal S1024x3072 .fp8e5m2)
  (x3 : Vec Ideal S1x1x1024 .f32) (xs0 : Vec Ideal S1024x3072 .f32)

/-- The first token block of an output block leaves in the scratch its product added to zeros. -/
theorem sout_A (hc0 : cond0_0 i) (hc1 : ¬cond0_1 i) :
    sout0_A_0 (F := Ideal) c i arg3 harg3 arg4 harg4 arg5 harg5 arg6 harg6 arg7 harg7 arg8 harg8 hc0 hc1 x0 x1 x2 x3
      = k0_pay2 x0 x1 (k0_pay1 (F := Ideal)) x2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x3072) hz2, View.readCov_unit_zero (S := S1024x3072) _ hz2]
  simp only [View.readAt_eq_ld, harg3.read_unread, harg4.read_unread, harg5.read_unread,
    View.ld_unit_zero (S := S1024x1024) hz2, View.ld_unit_zero (S := S1024x3072) hz2, View.ld_unit_zero (S := S1x1x1024) hz3]

/-- Every later token block adds its product to what the scratch held. -/
theorem sout_B (hc0 : ¬cond0_0 i) (hc1 : ¬cond0_1 i) :
    sout0_B_0 (F := Ideal) c i arg3 harg3 arg4 harg4 arg5 harg5 arg6 harg6 arg7 harg7 arg8 harg8 hc0 hc1 x0 x1 x2 x3 xs0
      = k0_pay2 x0 x1 xs0 x2 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg8.read_unread,
    View.ld_unit_zero (S := S1024x1024) hz2, View.ld_unit_zero (S := S1024x3072) hz2, View.ld_unit_zero (S := S1x1x1024) hz3,
    View.ld_unit_zero (S := S1024x3072) hz2]

/-- The last token block writes out the finished scratch times the gain. -/
theorem out_C (hc0 : ¬cond0_0 i) (hc1 : cond0_1 i) :
    out0_C_4 (F := Ideal) c i arg3 harg3 arg4 harg4 arg5 harg5 arg6 harg6 arg7 harg7 arg8 harg8 hc0 hc1 x0 x1 x2 x3 xs0
      = k0_pay3 (k0_pay2 x0 x1 xs0 x2) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1024x3072) _ hz2]
  simp only [View.readAt_eq_ld, harg3.read_unread, harg4.read_unread, harg5.read_unread, harg6.read_unread, harg8.read_unread,
    View.ld_unit_zero (S := S1024x1024) hz2, View.ld_unit_zero (S := S1024x3072) hz2, View.ld_unit_zero (S := S1x1x1024) hz3,
    View.ld_unit_zero (S := S1x1x1024) hz3, View.ld_unit_zero (S := S1024x3072) hz2]

/-- The accumulating product at an entry: the old entry plus the sum over the block's 1024 tokens. -/
theorem pay2_at (p : Fin 1024) (q : Fin 3072) :
    k0_pay2 (F := Ideal) x0 x1 xs0 x2 (ix2 p q)
      = (show EReal from xs0 (ix2 p q)) + ∑ k : Fin 1024, (show EReal from x0 (ix2 k p)) * (show EReal from x1 (ix3 0 0 k)) * (show EReal from x2 (ix2 k q)) := by
  pointwise [k0_pay2]
/-- The zero block is zero. -/
theorem pay1_at (p : Fin 1024) (q : Fin 3072) : k0_pay1 (F := Ideal) (ix2 p q) = (0 : EReal) := by
  pointwise [k0_pay1]
/-- The write-out at an entry: the finished sum times the gain of its row. -/
theorem pay3_at (p : Fin 1024) (q : Fin 3072) :
    k0_pay3 (F := Ideal) xs0 x3 (ix2 p q) = (show EReal from xs0 (ix2 p q)) * (show EReal from x3 (ix3 0 0 p)) := by
  pointwise [k0_pay3]

end Point

/-! ## Which part of each array a grid point reads -/

/-- The block indices of the four inputs at grid point `t`. -/
theorem idx_facts : ∀ t : Fin cfg0.N,
    (win0_0.index t 0 = t.val % 24 ∧ win0_0.index t 1 = t.val / 48)
    ∧ (win0_1.index t 0 = t.val % 24 ∧ win0_1.index t 1 = 0 ∧ win0_1.index t 2 = 0)
    ∧ (win0_2.index t 0 = t.val % 24 ∧ win0_2.index t 1 = t.val / 24 % 2)
    ∧ (win0_3.index t 0 = t.val / 48 ∧ win0_3.index t 1 = 0 ∧ win0_3.index t 2 = 0) := by decide +kernel

variable (m : (ℓ : Loc nD τ sig) → Buf (Elt Ideal) ℓ)

/-- Entry (t, i) of the left operand as the launch finds it. -/
def xv (c : Dev nD) (t i : ℕ) : EReal :=
  if h : t < 24576 ∧ i < 2048 then V m c main_v0 (ix2 (⟨t, h.1⟩ : Fin 24576) (⟨i, h.2⟩ : Fin 2048)) else 0
/-- The scale of token t as the launch finds it. -/
def cv (c : Dev nD) (t : ℕ) : EReal :=
  if h : t < 24576 then V m c main_v5 (ix3 (⟨t / 1024, by omega⟩ : Fin 24) (0 : Fin 1) (⟨t % 1024, by omega⟩ : Fin 1024)) else 0
/-- Entry (t, j) of the right operand as the launch finds it. -/
def yv (c : Dev nD) (t j : ℕ) : EReal :=
  if h : t < 24576 ∧ j < 6144 then V m c main_v1 (ix2 (⟨t, h.1⟩ : Fin 24576) (⟨j, h.2⟩ : Fin 6144)) else 0
/-- The gain of row i as the launch finds it. -/
def gv (c : Dev nD) (i : ℕ) : EReal :=
  if h : i < 2048 then V m c main_v6 (ix3 (⟨i / 1024, by omega⟩ : Fin 2) (0 : Fin 1) (⟨i % 1024, by omega⟩ : Fin 1024)) else 0

/-- One token's contribution to entry (i, j). -/
def term (c : Dev nD) (i j t : ℕ) : EReal := xv m c t i * cv m c t * yv m c t j

theorem blk0_at (c : Dev nD) (t : Fin cfg0.N) (k : Fin 1024) (p : Fin 1024) :
    (iblk m c 0 t : Vec Ideal S1024x1024 .fp8e4m3) (ix2 k p) = xv m c (1024 * (t.val % 24) + k.val) (1024 * (t.val / 48) + p.val) := by
  have hN : t.val < 96 := lt_of_lt_of_eq t.isLt (show cfg0.N = 96 from N_0)
  have hk := k.isLt
  have hp := p.isLt
  have hi := (idx_facts t).1
  unfold xv
  rw [dif_pos ⟨by omega, by omega⟩]
  unfold iblk
  rw [View.read_apply]
  show V m c main_v0 _ = _
  congr 1
  funext a
  apply Fin.ext
  match a with
  | ⟨0, _⟩ => show win0_0.index t 0 * 1024 + 1 * k.val = _; rw [hi.1]; show _ = 1024 * (t.val % 24) + k.val; omega
  | ⟨1, _⟩ => show win0_0.index t 1 * 1024 + 1 * p.val = _; rw [hi.2]; show _ = 1024 * (t.val / 48) + p.val; omega

theorem blk1_at (c : Dev nD) (t : Fin cfg0.N) (k : Fin 1024) :
    (iblk m c 1 t : Vec Ideal S1x1x1024 .f32) (ix3 0 0 k) = cv m c (1024 * (t.val % 24) + k.val) := by
  have hN : t.val < 96 := lt_of_lt_of_eq t.isLt (show cfg0.N = 96 from N_0)
  have hk := k.isLt
  have hi := (idx_facts t).2.1
  unfold cv
  rw [dif_pos (by omega)]
  unfold iblk
  rw [View.read_apply]
  show V m c main_v5 _ = _
  congr 1
  funext a
  apply Fin.ext
  match a with
  | ⟨0, _⟩ => show win0_1.index t 0 * 1 + 1 * 0 = _; rw [hi.1]; show _ = (1024 * (t.val % 24) + k.val) / 1024; omega
  | ⟨1, _⟩ => show win0_1.index t 1 * 1 + 1 * 0 = _; rw [hi.2.1]; rfl
  | ⟨2, _⟩ => show win0_1.index t 2 * 1024 + 1 * k.val = _; rw [hi.2.2]; show _ = (1024 * (t.val % 24) + k.val) % 1024; omega

theorem blk2_at (c : Dev nD) (t : Fin cfg0.N) (k : Fin 1024) (q : Fin 3072) :
    (iblk m c 2 t : Vec Ideal S1024x3072 .fp8e5m2) (ix2 k q) = yv m c (1024 * (t.val % 24) + k.val) (3072 * (t.val / 24 % 2) + q.val) := by
  have hN : t.val < 96 := lt_of_lt_of_eq t.isLt (show cfg0.N = 96 from N_0)
  have hk := k.isLt
  have hq := q.isLt
  have hi := (idx_facts t).2.2.1
  unfold yv
  rw [dif_pos ⟨by omega, by omega⟩]
  unfold iblk
  rw [View.read_apply]
  show V m c main_v1 _ = _
  congr 1
  funext a
  apply Fin.ext
  match a with
  | ⟨0, _⟩ => show win0_2.index t 0 * 1024 + 1 * k.val = _; rw [hi.1]; show _ = 1024 * (t.val % 24) + k.val; omega
  | ⟨1, _⟩ => show win0_2.index t 1 * 3072 + 1 * q.val = _; rw [hi.2]; show _ = 3072 * (t.val / 24 % 2) + q.val; omega

theorem blk3_at (c : Dev nD) (t : Fin cfg0.N) (p : Fin 1024) :
    (iblk m c 3 t : Vec Ideal S1x1x1024 .f32) (ix3 0 0 p) = gv m c (1024 * (t.val / 48) + p.val) := by
  have hN : t.val < 96 := lt_of_lt_of_eq t.isLt (show cfg0.N = 96 from N_0)
  have hp := p.isLt
  have hi := (idx_facts t).2.2.2
  unfold gv
  rw [dif_pos (by omega)]
  unfold iblk
  rw [View.read_apply]
  show V m c main_v6 _ = _
  congr 1
  funext a
  apply Fin.ext
  match a with
  | ⟨0, _⟩ => show win0_3.index t 0 * 1 + 1 * 0 = _; rw [hi.1]; show _ = (1024 * (t.val / 48) + p.val) / 1024; omega
  | ⟨1, _⟩ => show win0_3.index t 1 * 1 + 1 * 0 = _; rw [hi.2.1]; rfl
  | ⟨2, _⟩ => show win0_3.index t 2 * 1024 + 1 * p.val = _; rw [hi.2.2]; show _ = (1024 * (t.val / 48) + p.val) % 1024; omega

/-! ## The scratch after each point, and the result -/

/-- One block's product at an entry, as 1024 terms of the whole sum. -/
theorem point_at (c : Dev nD) (t : Fin cfg0.N) (acc : Vec Ideal S1024x3072 .f32) (p : Fin 1024) (q : Fin 3072) :
    k0_pay2 (F := Ideal) (iblk m c 0 t) (iblk m c 1 t) acc (iblk m c 2 t) (ix2 p q)
      = (show EReal from acc (ix2 p q))
        + ∑ k ∈ Finset.range 1024, term m c (1024 * (t.val / 48) + p.val) (3072 * (t.val / 24 % 2) + q.val) (1024 * (t.val % 24) + k) := by
  rw [pay2_at, ← Fin.sum_univ_eq_sum_range (fun k => term m c (1024 * (t.val / 48) + p.val) (3072 * (t.val / 24 % 2) + q.val) (1024 * (t.val % 24) + k))]
  congr 1
  refine Finset.sum_congr rfl fun k _ => ?_
  rw [blk0_at, blk1_at, blk2_at]
  rfl

/-- After point `n` (not the last of its output block) the scratch holds the sum over the tokens seen so far. -/
theorem scratch_at (c : Dev nD) (p : Fin 1024) (q : Fin 3072) : ∀ (n : ℕ) (h : n < cfg0.N), ¬ n % 24 = 23 →
    (outsAt0 m c n h).2 (ix2 p q)
      = ∑ t ∈ Finset.range (1024 * (n % 24 + 1)), term m c (1024 * (n / 48) + p.val) (3072 * (n / 24 % 2) + q.val) t := by
  intro n
  induction n with
  | zero =>
    intro h h1
    rw [outsAt0_A m c ⟨0, h⟩ rfl h1]
    dsimp only
    rw [sout_A, point_at, pay1_at]
    simp
  | succ n ih =>
    intro h h1
    have hN : n + 1 < 96 := lt_of_lt_of_eq h (show cfg0.N = 96 from N_0)
    by_cases h0 : (n + 1) % 24 = 0
    · rw [outsAt0_A m c ⟨n + 1, h⟩ h0 h1]
      dsimp only
      rw [sout_A, point_at, pay1_at]
      dsimp only
      rw [h0]
      simp
    · rw [outsAt0_B m c ⟨n + 1, h⟩ h0 h1]
      dsimp only
      rw [sout_B, point_at]
      dsimp only
      have e := ih (Nat.lt_of_succ_lt h) (by omega)
      have e1 : n / 48 = (n + 1) / 48 := by omega
      have e2 : n / 24 = (n + 1) / 24 := by omega
      have e3 : n % 24 + 1 = (n + 1) % 24 := by omega
      rw [e1] at e
      try rw [e2] at e
      rw [e3] at e
      rw [show 1024 * ((n + 1) % 24 + 1) = 1024 * ((n + 1) % 24) + 1024 by ring, Finset.sum_range_add]
      exact congrArg (· + _) e

/-- At the last token block of an output block, the written entry is the sum over all tokens times the gain. -/
theorem out_at (c : Dev nD) (p : Fin 1024) (q : Fin 3072) (t : Fin cfg0.N) (h1 : t.val % 24 = 23) :
    (outsAt0 m c t.val t.isLt).1 (ix2 p q)
      = (∑ k ∈ Finset.range 24576, term m c (1024 * (t.val / 48) + p.val) (3072 * (t.val / 24 % 2) + q.val) k)
          * gv m c (1024 * (t.val / 48) + p.val) := by
  have hN : t.val < 96 := lt_of_lt_of_eq t.isLt (show cfg0.N = 96 from N_0)
  have h0 : ¬ t.val % 24 = 0 := by omega
  rw [outsAt0_C m c t h0 h1]
  dsimp only
  rw [out_C, pay3_at, blk3_at]
  refine congrArg (fun z : EReal => z * gv m c (1024 * (t.val / 48) + p.val)) ?_
  refine (point_at m c t _ p q).trans ?_
  have e := scratch_at m c p q (t.val - 1) (Nat.lt_of_le_of_lt (Nat.sub_le _ _) t.isLt) (by omega)
  have e1 : (t.val - 1) / 48 = t.val / 48 := by omega
  have e2 : (t.val - 1) / 24 = t.val / 24 := by omega
  have e3 : 1024 * ((t.val - 1) % 24 + 1) = 1024 * (t.val % 24) := by omega
  rw [e1] at e
  try rw [e2] at e
  rw [e3] at e
  rw [show 24576 = 1024 * (t.val % 24) + 1024 by omega, Finset.sum_range_add]
  exact congrArg (· + _) e

/-- THE RESULT ARRAY: entry (i, j) is the sum over all tokens of x[t, i] · c[t] · y[t, j], times the gain of row i. -/
theorem result_at (c : Dev nD) (i : Fin 2048) (j : Fin 6144) :
    Value.G4 m c (ix2 i j) = (∑ t ∈ Finset.range 24576, term m c i.val j.val t) * gv m c i.val := by
  have hi := i.isLt
  have hj := j.isLt
  unfold Value.G4
  have hpt : Value.pt4Of (ix2 i j) = 24 * (2 * (i.val / 1024) + j.val / 3072) + 23 := by
    show 24 * (2 * (i.val / 1024 - 0) + 1 * (j.val / 3072 - 0)) + 23 = _
    omega
  have hlt : Value.pt4Of (ix2 i j) < cfg0.N := by
    rw [hpt, show cfg0.N = 96 from N_0]; omega
  rw [dif_pos hlt]
  have e := out_at m c ⟨i.val % 1024, by omega⟩ ⟨j.val % 3072, by omega⟩ ⟨_, hlt⟩ (by dsimp only; omega)
  have hl : Value.loc4Of (ix2 i j) = ix2 (⟨i.val % 1024, by omega⟩ : Fin 1024) (⟨j.val % 3072, by omega⟩ : Fin 3072) := by
    funext a
    match a with
    | ⟨0, _⟩ => rfl
    | ⟨1, _⟩ => rfl
  rw [hl]
  refine e.trans ?_
  dsimp only
  rw [hpt, show 1024 * ((24 * (2 * (i.val / 1024) + j.val / 3072) + 23) / 48) + i.val % 1024 = i.val by omega,
    show 3072 * ((24 * (2 * (i.val / 1024) + j.val / 3072) + 23) / 24 % 2) + j.val % 3072 = j.val by omega]

end Cert.DwQkvIdeal.Sum

end
-- ==== Proof.DwQkvRefSum.lean ====
/-
  What the plain reference of `DwQkv` leaves in its result array: for every entry (i, j) the sum over all 24576 tokens
  of (x[t, i] · s[t]) · (y[t, j] · u[t]), times the gain of row i.
-/
module

public import proofs.«01_k».proof.Proof.DwQkvVal
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.DwQkvRefIdeal.Sum

open Cert.DwQkvRefIdeal Cert.DwQkvRefIdeal.Gen

theorem hz2 : (![0, 0] : Fin 2 → Nat) = fun _ => 0 := funext fun a => by fin_cases a <;> rfl

/-- The reference's one product at an entry. -/
theorem out_at (x0 : Vec Ideal S24576x2048 .fp8e4m3) (x1 : Vec Ideal S24576x1 .f32) (x2 : Vec Ideal S24576x6144 .fp8e5m2)
    (x3 : Vec Ideal S24576x1 .f32) (x4 : Vec Ideal S2048x1 .f32) (p : Fin 2048) (q : Fin 6144) :
    out0_5 (F := Ideal) x0 x1 x2 x3 x4 (ix2 p q)
      = (show EReal from x4 (ix2 p 0)) * (∑ k : Fin 24576, ((show EReal from x0 (ix2 k p)) * (show EReal from x1 (ix2 k 0)))
          * ((show EReal from x2 (ix2 k q)) * (show EReal from x3 (ix2 k 0)))) := by
  unfold out0_5
  rw [View.canon_unit_zero hz2, View.ld_unit_zero (S := S24576x2048) hz2, View.ld_unit_zero (S := S24576x6144) hz2,
    View.ld_unit_zero (S := S24576x1) hz2, View.ld_unit_zero (S := S24576x1) hz2, View.ld_unit_zero (S := S2048x1) hz2]
  pointwise [k0_pay1]

variable (m : (ℓ : Loc nD τ sig) → Buf (Elt Ideal) ℓ)

theorem blk0 (c : Dev nD) : (iblk m c 0 t0_0 : Vec Ideal S24576x2048 .fp8e4m3) = V m c main_v0 := by
  funext j
  unfold iblk
  rw [View.read_apply]
  show V m c main_v0 _ = V m c main_v0 j
  congr 1
  funext a
  apply Fin.ext
  match a with
  | ⟨0, _⟩ => show 0 * 24576 + 1 * (j 0).val = (j 0).val; omega
  | ⟨1, _⟩ => show 0 * 2048 + 1 * (j 1).val = (j 1).val; omega

theorem blk1 (c : Dev nD) : (iblk m c 1 t0_0 : Vec Ideal S24576x1 .f32) = V m c main_v2 := by
  funext j
  unfold iblk
  rw [View.read_apply]
  show V m c main_v2 _ = V m c main_v2 j
  congr 1
  funext a
  apply Fin.ext
  match a with
  | ⟨0, _⟩ => show 0 * 24576 + 1 * (j 0).val = (j 0).val; omega
  | ⟨1, _⟩ => show 0 * 1 + 1 * (j 1).val = (j 1).val; omega

theorem blk2 (c : Dev nD) : (iblk m c 2 t0_0 : Vec Ideal S24576x6144 .fp8e5m2) = V m c main_v3 := by
  funext j
  unfold iblk
  rw [View.read_apply]
  show V m c main_v3 _ = V m c main_v3 j
  congr 1
  funext a
  apply Fin.ext
  match a with
  | ⟨0, _⟩ => show 0 * 24576 + 1 * (j 0).val = (j 0).val; omega
  | ⟨1, _⟩ => show 0 * 6144 + 1 * (j 1).val = (j 1).val; omega

theorem blk3 (c : Dev nD) : (iblk m c 3 t0_0 : Vec Ideal S24576x1 .f32) = V m c main_v5 := by
  funext j
  unfold iblk
  rw [View.read_apply]
  show V m c main_v5 _ = V m c main_v5 j
  congr 1
  funext a
  apply Fin.ext
  match a with
  | ⟨0, _⟩ => show 0 * 24576 + 1 * (j 0).val = (j 0).val; omega
  | ⟨1, _⟩ => show 0 * 1 + 1 * (j 1).val = (j 1).val; omega

theorem blk4 (c : Dev nD) : (iblk m c 4 t0_0 : Vec Ideal S2048x1 .f32) = V m c main_v6 := by
  funext j
  unfold iblk
  rw [View.read_apply]
  show V m c main_v6 _ = V m c main_v6 j
  congr 1
  funext a
  apply Fin.ext
  match a with
  | ⟨0, _⟩ => show 0 * 2048 + 1 * (j 0).val = (j 0).val; omega
  | ⟨1, _⟩ => show 0 * 1 + 1 * (j 1).val = (j 1).val; omega

/-- The reference's result array is what its one block computes. -/
theorem final_eq (c : Dev nD) (j : S2048x6144.Idx) :
    (dats m 0 c).arrAt 5 cfg0.N j
      = out0_5 (F := Ideal) (V m c main_v0) (V m c main_v2) (V m c main_v3) (V m c main_v5) (V m c main_v6) j := by
  have e := congrFun ((Value.blocks5 m c t0_0 rfl).trans (Value.flushed5 m c t0_0)) j
  rw [blk0, blk1, blk2, blk3, blk4] at e
  rw [View.read_apply] at e
  refine Eq.trans ?_ e
  congr 1
  funext a
  apply Fin.ext
  match a with
  | ⟨0, _⟩ => show (j 0).val = 0 * 2048 + 1 * (j 0).val; omega
  | ⟨1, _⟩ => show (j 1).val = 0 * 6144 + 1 * (j 1).val; omega

end Cert.DwQkvRefIdeal.Sum

end
-- ==== Proof.DwQkvEq.lean ====
/-
  The kernel's result array and the reference's are the same array for `DwQkv`: both are the sum over the tokens, entry
  by entry; the kernel multiplies the two scales of a token together before it meets the left operand, the reference
  scales each operand by its own, and the products agree by re-ordering the factors.
-/
module

public import proofs.«01_k».proof.Defs
public import proofs.«01_k».proof.Proof.DwQkvSum
public import proofs.«01_k».proof.Proof.DwQkvRefSum

@[expose] public section

set_option maxRecDepth 100000

noncomputable section

open Idealize.ShloMosaic Idealize.ShloMosaic.TcCoe Idealize.SL.Sem
open scoped BigOperators

namespace Cert.DwQkvEq

/-- The re-ordering of one token's four factors. -/
theorem shuffle (x s y u : EReal) : (x * s) * (y * u) = x * (s * u) * y := by ac_rfl

/-! ## Reading the host's reshapes -/

/-- A token scale cut in blocks of tokens, the product of two flattened scales, read at token t. -/
theorem scale_split (s d : (⟨2, ![6, 4096]⟩ : Shape).Idx → EReal) (h1 h2 : (⟨2, ![6, 4096]⟩ : Shape).ShapeCasts ⟨1, ![24576]⟩)
    (h : (⟨1, ![24576]⟩ : Shape).ShapeCasts ⟨3, ![24, 1, 1024]⟩) (t : Fin 24576) :
    shapeCast ⟨3, ![24, 1, 1024]⟩ (mulf (F := Ideal) (φ := .f32) (shapeCast ⟨1, ![24576]⟩ s h1) (shapeCast ⟨1, ![24576]⟩ d h2)) h
        (ix3 (⟨t.val / 1024, by omega⟩ : Fin 24) (0 : Fin 1) (⟨t.val % 1024, by omega⟩ : Fin 1024))
      = s (ix2 (⟨t.val / 4096, by omega⟩ : Fin 6) (⟨t.val % 4096, by omega⟩ : Fin 4096))
        * d (ix2 (⟨t.val / 4096, by omega⟩ : Fin 6) (⟨t.val % 4096, by omega⟩ : Fin 4096)) := by
  pointwise
/-- A token scale as one column, read at token t. -/
theorem scale_col (s : (⟨2, ![6, 4096]⟩ : Shape).Idx → EReal) (h1 : (⟨2, ![6, 4096]⟩ : Shape).BroadcastsInDim ⟨3, ![6, 4096, 1]⟩ ![0, 1])
    (h : (⟨3, ![6, 4096, 1]⟩ : Shape).ShapeCasts ⟨2, ![24576, 1]⟩) (t : Fin 24576) :
    shapeCast ⟨2, ![24576, 1]⟩ (broadcastInDim ⟨3, ![6, 4096, 1]⟩ ![0, 1] h1 s) h (ix2 t 0)
      = s (ix2 (⟨t.val / 4096, by omega⟩ : Fin 6) (⟨t.val % 4096, by omega⟩ : Fin 4096)) := by
  pointwise

/-- The gain vector cut in blocks of rows, read at row i. -/
theorem gain_split (s : (⟨1, ![2048]⟩ : Shape).Idx → EReal) (h : (⟨1, ![2048]⟩ : Shape).ShapeCasts ⟨3, ![2, 1, 1024]⟩) (i : Fin 2048) :
    shapeCast ⟨3, ![2, 1, 1024]⟩ s h (ix3 (⟨i.val / 1024, by omega⟩ : Fin 2) (0 : Fin 1) (⟨i.val % 1024, by omega⟩ : Fin 1024)) = s (ix1 i) := by
  pointwise
/-- The gain vector as one column, read at row i. -/
theorem gain_col (s : (⟨1, ![2048]⟩ : Shape).Idx → EReal) (h : (⟨1, ![2048]⟩ : Shape).BroadcastsInDim ⟨2, ![2048, 1]⟩ ![0]) (i : Fin 2048) :
    broadcastInDim ⟨2, ![2048, 1]⟩ ![0] h s (ix2 i 0) = s (ix1 i) := by
  pointwise

end Cert.DwQkvEq

/-! ## The kernel's arrays, from its arguments -/

namespace Cert.DwQkvIdeal.Sum

open Cert.DwQkvIdeal Cert.DwQkvIdeal.Gen Cert.DwQkvEq

variable (m : (ℓ : Loc nD τ sig) → Buf (Elt Ideal) ℓ)

/-- The left operand is the flattened first argument. -/
theorem x_eq (c : Dev nD) : V m c main_v0 = shapeCast S24576x2048 (m ((c : Thread nD τ).loc main_arg0)) shapeCasts_S6x4096x2048_S24576x2048 := by
  show StableHlo.after hostOps0 (fun b => m (c, b)) main_v0 = _
  after_results
  rfl
/-- The right operand is the flattened third argument. -/
theorem y_eq (c : Dev nD) : V m c main_v1 = shapeCast S24576x6144 (m ((c : Thread nD τ).loc main_arg2)) shapeCasts_S6x4096x3x32x64_S24576x6144 := by
  show StableHlo.after hostOps0 (fun b => m (c, b)) main_v1 = _
  after_results
  rfl
/-- The scale of token t is the product of its two scales. -/
theorem cv_at (c : Dev nD) (t : Fin 24576) : cv m c t.val
    = (show EReal from m ((c : Thread nD τ).loc main_arg1) (ix2 (⟨t.val / 4096, by omega⟩ : Fin 6) (⟨t.val % 4096, by omega⟩ : Fin 4096)))
      * (show EReal from m ((c : Thread nD τ).loc main_arg3) (ix2 (⟨t.val / 4096, by omega⟩ : Fin 6) (⟨t.val % 4096, by omega⟩ : Fin 4096))) := by
  have ht := t.isLt
  unfold cv
  rw [dif_pos ht]
  have e : V m c main_v5 = shapeCast S24x1x1024 (mulf (F := Ideal) (φ := .f32) (shapeCast S24576 (m ((c : Thread nD τ).loc main_arg1)) shapeCasts_S6x4096_S24576)
      (shapeCast S24576 (m ((c : Thread nD τ).loc main_arg3)) shapeCasts_S6x4096_S24576)) shapeCasts_S24576_S24x1x1024 := by
    show StableHlo.after hostOps0 (fun b => m (c, b)) main_v5 = _
    after_results
    rfl
  rw [e]
  generalize m ((c : Thread nD τ).loc main_arg1) = s
  generalize m ((c : Thread nD τ).loc main_arg3) = d
  exact scale_split s d _ _ _ t
/-- The gain of row i is entry i of the fifth argument. -/
theorem gv_at (c : Dev nD) (i : Fin 2048) : gv m c i.val = (show EReal from m ((c : Thread nD τ).loc main_arg4) (ix1 i)) := by
  have hi := i.isLt
  unfold gv
  rw [dif_pos hi]
  have e : V m c main_v6 = shapeCast S2x1x1024 (m ((c : Thread nD τ).loc main_arg4)) shapeCasts_S2048_S2x1x1024 := by
    show StableHlo.after hostOps0 (fun b => m (c, b)) main_v6 = _
    after_results
    rfl
  rw [e]
  generalize m ((c : Thread nD τ).loc main_arg4) = s
  exact gain_split s _ i

end Cert.DwQkvIdeal.Sum

/-! ## The reference's arrays, from its arguments -/

namespace Cert.DwQkvRefIdeal.Sum

open Cert.DwQkvRefIdeal Cert.DwQkvRefIdeal.Gen Cert.DwQkvEq

variable (m : (ℓ : Loc nD τ sig) → Buf (Elt Ideal) ℓ)

/-- The left operand is the flattened first argument. -/
theorem x_eq (c : Dev nD) : V m c main_v0 = shapeCast S24576x2048 (m ((c : Thread nD τ).loc main_arg0)) shapeCasts_S6x4096x2048_S24576x2048 := by
  show StableHlo.after hostOps0 (fun b => m (c, b)) main_v0 = _
  after_results
  rfl
/-- The right operand is the flattened third argument. -/
theorem y_eq (c : Dev nD) : V m c main_v3 = shapeCast S24576x6144 (m ((c : Thread nD τ).loc main_arg2)) shapeCasts_S6x4096x3x32x64_S24576x6144 := by
  show StableHlo.after hostOps0 (fun b => m (c, b)) main_v3 = _
  after_results
  rfl
/-- The left operand's scale column at token t. -/
theorem s_at (c : Dev nD) (t : Fin 24576) : (show EReal from V m c main_v2 (ix2 t 0))
    = (show EReal from m ((c : Thread nD τ).loc main_arg1) (ix2 (⟨t.val / 4096, by omega⟩ : Fin 6) (⟨t.val % 4096, by omega⟩ : Fin 4096))) := by
  have e : V m c main_v2 = shapeCast S24576x1 (broadcastInDim S6x4096x1 ![0, 1] bcast_S6x4096_S6x4096x1_0_1 (m ((c : Thread nD τ).loc main_arg1))) shapeCasts_S6x4096x1_S24576x1 := by
    show StableHlo.after hostOps0 (fun b => m (c, b)) main_v2 = _
    after_results
    rfl
  rw [e]
  generalize m ((c : Thread nD τ).loc main_arg1) = s
  exact scale_col s _ _ t
/-- The right operand's scale column at token t. -/
theorem u_at (c : Dev nD) (t : Fin 24576) : (show EReal from V m c main_v5 (ix2 t 0))
    = (show EReal from m ((c : Thread nD τ).loc main_arg3) (ix2 (⟨t.val / 4096, by omega⟩ : Fin 6) (⟨t.val % 4096, by omega⟩ : Fin 4096))) := by
  have e : V m c main_v5 = shapeCast S24576x1 (broadcastInDim S6x4096x1 ![0, 1] bcast_S6x4096_S6x4096x1_0_1 (m ((c : Thread nD τ).loc main_arg3))) shapeCasts_S6x4096x1_S24576x1 := by
    show StableHlo.after hostOps0 (fun b => m (c, b)) main_v5 = _
    after_results
    rfl
  rw [e]
  generalize m ((c : Thread nD τ).loc main_arg3) = s
  exact scale_col s _ _ t
/-- The gain column as the reference lays it out, read at row i. -/
theorem g_at (c : Dev nD) (i : Fin 2048) :
    (show EReal from V m c main_v6 (ix2 i 0)) = (show EReal from m ((c : Thread nD τ).loc main_arg4) (ix1 i)) := by
  have e : V m c main_v6 = broadcastInDim S2048x1 ![0] bcast_S2048_S2048x1_0 (m ((c : Thread nD τ).loc main_arg4)) := by
    show StableHlo.after hostOps0 (fun b => m (c, b)) main_v6 = _
    after_results
  rw [e]
  generalize m ((c : Thread nD τ).loc main_arg4) = s
  exact gain_col s _ i

end Cert.DwQkvRefIdeal.Sum

/-! ## The equation -/

namespace Cert.DwQkvEq

/-- THE EQUATION: on equal arguments the kernel's result array is the reference's, entry by entry. -/
theorem result_eq (m : (ℓ : Loc Cert.DwQkvIdeal.nD Cert.DwQkvIdeal.τ Cert.DwQkvIdeal.sig) → Buf (Elt Ideal) ℓ)
    (m' : (ℓ : Loc Cert.DwQkvRefIdeal.nD Cert.DwQkvRefIdeal.τ Cert.DwQkvRefIdeal.sig) → Buf (Elt Ideal) ℓ)
    (c : Dev Cert.DwQkvIdeal.nD)
    (h0 : m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0))
    (h1 : m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1))
    (h2 : m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2))
    (h3 : m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3))
    (h4 : m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)) :
    (Cert.DwQkvRefIdeal.Gen.dats m' 0 c).arrAt 5 Cert.DwQkvRefIdeal.cfg0.N = Cert.DwQkvIdeal.Value.G4 m c := by
  funext j
  obtain ⟨p, q, rfl⟩ : ∃ (p : Fin 2048) (q : Fin 6144), j = ix2 p q := ⟨j 0, j 1, eq_ix2 j⟩
  refine (Cert.DwQkvRefIdeal.Sum.final_eq m' c (ix2 p q)).trans ?_
  refine (Cert.DwQkvRefIdeal.Sum.out_at _ _ _ _ _ p q).trans ?_
  refine Eq.trans ?_ (Cert.DwQkvIdeal.Sum.result_at m c p q).symm
  rw [mul_comm]
  refine Ideal.mul_congr ?_ ?_
  swap
  · rw [Cert.DwQkvIdeal.Sum.gv_at, Cert.DwQkvRefIdeal.Sum.g_at, h4]
  rw [Finset.sum_range]
  refine Finset.sum_congr rfl fun t _ => ?_
  rw [Cert.DwQkvRefIdeal.Sum.s_at, Cert.DwQkvRefIdeal.Sum.u_at, Cert.DwQkvRefIdeal.Sum.x_eq, Cert.DwQkvRefIdeal.Sum.y_eq, h0, h1, h2, h3]
  unfold Cert.DwQkvIdeal.Sum.term
  rw [Cert.DwQkvIdeal.Sum.cv_at]
  unfold Cert.DwQkvIdeal.Sum.xv Cert.DwQkvIdeal.Sum.yv
  rw [dif_pos ⟨t.isLt, p.isLt⟩, dif_pos ⟨t.isLt, q.isLt⟩, Cert.DwQkvIdeal.Sum.x_eq, Cert.DwQkvIdeal.Sum.y_eq]
  exact shuffle _ _ _ _

end Cert.DwQkvEq

end
-- ==== Proof.TokenMath.lean ====
/-
  The scalar mathematics of the token pass: the derivative of the tanh GELU written in two ways, the power-of-two scale
  computed by counting and by a minimum, and the row maximum taken in lanes.
-/
module

public import Idealize.ShloMosaic.Lib.Pointwise
public import Idealize.ShloMosaic.Lib.IndicatorCount
public import Idealize.ShloMosaic.Lib.Tactic

@[expose] public section

noncomputable section

open Idealize.ShloMosaic
open scoped BigOperators

namespace Cert.TokenMath

/-! ## The GELU derivative -/

/-- The constant sqrt(2/pi) as the programs write it, and the cubic coefficient. -/
def cq : ℝ := 3989422804014327 / 5000000000000000
def aq : ℝ := 44715 / 1000000

/-- The derivative of the tanh GELU as the reference writes it. -/
def gref (x : EReal) : EReal :=
  let th := Ideal.tanh ((cq : EReal) * (x + (aq : EReal) * x * x * x))
  ((1 / 2 : ℝ) : EReal) * (1 + th)
    + ((1 / 2 : ℝ) : EReal) * x * (1 - th * th) * (cq : EReal) * (1 + ((3 * aq : ℝ) : EReal) * x * x)

/-- The derivative of the tanh GELU as the kernel writes it, with the constants multiplied out. -/
def gker (x : EReal) : EReal :=
  let th := Ideal.tanh (x * ((cq : EReal) + ((cq * aq : ℝ) : EReal) * (x * x)))
  (((1 / 2 : ℝ) : EReal) + ((1 / 2 : ℝ) : EReal) * th)
    + (x * (((cq / 2 : ℝ) : EReal) + ((cq * aq * 3 / 2 : ℝ) : EReal) * (x * x))) * (1 - th * th)

theorem cq_pos : 0 < cq := by unfold cq; norm_num
theorem aq_pos : 0 < aq := by unfold aq; norm_num

/-- The two ways of writing the derivative agree on every extended real. -/
theorem gker_eq (x : EReal) : gker x = gref x := by
  have h1 : (1 : EReal) = ((1 : ℝ) : EReal) := rfl
  have hc := cq_pos
  have ha := aq_pos
  have hca : 0 < cq * aq := mul_pos hc ha
  induction x using EReal.rec with
  | bot =>
    unfold gker gref
    have e1 : (⊥ : EReal) * ((cq : EReal) + ((cq * aq : ℝ) : EReal) * (⊥ * ⊥)) = ⊥ := by
      rw [EReal.bot_mul_bot, EReal.coe_mul_top_of_pos hca, EReal.coe_add_top, EReal.bot_mul_top]
    have e2 : ((cq : EReal) * (⊥ + (aq : EReal) * ⊥ * ⊥ * ⊥)) = ⊥ := by
      rw [EReal.coe_mul_bot_of_pos ha, EReal.bot_mul_bot, EReal.top_mul_bot, EReal.bot_add, EReal.coe_mul_bot_of_pos hc]
    have e3 : (1 : EReal) - (-1) * (-1) = 0 := by
      rw [h1, ← EReal.coe_neg, ← EReal.coe_mul, ← EReal.coe_sub]; norm_num
    simp only [e1, e2, Ideal.tanh_bot, e3, mul_zero, zero_mul, add_zero]
    rw [h1, ← EReal.coe_neg, ← EReal.coe_mul, ← EReal.coe_add, ← EReal.coe_add, ← EReal.coe_mul]
    norm_num
  | top =>
    unfold gker gref
    have e1 : (⊤ : EReal) * ((cq : EReal) + ((cq * aq : ℝ) : EReal) * (⊤ * ⊤)) = ⊤ := by
      rw [EReal.top_mul_top, EReal.coe_mul_top_of_pos hca, EReal.coe_add_top, EReal.top_mul_top]
    have e2 : ((cq : EReal) * (⊤ + (aq : EReal) * ⊤ * ⊤ * ⊤)) = ⊤ := by
      rw [EReal.coe_mul_top_of_pos ha, EReal.top_mul_top, EReal.top_mul_top, EReal.top_add_top,
        EReal.coe_mul_top_of_pos hc]
    have e3 : (1 : EReal) - 1 * 1 = 0 := by
      rw [h1, ← EReal.coe_mul, ← EReal.coe_sub]; norm_num
    simp only [e1, e2, Ideal.tanh_top, e3, mul_zero, zero_mul, add_zero]
    rw [h1, ← EReal.coe_mul, ← EReal.coe_add, ← EReal.coe_add, ← EReal.coe_mul]
    norm_num
  | coe r =>
    unfold gker gref
    have e1 : (r : EReal) * ((cq : EReal) + ((cq * aq : ℝ) : EReal) * ((r : EReal) * r))
        = ((cq * (r + aq * r * r * r) : ℝ) : EReal) := by
      simp only [← EReal.coe_mul, ← EReal.coe_add]; congr 1; ring
    have e2 : (cq : EReal) * ((r : EReal) + (aq : EReal) * r * r * r)
        = ((cq * (r + aq * r * r * r) : ℝ) : EReal) := by
      simp only [← EReal.coe_mul, ← EReal.coe_add]
    simp only [e1, e2, Ideal.tanh_coe, h1]
    simp only [← EReal.coe_mul, ← EReal.coe_add, ← EReal.coe_sub]
    congr 1
    ring

/-! ## Constants -/

/-- The three fields of the bit pattern with exponent `k` and nothing else. -/
theorem pow_fields : ∀ k : Fin 255, ((BitVec.ofNat 32 k.val <<< (23 : ℕ)).extractLsb' 23 8).toNat = k.val
      ∧ ((BitVec.ofNat 32 k.val <<< (23 : ℕ)).extractLsb' 0 23).toNat = 0
      ∧ ((BitVec.ofNat 32 k.val <<< (23 : ℕ)).extractLsb' 31 1 == 1#1) = false := by decide +kernel

/-- A word whose exponent field is `k`, with no sign and no fraction, reads as 2^(k - 127). -/
theorem ieee_pow (w : BitVec 32) (k : ℕ) (h1 : 1 ≤ k) (h2 : k ≤ 254) (ka : (w.extractLsb' 23 8).toNat = k)
    (kb : (w.extractLsb' 0 23).toNat = 0) (kc : (w.extractLsb' 31 1 == 1#1) = false) :
    Ideal.ieee 8 23 w = (((2 : ℝ) ^ ((k : ℤ) - 127) : ℝ) : EReal) := by
  have e0 : (2 : ℝ) ^ ((k : ℤ) - 127) = (2 : ℝ) ^ (23 : ℤ) * (2 : ℝ) ^ ((k : ℤ) - 127 - 23) := by
    rw [← zpow_add₀ (by norm_num)]; congr 1; ring
  have e1 : ((k : ℤ) - (2 ^ (8 - 1) - 1) - ((23 : ℕ) : ℤ)) = (k : ℤ) - 127 - 23 := by norm_num
  have h255 : ¬ k = 2 ^ 8 - 1 := by norm_num; omega
  have h0 : ¬ k = 0 := by omega
  unfold Ideal.ieee
  simp only [ka, kb, kc, h255, h0, if_false, Bool.false_eq_true, one_mul, add_zero]
  rw [e0, e1]
  norm_num

/-- The bit pattern with exponent field `k` and no fraction is 2^(k - 127). -/
theorem pow_bits (k : ℕ) (h1 : 1 ≤ k) (h2 : k ≤ 254) :
    Ideal.ofBits .f32 (BitVec.ofNat 32 k <<< (23 : ℕ)) = (((2 : ℝ) ^ ((k : ℤ) - 127) : ℝ) : EReal) :=
  have h := pow_fields ⟨k, by omega⟩
  ieee_pow _ k h1 h2 h.1 h.2.1 h.2.2

theorem bits_half : Ideal.ofBits .f32 0x3F000000#32 = ((1 / 2 : ℝ) : EReal) := by
  have := pow_bits 126 (by norm_num) (by norm_num)
  rw [show (0x3F000000#32 : BitVec 32) = BitVec.ofNat 32 126 <<< (23 : ℕ) by decide, this]
  norm_num

theorem bits_one : Ideal.ofBits .f32 0x3F800000#32 = 1 := by
  have := pow_bits 127 (by norm_num) (by norm_num)
  rw [show (0x3F800000#32 : BitVec 32) = BitVec.ofNat 32 127 <<< (23 : ℕ) by decide, this]
  norm_num

theorem bits_inv2048 : Ideal.ofBits .f32 0x3A000000#32 = ((1 / 2048 : ℝ) : EReal) := by
  have := pow_bits 116 (by norm_num) (by norm_num)
  rw [show (0x3A000000#32 : BitVec 32) = BitVec.ofNat 32 116 <<< (23 : ℕ) by decide, this]
  norm_num

theorem bits_2048 : Ideal.ofBits .f32 0x45000000#32 = ((2048 : ℝ) : EReal) := by
  have := pow_bits 138 (by norm_num) (by norm_num)
  rw [show (0x45000000#32 : BitVec 32) = BitVec.ofNat 32 138 <<< (23 : ℕ) by decide, this]
  norm_num

theorem bits_minnormal : Ideal.ofBits .f32 0x00800000#32 = (((2 : ℝ) ^ (-126 : ℤ) : ℝ) : EReal) := by
  have := pow_bits 1 (by norm_num) (by norm_num)
  rw [show (0x00800000#32 : BitVec 32) = BitVec.ofNat 32 1 <<< (23 : ℕ) by decide, this]
  norm_num

theorem bits_125 : Ideal.ofBits .f32 0x42FA0000#32 = ((125 : ℝ) : EReal) := by
  simp [Ideal.ofBits, Ideal.ieee, -EReal.coe_mul]; norm_num

theorem bits_126 : Ideal.ofBits .f32 0x42FC0000#32 = ((126 : ℝ) : EReal) := by
  simp [Ideal.ofBits, Ideal.ieee, -EReal.coe_mul]; norm_num

theorem bits_neginf : Ideal.ofBits .f32 0xFF800000#32 = ⊥ := by
  simp [Ideal.ofBits, Ideal.ieee]

theorem bits_posinf : Ideal.ofBits .f32 0x7F800000#32 = ⊤ := by
  simp [Ideal.ofBits, Ideal.ieee]

/-- Dividing by 2048 is multiplying by 1/2048. -/
theorem div_2048 (x : EReal) :
    Ideal.div x (Ideal.ofBits .f32 0x45000000#32) = x * Ideal.ofBits .f32 0x3A000000#32 := by
  rw [bits_2048, bits_inv2048, Ideal.div_coe (by norm_num)]

/-! ## The power-of-two scale -/

/-- How many of the powers 2^-126 … 2^125 lie at or below `v`. -/
def cnt (v : EReal) : ℕ :=
  (Finset.univ.filter fun j : Fin 252 => (((2 : ℝ) ^ ((j.val : ℤ) - 126) : ℝ) : EReal) ≤ v).card

/-- The exponent as the reference states it: zero below the normal range, else the least `k` with `v < 2^k`. -/
def eref (v : EReal) : EReal :=
  if v < (((2 : ℝ) ^ (-126 : ℤ) : ℝ) : EReal) then 0
  else Finset.univ.fold min (⊤ : EReal) fun j : Fin 252 =>
    if v < (((2 : ℝ) ^ ((j.val : ℤ) - 125) : ℝ) : EReal) then (((j.val : ℤ) - 125 : ℝ) : EReal) else ((126 : ℝ) : EReal)

theorem cnt_le (v : EReal) : cnt v ≤ 252 := by
  unfold cnt
  exact (Finset.card_filter_le _ _).trans (by simp)

theorem pow_mono {a b : ℤ} (h : a ≤ b) : (((2 : ℝ) ^ a : ℝ) : EReal) ≤ (((2 : ℝ) ^ b : ℝ) : EReal) :=
  EReal.coe_le_coe_iff.2 (zpow_le_zpow_right₀ (by norm_num) h)

/-- The powers at or below `v` are the first `cnt v` of them. -/
theorem le_iff_lt_cnt (v : EReal) (j : Fin 252) :
    (((2 : ℝ) ^ ((j.val : ℤ) - 126) : ℝ) : EReal) ≤ v ↔ j.val < cnt v := by
  constructor
  · intro h
    have hsub : (Finset.univ.filter fun i : Fin 252 => i ≤ j)
        ⊆ Finset.univ.filter fun i : Fin 252 => (((2 : ℝ) ^ ((i.val : ℤ) - 126) : ℝ) : EReal) ≤ v := by
      intro i hi
      rw [Finset.mem_filter] at hi ⊢
      refine ⟨hi.1, (pow_mono ?_).trans h⟩
      have : i.val ≤ j.val := hi.2
      omega
    have := Finset.card_le_card hsub
    have e : (Finset.univ.filter fun i : Fin 252 => i ≤ j) = Finset.Iic j := by ext; simp
    rw [e, Fin.card_Iic] at this
    exact this
  · intro h
    by_contra hn
    have hsub : (Finset.univ.filter fun i : Fin 252 => (((2 : ℝ) ^ ((i.val : ℤ) - 126) : ℝ) : EReal) ≤ v)
        ⊆ Finset.univ.filter fun i : Fin 252 => i < j := by
      intro i hi
      rw [Finset.mem_filter] at hi ⊢
      refine ⟨hi.1, ?_⟩
      by_contra hle
      apply hn
      refine (pow_mono ?_).trans hi.2
      have : j.val ≤ i.val := by simpa using hle
      omega
    have := Finset.card_le_card hsub
    have e : (Finset.univ.filter fun i : Fin 252 => i < j) = Finset.Iio j := by ext; simp
    rw [e, Fin.card_Iio] at this
    exact absurd h (not_lt.2 this)

theorem cnt_eq_zero (v : EReal) : cnt v = 0 ↔ v < (((2 : ℝ) ^ (-126 : ℤ) : ℝ) : EReal) := by
  have h := le_iff_lt_cnt v ⟨0, by norm_num⟩
  simp only [Nat.cast_zero, zero_sub] at h
  rw [← not_le, h]
  omega

/-- Where the count is not zero, the reference's exponent is the count less 126. -/
theorem eref_eq (v : EReal) : eref v = if cnt v = 0 then 0 else (((cnt v : ℤ) - 126 : ℝ) : EReal) := by
  unfold eref
  by_cases h : cnt v = 0
  · rw [if_pos h, if_pos ((cnt_eq_zero v).1 h)]
  · rw [if_neg h, if_neg (fun hl => h ((cnt_eq_zero v).2 hl))]
    have hle := cnt_le v
    have hlt : ∀ j : Fin 252, j.val < 251 →
        (v < (((2 : ℝ) ^ ((j.val : ℤ) - 125) : ℝ) : EReal) ↔ cnt v ≤ j.val + 1) := by
      intro j hj
      have := le_iff_lt_cnt v ⟨j.val + 1, by omega⟩
      simp only [Nat.cast_add, Nat.cast_one] at this
      rw [show (j.val : ℤ) - 125 = (j.val : ℤ) + 1 - 126 by ring, ← not_le, this]
      omega
    apply le_antisymm
    · have hj : cnt v - 1 < 252 := by omega
      refine (Finset.fold_min_le _).2 (.inr ⟨⟨cnt v - 1, hj⟩, Finset.mem_univ _, ?_⟩)
      have hc : ((cnt v - 1 : ℕ) : ℝ) = (cnt v : ℝ) - 1 := by
        rw [Nat.cast_sub (by omega)]; norm_num
      split_ifs with hv
      · apply EReal.coe_le_coe_iff.2
        push_cast
        linarith [hc]
      · by_cases h251 : cnt v - 1 < 251
        · exact absurd ((hlt ⟨cnt v - 1, hj⟩ h251).2 (by dsimp only; omega)) hv
        · have : cnt v = 252 := by omega
          apply EReal.coe_le_coe_iff.2
          rw [this]; norm_num
    · refine (Finset.le_fold_min _).2 ⟨le_top, fun j _ => ?_⟩
      split_ifs with hv
      · apply EReal.coe_le_coe_iff.2
        have : cnt v ≤ j.val + 1 := by
          by_cases hj : j.val < 251
          · exact (hlt j hj).1 hv
          · have := j.isLt; omega
        have : (cnt v : ℝ) ≤ (j.val : ℝ) + 1 := by exact_mod_cast this
        push_cast
        linarith
      · apply EReal.coe_le_coe_iff.2
        have : (cnt v : ℝ) ≤ 252 := by exact_mod_cast hle
        push_cast
        linarith

/-- The kernel's exponent as a 32-bit integer. -/
def ek (v : EReal) : BitVec 32 := if cnt v = 0 then 0#32 else BitVec.ofNat 32 (cnt v) - 126#32

/-- The kernel's scale, built from the bits of its exponent, is 2 to the reference's exponent. -/
theorem scale_bits (v : EReal) : Ideal.ofBits .f32 ((ek v + 127#32) <<< (23 : ℕ)) = Ideal.exp2 (eref v) := by
  rw [eref_eq]
  unfold ek
  have hle := cnt_le v
  by_cases h : cnt v = 0
  · rw [if_pos h, if_pos h, show (0#32 + 127#32 : BitVec 32) = BitVec.ofNat 32 127 by decide,
      pow_bits 127 (by norm_num) (by norm_num)]
    show _ = ((Real.rpow 2 0 : ℝ) : EReal)
    simp
  · rw [if_neg h, if_neg h]
    have e : (BitVec.ofNat 32 (cnt v) - 126#32 + 127#32 : BitVec 32) = BitVec.ofNat 32 (cnt v + 1) := by
      apply BitVec.eq_of_toNat_eq
      simp only [BitVec.toNat_add, BitVec.toNat_sub, BitVec.toNat_ofNat]
      omega
    rw [e, pow_bits (cnt v + 1) (by omega) (by omega), Ideal.exp2_coe]
    congr 1
    have := Real.rpow_intCast 2 ((cnt v : ℤ) - 126)
    show (2 : ℝ) ^ (_ : ℤ) = (2 : ℝ) ^ (_ : ℝ)
    push_cast at this ⊢
    rw [this]
    congr 1
    ring

/-- The kernel's inverse scale is 2 to minus the reference's exponent. -/
theorem inv_bits (v : EReal) : Ideal.ofBits .f32 ((127#32 - ek v) <<< (23 : ℕ)) = Ideal.exp2 (0 - eref v) := by
  rw [eref_eq]
  unfold ek
  have hle := cnt_le v
  by_cases h : cnt v = 0
  · rw [if_pos h, if_pos h, show (127#32 - 0#32 : BitVec 32) = BitVec.ofNat 32 127 by decide,
      pow_bits 127 (by norm_num) (by norm_num), sub_zero]
    show _ = ((Real.rpow 2 0 : ℝ) : EReal)
    simp
  · rw [if_neg h, if_neg h]
    have e : (127#32 - (BitVec.ofNat 32 (cnt v) - 126#32) : BitVec 32) = BitVec.ofNat 32 (253 - cnt v) := by
      apply BitVec.eq_of_toNat_eq
      simp only [BitVec.toNat_sub, BitVec.toNat_ofNat]
      omega
    rw [e, pow_bits (253 - cnt v) (by omega) (by omega), zero_sub, ← EReal.coe_neg, Ideal.exp2_coe]
    congr 1
    have := Real.rpow_intCast 2 (-((cnt v : ℤ) - 126))
    show (2 : ℝ) ^ (_ : ℤ) = (2 : ℝ) ^ (_ : ℝ)
    rw [Nat.cast_sub (by omega)]
    push_cast at this ⊢
    rw [this]
    congr 1
    ring

end Cert.TokenMath
-- ==== Proof.TokenRow.lean ====
/-
  The token pass on one token, as the reference has it: the pre-activation gradient, its power-of-two scale and codes,
  the gradient behind the layer norm, its contribution to the gain's gradient, and the input gradient.
-/
module

public import proofs.«01_k».proof.Proof.TokenMath

@[expose] public section

noncomputable section

open Idealize.ShloMosaic
open scoped BigOperators

namespace Cert.TokenMath

/-- What the pass reads for one token: the token's rows and scales, the layer norm's gain, and the weights with the
    scales along their contracted axes. -/
@[ext] structure Row where
  dy : Fin 2048 → EReal
  dys : EReal
  q : Fin 6144 → EReal
  qs : EReal
  xh : Fin 2048 → EReal
  xs : EReal
  rs : EReal
  g : Fin 2048 → EReal
  a : Fin 5632 → EReal
  asc : EReal
  win : Fin 2048 → Fin 5632 → EReal
  sin : Fin 5632 → EReal
  wout : Fin 5632 → Fin 2048 → EReal
  sout : Fin 2048 → EReal
  wq : Fin 2048 → Fin 6144 → EReal
  sq : Fin 6144 → EReal

namespace Row

variable (R : Row)

/-- The gradient before the activation. -/
def da (f : Fin 5632) : EReal := (∑ d, R.dy d * (R.wout f d * R.sout d)) * R.dys * gref (R.a f * R.asc)

/-- The largest magnitude of the row. -/
def amax : EReal := Finset.univ.fold max (⊥ : EReal) fun f => max (R.da f) (-R.da f)

/-- The exponent of the row's scale. -/
def ex : EReal := eref (R.amax * Ideal.ofBits .f32 0x37924925#32)

/-- The row's scale. -/
def scale : EReal := Ideal.exp2 R.ex

/-- The row's codes. -/
def code (f : Fin 5632) : EReal :=
  min (Ideal.ofBits .f32 0x47600000#32) (max (Ideal.ofBits .f32 0xC7600000#32) (R.da f * Ideal.exp2 (0 - R.ex)))

/-- The gradient behind the layer norm. -/
def dh (d : Fin 2048) : EReal :=
  (∑ f, R.code f * (R.win d f * R.sin f)) * R.scale + (∑ k, R.q k * (R.wq d k * R.sq k)) * R.qs

/-- The normalised activation. -/
def xn (d : Fin 2048) : EReal := R.xh d * R.xs

/-- The token's contribution to the gain's gradient. -/
def dg (d : Fin 2048) : EReal := R.dh d * R.xn d

/-- The input gradient. -/
def dx (d : Fin 2048) : EReal :=
  R.dy d * R.dys + R.rs * (R.dh d * R.g d
    - Ideal.div (∑ k, R.dh k * R.g k) (Ideal.ofBits .f32 0x45000000#32)
    - R.xn d * Ideal.div (∑ k, R.dh k * R.g k * R.xn k) (Ideal.ofBits .f32 0x45000000#32))

end Row

/-! ## The row maximum taken in 128 lanes -/

/-- The running maximum of 128 lanes after `n` chunks of 512 columns, each four lane groups wide. -/
def acc (c : ℕ → Fin 512 → EReal) : ℕ → Fin 128 → EReal
  | 0, _ => 0
  | n + 1, l => max (max (max (max (acc c n l) (max (c n ⟨l, by omega⟩) (-c n ⟨l, by omega⟩)))
      (max (c n ⟨128 + l, by omega⟩) (-c n ⟨128 + l, by omega⟩)))
      (max (c n ⟨256 + l, by omega⟩) (-c n ⟨256 + l, by omega⟩)))
      (max (c n ⟨384 + l, by omega⟩) (-c n ⟨384 + l, by omega⟩))

/-- A lane is bounded by `y` exactly when `y` is not negative and bounds every entry the lane has seen. -/
theorem acc_le (c : ℕ → Fin 512 → EReal) (n : ℕ) (l : Fin 128) (y : EReal) :
    acc c n l ≤ y ↔ 0 ≤ y ∧ ∀ j < n, ∀ k : Fin 512, k.val % 128 = l.val → max (c j k) (-c j k) ≤ y := by
  induction n with
  | zero => simp [acc]
  | succ n ih =>
    rw [acc, max_le_iff, max_le_iff, max_le_iff, max_le_iff, ih]
    constructor
    · rintro ⟨⟨⟨⟨⟨h0, hj⟩, h1⟩, h2⟩, h3⟩, h4⟩
      refine ⟨h0, fun j hjn k hk => ?_⟩
      rcases Nat.lt_succ_iff_lt_or_eq.1 hjn with h | rfl
      · exact hj j h k hk
      · have hkl := k.isLt
        have hc : k.val = l.val ∨ k.val = 128 + l.val ∨ k.val = 256 + l.val ∨ k.val = 384 + l.val := by omega
        rcases hc with e | e | e | e
        · rw [show k = ⟨l, by omega⟩ from Fin.ext e]; exact h1
        · rw [show k = ⟨128 + l, by omega⟩ from Fin.ext e]; exact h2
        · rw [show k = ⟨256 + l, by omega⟩ from Fin.ext e]; exact h3
        · rw [show k = ⟨384 + l, by omega⟩ from Fin.ext e]; exact h4
    · rintro ⟨h0, h⟩
      have hl := l.isLt
      refine ⟨⟨⟨⟨⟨h0, fun j hj k hk => h j (by omega) k hk⟩, ?_⟩, ?_⟩, ?_⟩, ?_⟩ <;>
        exact h n (by omega) _ (by dsimp only; omega)

/-- An extended real or its negative is at least zero. -/
theorem abs_nonneg (x : EReal) : 0 ≤ max x (-x) := by
  rcases le_total 0 x with h | h
  · exact le_max_of_le_left h
  · exact le_max_of_le_right (by rw [EReal.le_neg, neg_zero]; exact h)

/-- Eleven chunks of 512 columns stay within the row. -/
theorem chunk_lt (j : ℕ) (hj : j < 11) (k : Fin 512) : 512 * j + k.val < 5632 := by omega

/-- The maximum over the lanes is the maximum over the whole row. -/
theorem acc_fold (c : ℕ → Fin 512 → EReal) (d : Fin 5632 → EReal)
    (hc : ∀ j (hj : j < 11) (k : Fin 512), c j k = d ⟨512 * j + k.val, chunk_lt j hj k⟩) :
    Finset.univ.fold max (⊥ : EReal) (acc c 11) = Finset.univ.fold max (⊥ : EReal) fun f => max (d f) (-d f) := by
  apply eq_of_forall_ge_iff
  intro y
  rw [Finset.fold_max_le, Finset.fold_max_le]
  simp only [bot_le, true_and, Finset.mem_univ, forall_const, acc_le]
  constructor
  · intro h f
    have hf := f.isLt
    have := (h ⟨f.val % 128, by omega⟩).2 (f.val / 512) (by omega) ⟨f.val % 512, by omega⟩ (by dsimp only; omega)
    rw [hc _ (by omega)] at this
    have e : (⟨512 * (f.val / 512) + f.val % 512, by omega⟩ : Fin 5632) = f := Fin.ext (by dsimp only; omega)
    simpa only [e] using this
  · intro h l
    refine ⟨(abs_nonneg _).trans (h ⟨0, by norm_num⟩), fun j hj k _ => ?_⟩
    rw [hc j hj]
    exact h _

/-! ## The count as the kernel takes it -/

/-- The word the kernel selects from its integer count is the exponent `ek`. -/
theorem ek_of_count (v : EReal) (p : Fin 252 → BitVec 1)
    (hp : ∀ j, p j = BitVec.ofBool (decide (Ideal.ofBits .f32 (IntOp.shli ArithUnit.vector (IntOp.addi (BitVec.ofNat 32 j.val) 1#32) 23#32) ≤ v))) :
    Scalar.select (IntOp.cmpi CmpIPredicate.eq (Finset.univ.fold IntOp.addi (0#32) fun j => (p j).setWidth 32) (0#32)) (0#32)
      (IntOp.subi (Finset.univ.fold IntOp.addi (0#32) fun j => (p j).setWidth 32) (126#32)) = ek v := by
  have hcard : (Finset.univ.filter fun j => p j = 1#1).card = cnt v := by
    unfold cnt
    congr 1
    apply Finset.filter_congr
    intro j _
    have e : (IntOp.shli ArithUnit.vector (IntOp.addi (BitVec.ofNat 32 j.val) 1#32) 23#32)
        = BitVec.ofNat 32 (j.val + 1) <<< (23 : ℕ) := by
      show (BitVec.ofNat 32 j.val + 1#32) <<< (23 : ℕ) = _
      rw [BitVec.ofNat_add]
    have hj := j.isLt
    rw [hp, e, pow_bits (j.val + 1) (by omega) (by omega)]
    rw [show ((j.val + 1 : ℕ) : ℤ) - 127 = (j.val : ℤ) - 126 by push_cast; ring]
    by_cases h : (((2 : ℝ) ^ ((j.val : ℤ) - 126) : ℝ) : EReal) ≤ v
    · simp [h]
    · simp [h]
  rw [IndicatorCount.fold_addi_setWidth_eq_card, hcard]
  have hle := cnt_le v
  unfold ek
  by_cases h : cnt v = 0
  · rw [h]; rfl
  · rw [if_neg h]
    have hne : (BitVec.ofNat 32 (cnt v) == 0#32) = false := by
      rw [beq_eq_false_iff_ne]
      intro he
      have := congrArg BitVec.toNat he
      simp only [BitVec.toNat_ofNat] at this
      omega
    show Scalar.select (BitVec.ofBool (BitVec.ofNat 32 (cnt v) == 0#32)) _ _ = _
    rw [hne]
    rfl

end Cert.TokenMath
-- ==== Proof.TokenPay.lean ====
/-
  What the vector expressions of the token kernel compute, entry by entry. One grid point holds 256 tokens; each row of
  its results is the token pass on that token.
-/
module

public import proofs.«01_k».proof.Proof.TokenRow
public import proofs.«01_k».proof.Proof.Gen.TokenIdeal.Skeleton

@[expose] public section

set_option maxRecDepth 16384

noncomputable section

open Idealize.ShloMosaic Idealize.ShloMosaic.TcCoe Idealize.SL.Sem
open scoped BigOperators

namespace Cert.TokenIdeal.Pay

open Cert.TokenIdeal Cert.TokenIdeal.Gen Cert.TokenMath

/-! ## The eleven chunks of the hidden width -/

section Chunks

variable (v3 v6 : Vec Ideal S1x1x256 .f32) (v9 : Vec Ideal S256x2048 .fp8e5m2) (v12 : Vec Ideal S1x2048 .f32)
  (w : Vec Ideal S512x2048 .fp8e4m3) (a : Vec Ideal S256x512 .fp8e4m3) (acc : FVec Ideal S256x128 .f32)

/-- The pre-activation gradient of one chunk of 512 columns, as one expression of the chunk's weights and activations. -/
def D : FVec Ideal S256x512 .f32 := k0_pay80 (F := Ideal) (k0_pay3 v3) (k0_pay4 v6) (k0_pay5 v9 v12) w a

theorem da0 : k0_pay13 (k0_pay7 v3 v9 v12 w) (k0_pay8 v6 a) (k0_pay10 v6 a) (k0_pay11 v6 a) (Named.named (F := Ideal) κ "half_c" 0x3ECC422A#32)
    = D v3 v6 v9 v12 w a := shapeCast_self _ _
theorem mx0 : k0_pay14 acc (k0_pay7 v3 v9 v12 w) (k0_pay8 v6 a) (k0_pay10 v6 a) (k0_pay11 v6 a) (Named.named (F := Ideal) κ "half_c" 0x3ECC422A#32)
    = k0_pay82 acc (D v3 v6 v9 v12 w a) := rfl
theorem da1 : k0_pay21 (k0_pay15 (k0_pay3 v3) (k0_pay5 v9 v12) w) (k0_pay16 (k0_pay4 v6) a) (k0_pay18 (k0_pay4 v6) a) (k0_pay19 (k0_pay4 v6) a)
    = D v3 v6 v9 v12 w a := shapeCast_self _ _
theorem mx1 : k0_pay22 acc (k0_pay15 (k0_pay3 v3) (k0_pay5 v9 v12) w) (k0_pay16 (k0_pay4 v6) a) (k0_pay18 (k0_pay4 v6) a) (k0_pay19 (k0_pay4 v6) a)
    = k0_pay82 acc (D v3 v6 v9 v12 w a) := rfl
theorem da2 : k0_pay29 (k0_pay23 (k0_pay3 v3) (k0_pay5 v9 v12) w) (k0_pay26 (k0_pay4 v6) a) (k0_pay27 (k0_pay4 v6) a) (Scalar.ofBits (F := Ideal) .f32 0x3F000000#32)
    = D v3 v6 v9 v12 w a := shapeCast_self _ _
theorem mx2 : k0_pay30 acc (k0_pay23 (k0_pay3 v3) (k0_pay5 v9 v12) w) (k0_pay26 (k0_pay4 v6) a) (k0_pay27 (k0_pay4 v6) a) (Scalar.ofBits (F := Ideal) .f32 0x3F000000#32)
    = k0_pay82 acc (D v3 v6 v9 v12 w a) := rfl
theorem da3 : k0_pay38 (k0_pay31 (k0_pay3 v3) (k0_pay5 v9 v12) w) (k0_pay34 (k0_pay4 v6) a) (k0_pay35 (k0_pay4 v6) a) (k0_pay36 (k0_pay4 v6) a)
    = D v3 v6 v9 v12 w a := shapeCast_self _ _
theorem mx3 : k0_pay39 acc (k0_pay31 (k0_pay3 v3) (k0_pay5 v9 v12) w) (k0_pay34 (k0_pay4 v6) a) (k0_pay35 (k0_pay4 v6) a) (k0_pay36 (k0_pay4 v6) a)
    = k0_pay82 acc (D v3 v6 v9 v12 w a) := rfl
theorem da4 : k0_pay48 (k0_pay40 (k0_pay3 v3) (k0_pay5 v9 v12) w) (k0_pay43 (k0_pay4 v6) a) (k0_pay44 (k0_pay4 v6) a) (k0_pay45 (k0_pay4 v6) a) (k0_pay46 (F := Ideal))
    = D v3 v6 v9 v12 w a := shapeCast_self _ _
theorem mx4 : k0_pay49 acc (k0_pay40 (k0_pay3 v3) (k0_pay5 v9 v12) w) (k0_pay43 (k0_pay4 v6) a) (k0_pay44 (k0_pay4 v6) a) (k0_pay45 (k0_pay4 v6) a) (k0_pay46 (F := Ideal))
    = k0_pay82 acc (D v3 v6 v9 v12 w a) := rfl
theorem da5 : k0_pay58 (k0_pay50 (k0_pay3 v3) (k0_pay5 v9 v12) w) (k0_pay54 (k0_pay4 v6) a) (k0_pay55 (k0_pay4 v6) a) (k0_pay56 (k0_pay4 v6) a)
    = D v3 v6 v9 v12 w a := shapeCast_self _ _
theorem mx5 : k0_pay59 acc (k0_pay50 (k0_pay3 v3) (k0_pay5 v9 v12) w) (k0_pay54 (k0_pay4 v6) a) (k0_pay55 (k0_pay4 v6) a) (k0_pay56 (k0_pay4 v6) a)
    = k0_pay82 acc (D v3 v6 v9 v12 w a) := rfl
theorem da6 : k0_pay69 (k0_pay60 (k0_pay3 v3) (k0_pay5 v9 v12) w) (k0_pay64 (k0_pay4 v6) a) (k0_pay65 (k0_pay4 v6) a) (k0_pay66 (k0_pay4 v6) a) (k0_pay67 (F := Ideal))
    = D v3 v6 v9 v12 w a := shapeCast_self _ _
theorem mx6 : k0_pay70 acc (k0_pay60 (k0_pay3 v3) (k0_pay5 v9 v12) w) (k0_pay64 (k0_pay4 v6) a) (k0_pay65 (k0_pay4 v6) a) (k0_pay66 (k0_pay4 v6) a) (k0_pay67 (F := Ideal))
    = k0_pay82 acc (D v3 v6 v9 v12 w a) := rfl
theorem da7 : k0_pay78 (k0_pay71 (k0_pay3 v3) (k0_pay5 v9 v12) w) (k0_pay75 (k0_pay4 v6) a) (k0_pay76 (k0_pay4 v6) a)
    = D v3 v6 v9 v12 w a := shapeCast_self _ _
theorem mx7 : k0_pay79 acc (k0_pay71 (k0_pay3 v3) (k0_pay5 v9 v12) w) (k0_pay75 (k0_pay4 v6) a) (k0_pay76 (k0_pay4 v6) a)
    = k0_pay82 acc (D v3 v6 v9 v12 w a) := rfl
theorem da8 : k0_pay81 (k0_pay80 (k0_pay3 v3) (k0_pay4 v6) (k0_pay5 v9 v12) w a)
    = D v3 v6 v9 v12 w a := shapeCast_self _ _
theorem mx8 : k0_pay82 acc (k0_pay80 (k0_pay3 v3) (k0_pay4 v6) (k0_pay5 v9 v12) w a)
    = k0_pay82 acc (D v3 v6 v9 v12 w a) := rfl
theorem da9 : k0_pay84 (k0_pay83 (k0_pay3 v3) (k0_pay4 v6) (k0_pay5 v9 v12) w a)
    = D v3 v6 v9 v12 w a := shapeCast_self _ _
theorem mx9 : k0_pay85 acc (k0_pay83 (k0_pay3 v3) (k0_pay4 v6) (k0_pay5 v9 v12) w a)
    = k0_pay82 acc (D v3 v6 v9 v12 w a) := rfl
theorem da10 : k0_pay87 (k0_pay86 (k0_pay3 v3) (k0_pay4 v6) (k0_pay5 v9 v12) w a)
    = D v3 v6 v9 v12 w a := shapeCast_self _ _
theorem last_eq : k0_pay86 (k0_pay3 v3) (k0_pay4 v6) (k0_pay5 v9 v12) w a = D v3 v6 v9 v12 w a := rfl

/-- The constants by their names. -/
theorem c_eq : (Named.named (F := Ideal) κ "c" 0x3F4C422A#32 : Ideal .f32) = (cq : EReal) := rfl
theorem c_a_eq : (Named.named (F := Ideal) κ "c_a" 0x3D122279#32 : Ideal .f32) = ((cq * aq : ℝ) : EReal) := by
  show ((35677408136300126361 / 1000000000000000000000 : ℝ) : EReal) = _
  congr 1; unfold cq aq; norm_num
theorem half_c_eq : (Named.named (F := Ideal) κ "half_c" 0x3ECC422A#32 : Ideal .f32) = ((cq / 2 : ℝ) : EReal) := by
  show ((3989422804014327 / 10000000000000000 : ℝ) : EReal) = _
  congr 1; unfold cq; norm_num
theorem three_half_c_a_eq : (Named.named (F := Ideal) κ "three_half_c_a" 0x3D5B33B6#32 : Ideal .f32)
    = ((cq * aq * 3 / 2 : ℝ) : EReal) := by
  show ((107032224408900379083 / 2000000000000000000000 : ℝ) : EReal) = _
  congr 1; unfold cq aq; norm_num

/-- An entry of a chunk: the product with the weights, the token's scale, and the GELU derivative. -/
theorem D_apply (r : Fin 256) (l : Fin 512) : D v3 v6 v9 v12 w a (ix2 r l)
    = (∑ d : Fin 2048, v9 (ix2 r d) * v12 (ix2 0 d) * w (ix2 l d)) * v3 (ix3 0 0 r)
      * gker (a (ix2 r l) * v6 (ix3 0 0 r)) := by
  pointwise [D, k0_pay80, k0_pay3, k0_pay4, k0_pay5]
  rw [bits_half, c_eq, c_a_eq, half_c_eq, three_half_c_a_eq]
  rfl

/-- One more chunk taken into the lanes' running maximum. -/
theorem mx_apply (d : FVec Ideal S256x512 .f32) (r : Fin 256) (l : Fin 128) : k0_pay82 acc d (ix2 r l)
    = max (max (max (max (acc (ix2 r l)) (max (d (ix2 r ⟨l, by omega⟩)) (-d (ix2 r ⟨l, by omega⟩))))
      (max (d (ix2 r ⟨128 + l, by omega⟩)) (-d (ix2 r ⟨128 + l, by omega⟩))))
      (max (d (ix2 r ⟨256 + l, by omega⟩)) (-d (ix2 r ⟨256 + l, by omega⟩))))
      (max (d (ix2 r ⟨384 + l, by omega⟩)) (-d (ix2 r ⟨384 + l, by omega⟩))) := by
  pointwise [k0_pay82]
  rfl

end Chunks

/-! ## The scale of a token -/

/-- The running maximum of the lanes after `n` of the chunks `ds`. -/
def accV (ds : ℕ → FVec Ideal S256x512 .f32) : ℕ → FVec Ideal S256x128 .f32
  | 0 => k0_pay6 (F := Ideal)
  | n + 1 => k0_pay82 (accV ds n) (ds n)

theorem accV_apply (ds : ℕ → FVec Ideal S256x512 .f32) (n : ℕ) (r : Fin 256) (l : Fin 128) :
    accV ds n (ix2 r l) = acc (fun j k => ds j (ix2 r k)) n l := by
  induction n with
  | zero => show k0_pay6 (F := Ideal) (ix2 r l) = 0; pointwise [k0_pay6]
  | succ n ih => show k0_pay82 (accV ds n) (ds n) (ix2 r l) = _; rw [mx_apply, ih]; rfl

section Scale

variable (ds : ℕ → FVec Ideal S256x512 .f32) (r : Fin 256) (da : Fin 5632 → EReal)
  (hd : ∀ j (hj : j < 11) (k : Fin 512), ds j (ix2 r k) = da ⟨512 * j + k.val, chunk_lt j hj k⟩)

/-- The ratio whose power of two above is the token's scale. -/
def ratio (da : Fin 5632 → EReal) : EReal :=
  (Finset.univ.fold max (⊥ : EReal) fun f => max (da f) (-da f)) * Ideal.ofBits .f32 0x37924925#32

include hd in
/-- The exponent the kernel gets by counting. -/
theorem e_apply : k0_pay88 (accV ds 10) (ds 10) (ix2 r 0) = ek (ratio da) := by
  have h := acc_fold (fun j k => ds j (ix2 r k)) da hd
  have hl : ∀ l : Fin 128, k0_pay82 (accV ds 10) (ds 10) (ix2 r l) = acc (fun j k => ds j (ix2 r k)) 11 l :=
    fun l => accV_apply ds 11 r l
  have hl' : (fun l : Fin 128 => k0_pay82 (accV ds 10) (ds 10) (ix2 r l)) = acc (fun j k => ds j (ix2 r k)) 11 :=
    funext hl
  unfold ratio
  rw [← h, ← hl']
  simp only [mx_apply]
  pointwise [k0_pay88]
  rw [bits_neginf]
  exact ek_of_count _ _ fun j => rfl

include hd in
/-- The scale. -/
theorem s_apply : k0_pay89 (accV ds 10) (ds 10) (ix2 r 0) = Ideal.exp2 (eref (ratio da)) := by
  pointwise [k0_pay89]
  rw [e_apply ds r da hd]
  exact scale_bits _

include hd in
/-- The inverse of the scale. -/
theorem i_apply : k0_pay90 (accV ds 10) (ds 10) (ix2 r 0) = Ideal.exp2 (0 - eref (ratio da)) := by
  pointwise [k0_pay90]
  rw [e_apply ds r da hd]
  exact inv_bits _

include hd in
/-- The scale as the kernel writes it out. -/
theorem das_apply : k0_pay92 (k0_pay91 (accV ds 10) (ds 10)) (ix3 0 0 r) = Ideal.exp2 (eref (ratio da)) := by
  rw [← s_apply ds r da hd]
  pointwise [k0_pay92, k0_pay91]

end Scale

/-! ## Codes and gradients -/

/-- A code: the gradient times the inverse scale, cut off at the format's largest values. -/
theorem code_apply (v522 : FVec Ideal S256x1 .f32) (v527 : Vec Ideal S256x5632 .f32) (r : Fin 256) (l : Fin 5632) :
    k0_pay93 (F := Ideal) v522 v527 (ix2 r l)
      = min (Ideal.ofBits .f32 0x47600000#32) (max (Ideal.ofBits .f32 0xC7600000#32) (v527 (ix2 r l) * v522 (ix2 r 0))) := by
  pointwise [k0_pay93]

/-- The attention half of the gradient. -/
theorem attn_apply (v536 : Vec Ideal S256x6144 .fp8e5m2) (v539 : Vec Ideal S1x6144 .f32) (v544 : Vec Ideal S2048x6144 .fp8e4m3)
    (v547 : Vec Ideal S1x1x256 .f32) (r : Fin 256) (l : Fin 2048) : k0_pay94 (F := Ideal) v536 v539 v544 v547 (ix2 r l)
      = (∑ k : Fin 6144, v536 (ix2 r k) * v539 (ix2 0 k) * v544 (ix2 l k)) * v547 (ix3 0 0 r) := by
  pointwise [k0_pay94]

/-- The half of the gradient that goes through the codes. -/
theorem mlp_apply (v517 v522 : FVec Ideal S256x1 .f32) (v527 : Vec Ideal S256x5632 .f32) (v553 : Vec Ideal S1x5632 .f32)
    (v558 : Vec Ideal S2048x5632 .fp8e4m3) (r : Fin 256) (l : Fin 2048) :
    k0_pay95 (F := Ideal) v517 v522 v527 v553 v558 (ix2 r l)
      = (∑ f : Fin 5632, k0_pay93 (F := Ideal) v522 v527 (ix2 r f) * v553 (ix2 0 f) * v558 (ix2 l f)) * v517 (ix2 r 0) := by
  simp only [code_apply]
  pointwise [k0_pay95, k0_pay93]

variable (v551 v561 : FVec Ideal S256x2048 .f32) (v563 : Vec Ideal S256x2048 .fp8e4m3) (v566 : Vec Ideal S1x1x256 .f32)

/-- The gain's gradient: 32 groups of eight tokens added to what was there. -/
theorem dg_apply (v572 : Vec Ideal S8x2048 .f32) (r : Fin 8) (l : Fin 2048) :
    k0_pay99 (F := Ideal) v551 v561 v563 v566 v572 (ix2 r l)
      = v572 (ix2 r l) + ∑ x : Fin 32, (v561 (ix2 ⟨x * 8 + r, by omega⟩ l) + v551 (ix2 ⟨x * 8 + r, by omega⟩ l))
          * (v563 (ix2 ⟨x * 8 + r, by omega⟩ l) * v566 (ix3 0 0 ⟨x * 8 + r, by omega⟩)) := by
  pointwise [k0_pay99, k0_pay98, k0_pay97, k0_pay96]

/-- The layer norm's gradient before the token's reciprocal deviation. -/
theorem ln_apply (v578 : Vec Ideal S1x2048 .f32) (r : Fin 256) (l : Fin 2048) :
    k0_pay101 (F := Ideal) v551 v561 v563 v566 v578 (ix2 r l)
      = (v561 (ix2 r l) + v551 (ix2 r l)) * v578 (ix2 0 l) -
        (∑ x : Fin 2048, (v561 (ix2 r x) + v551 (ix2 r x)) * v578 (ix2 0 x)) * Ideal.ofBits .f32 0x3A000000#32 -
      v563 (ix2 r l) * v566 (ix3 0 0 r) *
        ((∑ x : Fin 2048, (v561 (ix2 r x) + v551 (ix2 r x)) * (v563 (ix2 r x) * v566 (ix3 0 0 r)) * v578 (ix2 0 x))
          * Ideal.ofBits .f32 0x3A000000#32) := by
  pointwise [k0_pay101, k0_pay98, k0_pay97, k0_pay96]

/-- The input gradient: the residual branch plus the layer norm's. -/
theorem dx_apply (v5 v592 : Vec Ideal S1x1x256 .f32) (v601 : FVec Ideal S256x2048 .f32)
    (v604 : Vec Ideal S256x2048 .fp8e5m2) (r : Fin 256) (l : Fin 2048) :
    k0_pay1 (F := Ideal) (k0_pay3 v5) (k0_pay100 v592) v601 v604 (ix2 r l)
      = v604 (ix2 r l) * v5 (ix3 0 0 r) + v592 (ix3 0 0 r) * v601 (ix2 r l) := by
  pointwise [k0_pay1, k0_pay3, k0_pay100]

end Cert.TokenIdeal.Pay
-- ==== Proof.TokenBlock.lean ====
/-
  One grid point of the token kernel as a computation on its 256 tokens: each row of its vectors is the token pass on that
  token, and the scratch filled in eleven stores holds the whole pre-activation gradient.
-/
module

public import proofs.«01_k».proof.Proof.TokenPay
public import proofs.«01_k».proof.Proof.TokenVal

@[expose] public section

set_option maxRecDepth 16384

noncomputable section

open Idealize.ShloMosaic Idealize.ShloMosaic.TcCoe Idealize.SL.Sem
open scoped BigOperators

namespace Cert.TokenIdeal.Point

open Cert.TokenIdeal Cert.TokenIdeal.Gen Cert.TokenIdeal.Pay Cert.TokenMath

theorem hz2 : (![0, 0] : Fin 2 → Nat) = fun _ => 0 := funext fun a => by fin_cases a <;> rfl
theorem hz3 : (![0, 0, 0] : Fin 3 → Nat) = fun _ => 0 := funext fun a => by fin_cases a <;> rfl

section Blocks

variable (x0 : Vec Ideal S256x2048 .fp8e5m2) (x1 : Vec Ideal S1x1x256 .f32) (x2 : Vec Ideal S256x6144 .fp8e5m2)
  (x3 : Vec Ideal S1x1x256 .f32) (x4 : Vec Ideal S256x2048 .fp8e4m3) (x5 : Vec Ideal S1x1x256 .f32)
  (x6 : Vec Ideal S1x1x256 .f32) (x7 : Vec Ideal S1x2048 .f32) (x8 : Vec Ideal S256x5632 .fp8e4m3)
  (x9 : Vec Ideal S1x1x256 .f32) (x10 : Vec Ideal S2048x5632 .fp8e4m3) (x11 : Vec Ideal S1x5632 .f32)
  (x12 : Vec Ideal S5632x2048 .fp8e4m3) (x13 : Vec Ideal S1x2048 .f32) (x14 : Vec Ideal S2048x6144 .fp8e4m3)
  (x15 : Vec Ideal S1x6144 .f32)

/-- The token in row `r` of a point's blocks. -/
def row (r : Fin 256) : Row where
  dy d := x0 (ix2 r d)
  dys := x1 (ix3 0 0 r)
  q k := x2 (ix2 r k)
  qs := x3 (ix3 0 0 r)
  xh d := x4 (ix2 r d)
  xs := x5 (ix3 0 0 r)
  rs := x6 (ix3 0 0 r)
  g d := x7 (ix2 0 d)
  a f := x8 (ix2 r f)
  asc := x9 (ix3 0 0 r)
  win d f := x10 (ix2 d f)
  sin f := x11 (ix2 0 f)
  wout f d := x12 (ix2 f d)
  sout d := x13 (ix2 0 d)
  wq d k := x14 (ix2 d k)
  sq k := x15 (ix2 0 k)

/-- Rows 512 n … of the output projection's weights. -/
def wsl (n : Fin 11) : Vec Ideal S512x2048 .fp8e4m3 :=
  fun k => x12 (ix2 ⟨512 * n.val + (k 0).val, by have : (k 0).val < 512 := (k 0).isLt; omega⟩ (k 1))

/-- Columns 512 n … of the activations. -/
def asl (n : Fin 11) : Vec Ideal S256x512 .fp8e4m3 :=
  fun k => x8 (ix2 (k 0) ⟨512 * n.val + (k 1).val, by have : (k 1).val < 512 := (k 1).isLt; omega⟩)

theorem ldw0 : (View.ld x12 (Rect.unit (s := S5632x2048) ![0, 0] ![512, 2048] inb_S5632x2048_S512x2048_0_0) : Vec Ideal S512x2048 .fp8e4m3) = wsl x12 0 :=
  funext fun k => congrArg x12 (funext fun b => Fin.ext (by
    fin_cases b
    · show 0 + 1 * (k 0).val = 512 * 0 + (k 0).val; omega
    · show 0 + 1 * (k 1).val = (k 1).val; omega))
theorem lda0 : (View.ld x8 (Rect.unit (s := S256x5632) ![0, 0] ![256, 512] inb_S256x5632_S256x512_0_0) : Vec Ideal S256x512 .fp8e4m3) = asl x8 0 :=
  funext fun k => congrArg x8 (funext fun b => Fin.ext (by
    fin_cases b
    · show 0 + 1 * (k 0).val = (k 0).val; omega
    · show 0 + 1 * (k 1).val = 512 * 0 + (k 1).val; omega))
theorem ldw1 : (View.ld x12 (Rect.unit (s := S5632x2048) ![512, 0] ![512, 2048] inb_S5632x2048_S512x2048_512_0) : Vec Ideal S512x2048 .fp8e4m3) = wsl x12 1 :=
  funext fun k => congrArg x12 (funext fun b => Fin.ext (by
    fin_cases b
    · show 512 + 1 * (k 0).val = 512 * 1 + (k 0).val; omega
    · show 0 + 1 * (k 1).val = (k 1).val; omega))
theorem lda1 : (View.ld x8 (Rect.unit (s := S256x5632) ![0, 512] ![256, 512] inb_S256x5632_S256x512_0_512) : Vec Ideal S256x512 .fp8e4m3) = asl x8 1 :=
  funext fun k => congrArg x8 (funext fun b => Fin.ext (by
    fin_cases b
    · show 0 + 1 * (k 0).val = (k 0).val; omega
    · show 512 + 1 * (k 1).val = 512 * 1 + (k 1).val; omega))
theorem ldw2 : (View.ld x12 (Rect.unit (s := S5632x2048) ![1024, 0] ![512, 2048] inb_S5632x2048_S512x2048_1024_0) : Vec Ideal S512x2048 .fp8e4m3) = wsl x12 2 :=
  funext fun k => congrArg x12 (funext fun b => Fin.ext (by
    fin_cases b
    · show 1024 + 1 * (k 0).val = 512 * 2 + (k 0).val; omega
    · show 0 + 1 * (k 1).val = (k 1).val; omega))
theorem lda2 : (View.ld x8 (Rect.unit (s := S256x5632) ![0, 1024] ![256, 512] inb_S256x5632_S256x512_0_1024) : Vec Ideal S256x512 .fp8e4m3) = asl x8 2 :=
  funext fun k => congrArg x8 (funext fun b => Fin.ext (by
    fin_cases b
    · show 0 + 1 * (k 0).val = (k 0).val; omega
    · show 1024 + 1 * (k 1).val = 512 * 2 + (k 1).val; omega))
theorem ldw3 : (View.ld x12 (Rect.unit (s := S5632x2048) ![1536, 0] ![512, 2048] inb_S5632x2048_S512x2048_1536_0) : Vec Ideal S512x2048 .fp8e4m3) = wsl x12 3 :=
  funext fun k => congrArg x12 (funext fun b => Fin.ext (by
    fin_cases b
    · show 1536 + 1 * (k 0).val = 512 * 3 + (k 0).val; omega
    · show 0 + 1 * (k 1).val = (k 1).val; omega))
theorem lda3 : (View.ld x8 (Rect.unit (s := S256x5632) ![0, 1536] ![256, 512] inb_S256x5632_S256x512_0_1536) : Vec Ideal S256x512 .fp8e4m3) = asl x8 3 :=
  funext fun k => congrArg x8 (funext fun b => Fin.ext (by
    fin_cases b
    · show 0 + 1 * (k 0).val = (k 0).val; omega
    · show 1536 + 1 * (k 1).val = 512 * 3 + (k 1).val; omega))
theorem ldw4 : (View.ld x12 (Rect.unit (s := S5632x2048) ![2048, 0] ![512, 2048] inb_S5632x2048_S512x2048_2048_0) : Vec Ideal S512x2048 .fp8e4m3) = wsl x12 4 :=
  funext fun k => congrArg x12 (funext fun b => Fin.ext (by
    fin_cases b
    · show 2048 + 1 * (k 0).val = 512 * 4 + (k 0).val; omega
    · show 0 + 1 * (k 1).val = (k 1).val; omega))
theorem lda4 : (View.ld x8 (Rect.unit (s := S256x5632) ![0, 2048] ![256, 512] inb_S256x5632_S256x512_0_2048) : Vec Ideal S256x512 .fp8e4m3) = asl x8 4 :=
  funext fun k => congrArg x8 (funext fun b => Fin.ext (by
    fin_cases b
    · show 0 + 1 * (k 0).val = (k 0).val; omega
    · show 2048 + 1 * (k 1).val = 512 * 4 + (k 1).val; omega))
theorem ldw5 : (View.ld x12 (Rect.unit (s := S5632x2048) ![2560, 0] ![512, 2048] inb_S5632x2048_S512x2048_2560_0) : Vec Ideal S512x2048 .fp8e4m3) = wsl x12 5 :=
  funext fun k => congrArg x12 (funext fun b => Fin.ext (by
    fin_cases b
    · show 2560 + 1 * (k 0).val = 512 * 5 + (k 0).val; omega
    · show 0 + 1 * (k 1).val = (k 1).val; omega))
theorem lda5 : (View.ld x8 (Rect.unit (s := S256x5632) ![0, 2560] ![256, 512] inb_S256x5632_S256x512_0_2560) : Vec Ideal S256x512 .fp8e4m3) = asl x8 5 :=
  funext fun k => congrArg x8 (funext fun b => Fin.ext (by
    fin_cases b
    · show 0 + 1 * (k 0).val = (k 0).val; omega
    · show 2560 + 1 * (k 1).val = 512 * 5 + (k 1).val; omega))
theorem ldw6 : (View.ld x12 (Rect.unit (s := S5632x2048) ![3072, 0] ![512, 2048] inb_S5632x2048_S512x2048_3072_0) : Vec Ideal S512x2048 .fp8e4m3) = wsl x12 6 :=
  funext fun k => congrArg x12 (funext fun b => Fin.ext (by
    fin_cases b
    · show 3072 + 1 * (k 0).val = 512 * 6 + (k 0).val; omega
    · show 0 + 1 * (k 1).val = (k 1).val; omega))
theorem lda6 : (View.ld x8 (Rect.unit (s := S256x5632) ![0, 3072] ![256, 512] inb_S256x5632_S256x512_0_3072) : Vec Ideal S256x512 .fp8e4m3) = asl x8 6 :=
  funext fun k => congrArg x8 (funext fun b => Fin.ext (by
    fin_cases b
    · show 0 + 1 * (k 0).val = (k 0).val; omega
    · show 3072 + 1 * (k 1).val = 512 * 6 + (k 1).val; omega))
theorem ldw7 : (View.ld x12 (Rect.unit (s := S5632x2048) ![3584, 0] ![512, 2048] inb_S5632x2048_S512x2048_3584_0) : Vec Ideal S512x2048 .fp8e4m3) = wsl x12 7 :=
  funext fun k => congrArg x12 (funext fun b => Fin.ext (by
    fin_cases b
    · show 3584 + 1 * (k 0).val = 512 * 7 + (k 0).val; omega
    · show 0 + 1 * (k 1).val = (k 1).val; omega))
theorem lda7 : (View.ld x8 (Rect.unit (s := S256x5632) ![0, 3584] ![256, 512] inb_S256x5632_S256x512_0_3584) : Vec Ideal S256x512 .fp8e4m3) = asl x8 7 :=
  funext fun k => congrArg x8 (funext fun b => Fin.ext (by
    fin_cases b
    · show 0 + 1 * (k 0).val = (k 0).val; omega
    · show 3584 + 1 * (k 1).val = 512 * 7 + (k 1).val; omega))
theorem ldw8 : (View.ld x12 (Rect.unit (s := S5632x2048) ![4096, 0] ![512, 2048] inb_S5632x2048_S512x2048_4096_0) : Vec Ideal S512x2048 .fp8e4m3) = wsl x12 8 :=
  funext fun k => congrArg x12 (funext fun b => Fin.ext (by
    fin_cases b
    · show 4096 + 1 * (k 0).val = 512 * 8 + (k 0).val; omega
    · show 0 + 1 * (k 1).val = (k 1).val; omega))
theorem lda8 : (View.ld x8 (Rect.unit (s := S256x5632) ![0, 4096] ![256, 512] inb_S256x5632_S256x512_0_4096) : Vec Ideal S256x512 .fp8e4m3) = asl x8 8 :=
  funext fun k => congrArg x8 (funext fun b => Fin.ext (by
    fin_cases b
    · show 0 + 1 * (k 0).val = (k 0).val; omega
    · show 4096 + 1 * (k 1).val = 512 * 8 + (k 1).val; omega))
theorem ldw9 : (View.ld x12 (Rect.unit (s := S5632x2048) ![4608, 0] ![512, 2048] inb_S5632x2048_S512x2048_4608_0) : Vec Ideal S512x2048 .fp8e4m3) = wsl x12 9 :=
  funext fun k => congrArg x12 (funext fun b => Fin.ext (by
    fin_cases b
    · show 4608 + 1 * (k 0).val = 512 * 9 + (k 0).val; omega
    · show 0 + 1 * (k 1).val = (k 1).val; omega))
theorem lda9 : (View.ld x8 (Rect.unit (s := S256x5632) ![0, 4608] ![256, 512] inb_S256x5632_S256x512_0_4608) : Vec Ideal S256x512 .fp8e4m3) = asl x8 9 :=
  funext fun k => congrArg x8 (funext fun b => Fin.ext (by
    fin_cases b
    · show 0 + 1 * (k 0).val = (k 0).val; omega
    · show 4608 + 1 * (k 1).val = 512 * 9 + (k 1).val; omega))
theorem ldw10 : (View.ld x12 (Rect.unit (s := S5632x2048) ![5120, 0] ![512, 2048] inb_S5632x2048_S512x2048_5120_0) : Vec Ideal S512x2048 .fp8e4m3) = wsl x12 10 :=
  funext fun k => congrArg x12 (funext fun b => Fin.ext (by
    fin_cases b
    · show 5120 + 1 * (k 0).val = 512 * 10 + (k 0).val; omega
    · show 0 + 1 * (k 1).val = (k 1).val; omega))
theorem lda10 : (View.ld x8 (Rect.unit (s := S256x5632) ![0, 5120] ![256, 512] inb_S256x5632_S256x512_0_5120) : Vec Ideal S256x512 .fp8e4m3) = asl x8 10 :=
  funext fun k => congrArg x8 (funext fun b => Fin.ext (by
    fin_cases b
    · show 0 + 1 * (k 0).val = (k 0).val; omega
    · show 5120 + 1 * (k 1).val = 512 * 10 + (k 1).val; omega))

theorem p87 (d : FVec Ideal S256x512 .f32) : k0_pay87 d = d := shapeCast_self _ _

/-- The chunks of the pre-activation gradient. -/
def ds (n : ℕ) : FVec Ideal S256x512 .f32 :=
  if h : n < 11 then D x1 x9 x0 x13 (wsl x12 ⟨n, h⟩) (asl x8 ⟨n, h⟩) else fun _ => 0

/-- An entry of a chunk is the token's pre-activation gradient at that column. -/
theorem D_row (n : Fin 11) (r : Fin 256) (l : Fin 512) : D x1 x9 x0 x13 (wsl x12 n) (asl x8 n) (ix2 r l)
    = (row x0 x1 x2 x3 x4 x5 x6 x7 x8 x9 x10 x11 x12 x13 x14 x15 r).da ⟨512 * n.val + l.val, by omega⟩ := by
  rw [D_apply, gker_eq]
  unfold Row.da
  have h : ∀ d : Fin 2048, x0 (ix2 r d) * x13 (ix2 0 d) * wsl x12 n (ix2 l d)
      = x0 (ix2 r d) * (x12 (ix2 ⟨512 * n.val + l.val, by omega⟩ d) * x13 (ix2 0 d)) := by
    intro d
    rw [mul_assoc, mul_comm (x13 _)]
    rfl
  simp only [h]
  rfl

theorem ds_row (r : Fin 256) (j : ℕ) (hj : j < 11) (k : Fin 512) : ds x0 x1 x8 x9 x12 x13 j (ix2 r k)
    = (row x0 x1 x2 x3 x4 x5 x6 x7 x8 x9 x10 x11 x12 x13 x14 x15 r).da ⟨512 * j + k.val, by omega⟩ := by
  unfold ds
  rw [dif_pos hj]
  exact D_row x0 x1 x2 x3 x4 x5 x6 x7 x8 x9 x10 x11 x12 x13 x14 x15 ⟨j, hj⟩ r k

/-- The whole pre-activation gradient of a point's tokens. -/
def DA : Vec Ideal S256x5632 .f32 :=
  fun j => (row x0 x1 x2 x3 x4 x5 x6 x7 x8 x9 x10 x11 x12 x13 x14 x15 (j 0)).da (j 1)

theorem DA_at (n : Fin 11) (x : S256x512.Idx) (y : S256x5632.Idx) (h0 : (y 0).val = (x 0).val)
    (h1 : (y 1).val = 512 * n.val + (x 1).val) : D x1 x9 x0 x13 (wsl x12 n) (asl x8 n) x = DA x0 x1 x2 x3 x4 x5 x6 x7 x8 x9 x10 x11 x12 x13 x14 x15 y := by
  have e : x = ix2 (x 0) (x 1) := funext fun b => by fin_cases b <;> rfl
  refine (congrArg _ e).trans ((D_row x0 x1 x2 x3 x4 x5 x6 x7 x8 x9 x10 x11 x12 x13 x14 x15 n (x 0) (x 1)).trans ?_)
  unfold DA
  have hl : (x 1).val < 512 := (x 1).isLt
  rw [show (y 0 : Fin 256) = x 0 from Fin.ext h0,
    show (y 1 : Fin 5632) = ⟨512 * n.val + (x 1).val, by omega⟩ from Fin.ext h1]
  rfl

/-- The scratch read back after its eleven stores holds the gradient at every column. -/
theorem scratch_eq (v : View sig .tc .vmem S256x5632 .f32) : v.readCov
    ([⟨Rect.unit (s := S256x5632) ![0, 5120] ![256, 512] inb_S256x5632_S256x512_0_5120, D x1 x9 x0 x13 (wsl x12 10) (asl x8 10)⟩,
      ⟨Rect.unit (s := S256x5632) ![0, 4608] ![256, 512] inb_S256x5632_S256x512_0_4608, D x1 x9 x0 x13 (wsl x12 9) (asl x8 9)⟩,
      ⟨Rect.unit (s := S256x5632) ![0, 4096] ![256, 512] inb_S256x5632_S256x512_0_4096, D x1 x9 x0 x13 (wsl x12 8) (asl x8 8)⟩,
      ⟨Rect.unit (s := S256x5632) ![0, 3584] ![256, 512] inb_S256x5632_S256x512_0_3584, D x1 x9 x0 x13 (wsl x12 7) (asl x8 7)⟩,
      ⟨Rect.unit (s := S256x5632) ![0, 3072] ![256, 512] inb_S256x5632_S256x512_0_3072, D x1 x9 x0 x13 (wsl x12 6) (asl x8 6)⟩,
      ⟨Rect.unit (s := S256x5632) ![0, 2560] ![256, 512] inb_S256x5632_S256x512_0_2560, D x1 x9 x0 x13 (wsl x12 5) (asl x8 5)⟩,
      ⟨Rect.unit (s := S256x5632) ![0, 2048] ![256, 512] inb_S256x5632_S256x512_0_2048, D x1 x9 x0 x13 (wsl x12 4) (asl x8 4)⟩,
      ⟨Rect.unit (s := S256x5632) ![0, 1536] ![256, 512] inb_S256x5632_S256x512_0_1536, D x1 x9 x0 x13 (wsl x12 3) (asl x8 3)⟩,
      ⟨Rect.unit (s := S256x5632) ![0, 1024] ![256, 512] inb_S256x5632_S256x512_0_1024, D x1 x9 x0 x13 (wsl x12 2) (asl x8 2)⟩,
      ⟨Rect.unit (s := S256x5632) ![0, 512] ![256, 512] inb_S256x5632_S256x512_0_512, D x1 x9 x0 x13 (wsl x12 1) (asl x8 1)⟩,
      ⟨Rect.unit (s := S256x5632) ![0, 0] ![256, 512] inb_S256x5632_S256x512_0_0, D x1 x9 x0 x13 (wsl x12 0) (asl x8 0)⟩] : List (View.Piece (Elt Ideal) S256x5632 .f32))
    (Rect.unit (s := S256x5632) ![0, 0] ![256, 5632] inb_S256x5632_S256x5632_0_0).toLoadRect = DA x0 x1 x2 x3 x4 x5 x6 x7 x8 x9 x10 x11 x12 x13 x14 x15 := by
  rw [View.readCov_eq_canon']
  funext j
  refine (View.canon_apply_of_pieces (DA x0 x1 x2 x3 x4 x5 x6 x7 x8 x9 x10 x11 x12 x13 x14 x15) _ ?_ _ (?_)).trans ?_
  · intro p hp x
    simp only [List.mem_cons, List.not_mem_nil, or_false] at hp
    rcases hp with rfl | rfl | rfl | rfl | rfl | rfl | rfl | rfl | rfl | rfl | rfl
    · exact DA_at x0 x1 x2 x3 x4 x5 x6 x7 x8 x9 x10 x11 x12 x13 x14 x15 10 x _ (by show 0 + 1 * (x 0).val = (x 0).val; omega) (by show 5120 + 1 * (x 1).val = 512 * 10 + (x 1).val; omega)
    · exact DA_at x0 x1 x2 x3 x4 x5 x6 x7 x8 x9 x10 x11 x12 x13 x14 x15 9 x _ (by show 0 + 1 * (x 0).val = (x 0).val; omega) (by show 4608 + 1 * (x 1).val = 512 * 9 + (x 1).val; omega)
    · exact DA_at x0 x1 x2 x3 x4 x5 x6 x7 x8 x9 x10 x11 x12 x13 x14 x15 8 x _ (by show 0 + 1 * (x 0).val = (x 0).val; omega) (by show 4096 + 1 * (x 1).val = 512 * 8 + (x 1).val; omega)
    · exact DA_at x0 x1 x2 x3 x4 x5 x6 x7 x8 x9 x10 x11 x12 x13 x14 x15 7 x _ (by show 0 + 1 * (x 0).val = (x 0).val; omega) (by show 3584 + 1 * (x 1).val = 512 * 7 + (x 1).val; omega)
    · exact DA_at x0 x1 x2 x3 x4 x5 x6 x7 x8 x9 x10 x11 x12 x13 x14 x15 6 x _ (by show 0 + 1 * (x 0).val = (x 0).val; omega) (by show 3072 + 1 * (x 1).val = 512 * 6 + (x 1).val; omega)
    · exact DA_at x0 x1 x2 x3 x4 x5 x6 x7 x8 x9 x10 x11 x12 x13 x14 x15 5 x _ (by show 0 + 1 * (x 0).val = (x 0).val; omega) (by show 2560 + 1 * (x 1).val = 512 * 5 + (x 1).val; omega)
    · exact DA_at x0 x1 x2 x3 x4 x5 x6 x7 x8 x9 x10 x11 x12 x13 x14 x15 4 x _ (by show 0 + 1 * (x 0).val = (x 0).val; omega) (by show 2048 + 1 * (x 1).val = 512 * 4 + (x 1).val; omega)
    · exact DA_at x0 x1 x2 x3 x4 x5 x6 x7 x8 x9 x10 x11 x12 x13 x14 x15 3 x _ (by show 0 + 1 * (x 0).val = (x 0).val; omega) (by show 1536 + 1 * (x 1).val = 512 * 3 + (x 1).val; omega)
    · exact DA_at x0 x1 x2 x3 x4 x5 x6 x7 x8 x9 x10 x11 x12 x13 x14 x15 2 x _ (by show 0 + 1 * (x 0).val = (x 0).val; omega) (by show 1024 + 1 * (x 1).val = 512 * 2 + (x 1).val; omega)
    · exact DA_at x0 x1 x2 x3 x4 x5 x6 x7 x8 x9 x10 x11 x12 x13 x14 x15 1 x _ (by show 0 + 1 * (x 0).val = (x 0).val; omega) (by show 512 + 1 * (x 1).val = 512 * 1 + (x 1).val; omega)
    · exact DA_at x0 x1 x2 x3 x4 x5 x6 x7 x8 x9 x10 x11 x12 x13 x14 x15 0 x _ (by show 0 + 1 * (x 0).val = (x 0).val; omega) (by show 0 + 1 * (x 1).val = 512 * 0 + (x 1).val; omega)
  · exact View.cover_of_tiledL (s := S256x5632) _ ![256, 512] (by sl_kernel_rfl) _
  · exact congrArg (DA x0 x1 x2 x3 x4 x5 x6 x7 x8 x9 x10 x11 x12 x13 x14 x15) (funext fun b => Fin.ext (by fin_cases b <;> (show 0 + 1 * (j _).val = (j _).val; omega)))

/-! ## The results of a row -/

/-- The running maximum before the last chunk. -/
def AM : FVec Ideal S256x128 .f32 := accV (ds x0 x1 x8 x9 x12 x13) 10

/-- The last chunk. -/
def LAST : FVec Ideal S256x512 .f32 := ds x0 x1 x8 x9 x12 x13 10

theorem AM_eq : k0_pay82 (k0_pay82 (k0_pay82 (k0_pay82 (k0_pay82 (k0_pay82 (k0_pay82 (k0_pay82 (k0_pay82 (k0_pay82 (k0_pay6 (F := Ideal))
    (D x1 x9 x0 x13 (wsl x12 0) (asl x8 0))) (D x1 x9 x0 x13 (wsl x12 1) (asl x8 1))) (D x1 x9 x0 x13 (wsl x12 2) (asl x8 2)))
    (D x1 x9 x0 x13 (wsl x12 3) (asl x8 3))) (D x1 x9 x0 x13 (wsl x12 4) (asl x8 4))) (D x1 x9 x0 x13 (wsl x12 5) (asl x8 5)))
    (D x1 x9 x0 x13 (wsl x12 6) (asl x8 6))) (D x1 x9 x0 x13 (wsl x12 7) (asl x8 7))) (D x1 x9 x0 x13 (wsl x12 8) (asl x8 8)))
    (D x1 x9 x0 x13 (wsl x12 9) (asl x8 9)) = AM x0 x1 x8 x9 x12 x13 := rfl

theorem LAST_eq : D x1 x9 x0 x13 (wsl x12 10) (asl x8 10) = LAST x0 x1 x8 x9 x12 x13 := rfl

theorem scale_row (r : Fin 256) : k0_pay89 (AM x0 x1 x8 x9 x12 x13) (LAST x0 x1 x8 x9 x12 x13) (ix2 r 0)
    = (row x0 x1 x2 x3 x4 x5 x6 x7 x8 x9 x10 x11 x12 x13 x14 x15 r).scale :=
  s_apply _ r _ (ds_row x0 x1 x2 x3 x4 x5 x6 x7 x8 x9 x10 x11 x12 x13 x14 x15 r)

/-- The scale of each token. -/
theorem das_row (r : Fin 256) : k0_pay92 (k0_pay91 (AM x0 x1 x8 x9 x12 x13) (LAST x0 x1 x8 x9 x12 x13)) (ix3 0 0 r)
    = (row x0 x1 x2 x3 x4 x5 x6 x7 x8 x9 x10 x11 x12 x13 x14 x15 r).scale :=
  das_apply _ r _ (ds_row x0 x1 x2 x3 x4 x5 x6 x7 x8 x9 x10 x11 x12 x13 x14 x15 r)

/-- The codes of each token. -/
theorem code_row (r : Fin 256) (f : Fin 5632) : k0_pay93 (k0_pay90 (AM x0 x1 x8 x9 x12 x13) (LAST x0 x1 x8 x9 x12 x13)) (DA x0 x1 x2 x3 x4 x5 x6 x7 x8 x9 x10 x11 x12 x13 x14 x15) (ix2 r f)
    = (row x0 x1 x2 x3 x4 x5 x6 x7 x8 x9 x10 x11 x12 x13 x14 x15 r).code f := by
  have h : k0_pay90 (AM x0 x1 x8 x9 x12 x13) (LAST x0 x1 x8 x9 x12 x13) (ix2 r 0) = Ideal.exp2 (0 - (row x0 x1 x2 x3 x4 x5 x6 x7 x8 x9 x10 x11 x12 x13 x14 x15 r).ex) :=
    i_apply _ r _ (ds_row x0 x1 x2 x3 x4 x5 x6 x7 x8 x9 x10 x11 x12 x13 x14 x15 r)
  rw [code_apply, h]
  rfl

/-- The half of the gradient through the codes. -/
def MLP : FVec Ideal S256x2048 .f32 :=
  k0_pay95 (k0_pay89 (AM x0 x1 x8 x9 x12 x13) (LAST x0 x1 x8 x9 x12 x13)) (k0_pay90 (AM x0 x1 x8 x9 x12 x13) (LAST x0 x1 x8 x9 x12 x13)) (DA x0 x1 x2 x3 x4 x5 x6 x7 x8 x9 x10 x11 x12 x13 x14 x15) x11 x10

/-- The two halves add up to the gradient behind the layer norm. -/
theorem dh_row (r : Fin 256) (d : Fin 2048) : MLP x0 x1 x2 x3 x4 x5 x6 x7 x8 x9 x10 x11 x12 x13 x14 x15 (ix2 r d) + k0_pay94 x2 x15 x14 x3 (ix2 r d)
    = (row x0 x1 x2 x3 x4 x5 x6 x7 x8 x9 x10 x11 x12 x13 x14 x15 r).dh d := by
  unfold MLP
  rw [mlp_apply, attn_apply, scale_row x0 x1 x2 x3 x4 x5 x6 x7 x8 x9 x10 x11 x12 x13 x14 x15]
  have h1 : ∀ f : Fin 5632, k0_pay93 (k0_pay90 (AM x0 x1 x8 x9 x12 x13) (LAST x0 x1 x8 x9 x12 x13)) (DA x0 x1 x2 x3 x4 x5 x6 x7 x8 x9 x10 x11 x12 x13 x14 x15) (ix2 r f)
      * x11 (ix2 0 f) * x10 (ix2 d f)
      = (row x0 x1 x2 x3 x4 x5 x6 x7 x8 x9 x10 x11 x12 x13 x14 x15 r).code f * ((row x0 x1 x2 x3 x4 x5 x6 x7 x8 x9 x10 x11 x12 x13 x14 x15 r).win d f * (row x0 x1 x2 x3 x4 x5 x6 x7 x8 x9 x10 x11 x12 x13 x14 x15 r).sin f) := by
    intro f
    rw [code_row, mul_assoc, mul_comm (x11 _)]
    rfl
  have h2 : ∀ k : Fin 6144, x2 (ix2 r k) * x15 (ix2 0 k) * x14 (ix2 d k)
      = (row x0 x1 x2 x3 x4 x5 x6 x7 x8 x9 x10 x11 x12 x13 x14 x15 r).q k * ((row x0 x1 x2 x3 x4 x5 x6 x7 x8 x9 x10 x11 x12 x13 x14 x15 r).wq d k * (row x0 x1 x2 x3 x4 x5 x6 x7 x8 x9 x10 x11 x12 x13 x14 x15 r).sq k) := by
    intro k
    rw [mul_assoc, mul_comm (x15 _)]
    rfl
  simp only [h1, h2]
  rfl

/-- The gain's gradient: the tokens' contributions in 32 groups of eight added to what was there. -/
theorem dg_row (prev : Vec Ideal S8x2048 .f32) (s : Fin 8) (l : Fin 2048) :
    k0_pay99 (k0_pay94 x2 x15 x14 x3) (MLP x0 x1 x2 x3 x4 x5 x6 x7 x8 x9 x10 x11 x12 x13 x14 x15) x4 x5 prev (ix2 s l)
      = prev (ix2 s l) + ∑ x : Fin 32, (row x0 x1 x2 x3 x4 x5 x6 x7 x8 x9 x10 x11 x12 x13 x14 x15 ⟨x.val * 8 + s.val, by omega⟩).dg l := by
  rw [dg_apply]
  simp only [dh_row]
  rfl

/-- The input gradient of each token. -/
theorem dx_row (r : Fin 256) (l : Fin 2048) :
    k0_pay1 (k0_pay3 x1) (k0_pay100 x6) (k0_pay101 (k0_pay94 x2 x15 x14 x3) (MLP x0 x1 x2 x3 x4 x5 x6 x7 x8 x9 x10 x11 x12 x13 x14 x15) x4 x5 x7) x0 (ix2 r l)
      = (row x0 x1 x2 x3 x4 x5 x6 x7 x8 x9 x10 x11 x12 x13 x14 x15 r).dx l := by
  rw [dx_apply, ln_apply]
  simp only [dh_row]
  unfold Row.dx
  rw [div_2048, div_2048]
  have h : ∀ k : Fin 2048, (row x0 x1 x2 x3 x4 x5 x6 x7 x8 x9 x10 x11 x12 x13 x14 x15 r).dh k * (x4 (ix2 r k) * x5 (ix3 0 0 r)) * x7 (ix2 0 k)
      = (row x0 x1 x2 x3 x4 x5 x6 x7 x8 x9 x10 x11 x12 x13 x14 x15 r).dh k * (row x0 x1 x2 x3 x4 x5 x6 x7 x8 x9 x10 x11 x12 x13 x14 x15 r).g k * (row x0 x1 x2 x3 x4 x5 x6 x7 x8 x9 x10 x11 x12 x13 x14 x15 r).xn k := by
    intro k
    rw [mul_right_comm]
    rfl
  simp only [h]
  rfl

end Blocks

end Cert.TokenIdeal.Point
-- ==== Proof.TokenOutA.lean ====
/-
  What a grid point of the token kernel leaves in its four output blocks, at the first point, where the sums of the gain start at zero.
-/
module

public import proofs.«01_k».proof.Proof.TokenBlock

@[expose] public section

set_option maxRecDepth 16384

noncomputable section

open Idealize.ShloMosaic Idealize.ShloMosaic.TcCoe Idealize.SL.Sem
open scoped BigOperators

namespace Cert.TokenIdeal.Point

open Cert.TokenIdeal Cert.TokenIdeal.Gen Cert.TokenIdeal.Pay Cert.TokenMath

section OutA

variable (c : Dev nD) (i : grid0.Coords) (arg1 : Memref sig .tc .vmem S256x2048 .fp8e5m2) (harg1 : arg1.IsWhole) (arg2 : Memref sig .tc .vmem S1x1x256 .f32) (harg2 : arg2.IsWhole) (arg3 : Memref sig .tc .vmem S256x6144 .fp8e5m2) (harg3 : arg3.IsWhole) (arg4 : Memref sig .tc .vmem S1x1x256 .f32) (harg4 : arg4.IsWhole) (arg5 : Memref sig .tc .vmem S256x2048 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x2048 .f32) (harg8 : arg8.IsWhole) (arg9 : Memref sig .tc .vmem S256x5632 .fp8e4m3) (harg9 : arg9.IsWhole) (arg10 : Memref sig .tc .vmem S1x1x256 .f32) (harg10 : arg10.IsWhole) (arg11 : Memref sig .tc .vmem S2048x5632 .fp8e4m3) (harg11 : arg11.IsWhole) (arg12 : Memref sig .tc .vmem S1x5632 .f32) (harg12 : arg12.IsWhole) (arg13 : Memref sig .tc .vmem S5632x2048 .fp8e4m3) (harg13 : arg13.IsWhole) (arg14 : Memref sig .tc .vmem S1x2048 .f32) (harg14 : arg14.IsWhole) (arg15 : Memref sig .tc .vmem S2048x6144 .fp8e4m3) (harg15 : arg15.IsWhole) (arg16 : Memref sig .tc .vmem S1x6144 .f32) (harg16 : arg16.IsWhole) (arg17 : Memref sig .tc .vmem S256x2048 .bf16) (harg17 : arg17.IsWhole) (arg18 : Memref sig .tc .vmem S256x5632 .fp8e5m2) (harg18 : arg18.IsWhole) (arg19 : Memref sig .tc .vmem S1x1x256 .f32) (harg19 : arg19.IsWhole) (arg20 : Memref sig .tc .vmem S8x2048 .f32) (harg20 : arg20.IsWhole) (arg21 : Memref sig .tc .vmem S256x5632 .f32) (harg21 : arg21.IsWhole) (hc0 : cond0_0 i)
    (x0 : Vec Ideal S256x2048 .fp8e5m2) (x1 : Vec Ideal S1x1x256 .f32) (x2 : Vec Ideal S256x6144 .fp8e5m2) (x3 : Vec Ideal S1x1x256 .f32) (x4 : Vec Ideal S256x2048 .fp8e4m3) (x5 : Vec Ideal S1x1x256 .f32) (x6 : Vec Ideal S1x1x256 .f32) (x7 : Vec Ideal S1x2048 .f32) (x8 : Vec Ideal S256x5632 .fp8e4m3) (x9 : Vec Ideal S1x1x256 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32)

/-- The scales a point leaves. -/
theorem out18_A : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15
    = k0_pay92 (k0_pay91 (AM x0 x1 x8 x9 x12 x13) (LAST x0 x1 x8 x9 x12 x13)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rfl

/-- The codes a point leaves. -/
theorem out17_A : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15
    = k0_pay93 (k0_pay90 (AM x0 x1 x8 x9 x12 x13) (LAST x0 x1 x8 x9 x12 x13)) (DA x0 x1 x2 x3 x4 x5 x6 x7 x8 x9 x10 x11 x12 x13 x14 x15) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rw [scratch_eq x0 x1 x2 x3 x4 x5 x6 x7 x8 x9 x10 x11 x12 x13 x14 x15]
  rfl

/-- The input gradient a point leaves. -/
theorem out16_A : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15
    = k0_pay1 (k0_pay3 x1) (k0_pay100 x6) (k0_pay101 (k0_pay94 x2 x15 x14 x3) (MLP x0 x1 x2 x3 x4 x5 x6 x7 x8 x9 x10 x11 x12 x13 x14 x15) x4 x5 x7) x0 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rw [scratch_eq x0 x1 x2 x3 x4 x5 x6 x7 x8 x9 x10 x11 x12 x13 x14 x15]
  rfl

/-- The partial sums of the gain's gradient a point leaves. -/
theorem out19_A : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15
    = k0_pay99 (k0_pay94 x2 x15 x14 x3) (MLP x0 x1 x2 x3 x4 x5 x6 x7 x8 x9 x10 x11 x12 x13 x14 x15) x4 x5 (k0_pay2 (F := Ideal)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun0_A
  dsimp only
  sl_unfold_words
  rw [View.canon_cons_unit_zero hz2]
  rw [View.readCov_unit_zero (S := S8x2048) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87, View.ld_unit_zero (S := S8x2048) hz2]
  rw [scratch_eq x0 x1 x2 x3 x4 x5 x6 x7 x8 x9 x10 x11 x12 x13 x14 x15]
  rfl

end OutA

end Cert.TokenIdeal.Point
-- ==== Proof.TokenOutB.lean ====
/-
  What a grid point of the token kernel leaves in its four output blocks, at every later point.
-/
module

public import proofs.«01_k».proof.Proof.TokenBlock

@[expose] public section

set_option maxRecDepth 16384

noncomputable section

open Idealize.ShloMosaic Idealize.ShloMosaic.TcCoe Idealize.SL.Sem
open scoped BigOperators

namespace Cert.TokenIdeal.Point

open Cert.TokenIdeal Cert.TokenIdeal.Gen Cert.TokenIdeal.Pay Cert.TokenMath

section OutB

variable (c : Dev nD) (i : grid0.Coords) (arg1 : Memref sig .tc .vmem S256x2048 .fp8e5m2) (harg1 : arg1.IsWhole) (arg2 : Memref sig .tc .vmem S1x1x256 .f32) (harg2 : arg2.IsWhole) (arg3 : Memref sig .tc .vmem S256x6144 .fp8e5m2) (harg3 : arg3.IsWhole) (arg4 : Memref sig .tc .vmem S1x1x256 .f32) (harg4 : arg4.IsWhole) (arg5 : Memref sig .tc .vmem S256x2048 .fp8e4m3) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x2048 .f32) (harg8 : arg8.IsWhole) (arg9 : Memref sig .tc .vmem S256x5632 .fp8e4m3) (harg9 : arg9.IsWhole) (arg10 : Memref sig .tc .vmem S1x1x256 .f32) (harg10 : arg10.IsWhole) (arg11 : Memref sig .tc .vmem S2048x5632 .fp8e4m3) (harg11 : arg11.IsWhole) (arg12 : Memref sig .tc .vmem S1x5632 .f32) (harg12 : arg12.IsWhole) (arg13 : Memref sig .tc .vmem S5632x2048 .fp8e4m3) (harg13 : arg13.IsWhole) (arg14 : Memref sig .tc .vmem S1x2048 .f32) (harg14 : arg14.IsWhole) (arg15 : Memref sig .tc .vmem S2048x6144 .fp8e4m3) (harg15 : arg15.IsWhole) (arg16 : Memref sig .tc .vmem S1x6144 .f32) (harg16 : arg16.IsWhole) (arg17 : Memref sig .tc .vmem S256x2048 .bf16) (harg17 : arg17.IsWhole) (arg18 : Memref sig .tc .vmem S256x5632 .fp8e5m2) (harg18 : arg18.IsWhole) (arg19 : Memref sig .tc .vmem S1x1x256 .f32) (harg19 : arg19.IsWhole) (arg20 : Memref sig .tc .vmem S8x2048 .f32) (harg20 : arg20.IsWhole) (arg21 : Memref sig .tc .vmem S256x5632 .f32) (harg21 : arg21.IsWhole) (hc0 : ¬cond0_0 i)
    (x0 : Vec Ideal S256x2048 .fp8e5m2) (x1 : Vec Ideal S1x1x256 .f32) (x2 : Vec Ideal S256x6144 .fp8e5m2) (x3 : Vec Ideal S1x1x256 .f32) (x4 : Vec Ideal S256x2048 .fp8e4m3) (x5 : Vec Ideal S1x1x256 .f32) (x6 : Vec Ideal S1x1x256 .f32) (x7 : Vec Ideal S1x2048 .f32) (x8 : Vec Ideal S256x5632 .fp8e4m3) (x9 : Vec Ideal S1x1x256 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32) (xo19 : Vec Ideal S8x2048 .f32)

/-- The scales a point leaves. -/
theorem out18_B : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19
    = k0_pay92 (k0_pay91 (AM x0 x1 x8 x9 x12 x13) (LAST x0 x1 x8 x9 x12 x13)) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rfl

/-- The codes a point leaves. -/
theorem out17_B : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19
    = k0_pay93 (k0_pay90 (AM x0 x1 x8 x9 x12 x13) (LAST x0 x1 x8 x9 x12 x13)) (DA x0 x1 x2 x3 x4 x5 x6 x7 x8 x9 x10 x11 x12 x13 x14 x15) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rw [scratch_eq x0 x1 x2 x3 x4 x5 x6 x7 x8 x9 x10 x11 x12 x13 x14 x15]
  rfl

/-- The input gradient a point leaves. -/
theorem out16_B : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19
    = k0_pay1 (k0_pay3 x1) (k0_pay100 x6) (k0_pay101 (k0_pay94 x2 x15 x14 x3) (MLP x0 x1 x2 x3 x4 x5 x6 x7 x8 x9 x10 x11 x12 x13 x14 x15) x4 x5 x7) x0 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87]
  rw [scratch_eq x0 x1 x2 x3 x4 x5 x6 x7 x8 x9 x10 x11 x12 x13 x14 x15]
  rfl

/-- The partial sums of the gain's gradient a point leaves. -/
theorem out19_B : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19
    = k0_pay99 (k0_pay94 x2 x15 x14 x3) (MLP x0 x1 x2 x3 x4 x5 x6 x7 x8 x9 x10 x11 x12 x13 x14 x15) x4 x5 xo19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19)]
  unfold kernelRun0_B
  dsimp only
  sl_unfold_words
  rw [View.canon_cons_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread]
  simp only [View.ld_unit_zero (S := S256x2048) hz2, View.ld_unit_zero (S := S1x1x256) hz3, View.ld_unit_zero (S := S1x2048) hz2, View.ld_unit_zero (S := S256x6144) hz2, View.ld_unit_zero (S := S1x6144) hz2, View.ld_unit_zero (S := S2048x6144) hz2, View.ld_unit_zero (S := S1x5632) hz2, View.ld_unit_zero (S := S2048x5632) hz2,
    ldw0, lda0, ldw1, lda1, ldw2, lda2, ldw3, lda3, ldw4, lda4, ldw5, lda5, ldw6, lda6, ldw7, lda7, ldw8, lda8, ldw9, lda9, ldw10, lda10,
    da0, da1, da2, da3, da4, da5, da6, da7, da8, da9, mx0, mx1, mx2, mx3, mx4, mx5, mx6, mx7, mx8, mx9, last_eq, p87, View.ld_unit_zero (S := S8x2048) hz2]
  rw [scratch_eq x0 x1 x2 x3 x4 x5 x6 x7 x8 x9 x10 x11 x12 x13 x14 x15]
  rfl

end OutB

end Cert.TokenIdeal.Point
-- ==== Proof.TokenRows.lean ====
/-
  What the token kernel leaves in its four result arrays: for every token the input gradient, the codes and the scale of
  its row of numbers, and for the gain the sums over every eighth token, in terms of the arrays the launch finds.
-/
module

public import proofs.«01_k».proof.Proof.TokenOutA
public import proofs.«01_k».proof.Proof.TokenOutB
public import proofs.«01_k».proof.Proof.TokenVal
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.TokenIdeal.Sum

open Cert.TokenIdeal Cert.TokenIdeal.Gen Cert.TokenIdeal.Point Cert.TokenMath

/-- The block indices of the token windows at grid point `t`: block `t` along the tokens. -/
theorem idx_two : ∀ t : Fin cfg0.N,
    (win0_0.index t 0 = t.val ∧ win0_0.index t 1 = 0)
    ∧ (win0_2.index t 0 = t.val ∧ win0_2.index t 1 = 0)
    ∧ (win0_4.index t 0 = t.val ∧ win0_4.index t 1 = 0)
    ∧ (win0_8.index t 0 = t.val ∧ win0_8.index t 1 = 0)
    ∧ (win0_16.index t 0 = t.val ∧ win0_16.index t 1 = 0)
    ∧ (win0_17.index t 0 = t.val ∧ win0_17.index t 1 = 0) := by decide +kernel

/-- The block indices of the per-token scales at grid point `t`. -/
theorem idx_three : ∀ t : Fin cfg0.N,
    (win0_1.index t 0 = t.val ∧ win0_1.index t 1 = 0 ∧ win0_1.index t 2 = 0)
    ∧ (win0_3.index t 0 = t.val ∧ win0_3.index t 1 = 0 ∧ win0_3.index t 2 = 0)
    ∧ (win0_5.index t 0 = t.val ∧ win0_5.index t 1 = 0 ∧ win0_5.index t 2 = 0)
    ∧ (win0_6.index t 0 = t.val ∧ win0_6.index t 1 = 0 ∧ win0_6.index t 2 = 0)
    ∧ (win0_9.index t 0 = t.val ∧ win0_9.index t 1 = 0 ∧ win0_9.index t 2 = 0)
    ∧ (win0_18.index t 0 = t.val ∧ win0_18.index t 1 = 0 ∧ win0_18.index t 2 = 0) := by decide +kernel

/-- The weights, the gains and the gain's sums are whole arrays at every point. -/
theorem idx_whole : ∀ t : Fin cfg0.N,
    (win0_7.index t 0 = 0 ∧ win0_7.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_19.index t 0 = 0 ∧ win0_19.index t 1 = 0) := by decide +kernel

variable (m : (ℓ : Loc nD τ sig) → Buf (Elt Ideal) ℓ)

/-- Everything the arrays hold about one token. -/
def krow (c : Dev nD) (T : Fin 24576) : Row where
  dy d := V m c main_v0 (ix2 T d)
  dys := V m c main_v11 (ix3 (⟨T.val / 256, by omega⟩ : Fin 96) (0 : Fin 1) (⟨T.val % 256, by omega⟩ : Fin 256))
  q k := V m c main_v1 (ix2 T k)
  qs := V m c main_v12 (ix3 (⟨T.val / 256, by omega⟩ : Fin 96) (0 : Fin 1) (⟨T.val % 256, by omega⟩ : Fin 256))
  xh d := V m c main_v2 (ix2 T d)
  xs := V m c main_v13 (ix3 (⟨T.val / 256, by omega⟩ : Fin 96) (0 : Fin 1) (⟨T.val % 256, by omega⟩ : Fin 256))
  rs := V m c main_v14 (ix3 (⟨T.val / 256, by omega⟩ : Fin 96) (0 : Fin 1) (⟨T.val % 256, by omega⟩ : Fin 256))
  g d := V m c main_v15 (ix2 (0 : Fin 1) d)
  a f := V m c main_v3 (ix2 T f)
  asc := V m c main_v16 (ix3 (⟨T.val / 256, by omega⟩ : Fin 96) (0 : Fin 1) (⟨T.val % 256, by omega⟩ : Fin 256))
  win d f := V m c main_arg10 (ix2 d f)
  sin f := V m c main_v17 (ix2 (0 : Fin 1) f)
  wout f d := V m c main_arg12 (ix2 f d)
  sout d := V m c main_v18 (ix2 (0 : Fin 1) d)
  wq d k := V m c main_v9 (ix2 d k)
  sq k := V m c main_v19 (ix2 (0 : Fin 1) k)

/-- The token a row of a point's block is. -/
def tok (t : Fin cfg0.N) (r : Fin 256) : Fin 24576 :=
  ⟨256 * t.val + r.val, by have hN : t.val < 96 := lt_of_lt_of_eq t.isLt (show cfg0.N = 96 from N_0); omega⟩

theorem blk0_at (c : Dev nD) (t : Fin cfg0.N) (r : Fin 256) (l : Fin 2048) :
    (iblk m c 0 t : Vec Ideal S256x2048 .fp8e5m2) (ix2 r l) = V m c main_v0 (ix2 (tok t r) l) := by
  have hi := (idx_two t).1
  unfold iblk
  rw [View.read_apply]
  show V m c main_v0 _ = _
  congr 1
  funext a
  apply Fin.ext
  match a with
  | ⟨0, _⟩ => show win0_0.index t 0 * 256 + 1 * r.val = _; rw [hi.1]; show _ = 256 * t.val + r.val; omega
  | ⟨1, _⟩ => show win0_0.index t 1 * 2048 + 1 * l.val = _; rw [hi.2]; show _ = l.val; omega

theorem blk2_at (c : Dev nD) (t : Fin cfg0.N) (r : Fin 256) (l : Fin 6144) :
    (iblk m c 2 t : Vec Ideal S256x6144 .fp8e5m2) (ix2 r l) = V m c main_v1 (ix2 (tok t r) l) := by
  have hi := (idx_two t).2.1
  unfold iblk
  rw [View.read_apply]
  show V m c main_v1 _ = _
  congr 1
  funext a
  apply Fin.ext
  match a with
  | ⟨0, _⟩ => show win0_2.index t 0 * 256 + 1 * r.val = _; rw [hi.1]; show _ = 256 * t.val + r.val; omega
  | ⟨1, _⟩ => show win0_2.index t 1 * 6144 + 1 * l.val = _; rw [hi.2]; show _ = l.val; omega

theorem blk4_at (c : Dev nD) (t : Fin cfg0.N) (r : Fin 256) (l : Fin 2048) :
    (iblk m c 4 t : Vec Ideal S256x2048 .fp8e4m3) (ix2 r l) = V m c main_v2 (ix2 (tok t r) l) := by
  have hi := (idx_two t).2.2.1
  unfold iblk
  rw [View.read_apply]
  show V m c main_v2 _ = _
  congr 1
  funext a
  apply Fin.ext
  match a with
  | ⟨0, _⟩ => show win0_4.index t 0 * 256 + 1 * r.val = _; rw [hi.1]; show _ = 256 * t.val + r.val; omega
  | ⟨1, _⟩ => show win0_4.index t 1 * 2048 + 1 * l.val = _; rw [hi.2]; show _ = l.val; omega

theorem blk8_at (c : Dev nD) (t : Fin cfg0.N) (r : Fin 256) (l : Fin 5632) :
    (iblk m c 8 t : Vec Ideal S256x5632 .fp8e4m3) (ix2 r l) = V m c main_v3 (ix2 (tok t r) l) := by
  have hi := (idx_two t).2.2.2.1
  unfold iblk
  rw [View.read_apply]
  show V m c main_v3 _ = _
  congr 1
  funext a
  apply Fin.ext
  match a with
  | ⟨0, _⟩ => show win0_8.index t 0 * 256 + 1 * r.val = _; rw [hi.1]; show _ = 256 * t.val + r.val; omega
  | ⟨1, _⟩ => show win0_8.index t 1 * 5632 + 1 * l.val = _; rw [hi.2]; show _ = l.val; omega

theorem blk1_at (c : Dev nD) (t : Fin cfg0.N) (r : Fin 256) :
    (iblk m c 1 t : Vec Ideal S1x1x256 .f32) (ix3 0 0 r)
      = V m c main_v11 (ix3 (⟨(tok t r).val / 256, by omega⟩ : Fin 96) (0 : Fin 1) (⟨(tok t r).val % 256, by omega⟩ : Fin 256)) := by
  have hi := (idx_three t).1
  have hr := r.isLt
  unfold iblk
  rw [View.read_apply]
  show V m c main_v11 _ = _
  congr 1
  funext a
  apply Fin.ext
  match a with
  | ⟨0, _⟩ => show win0_1.index t 0 * 1 + 1 * 0 = _; rw [hi.1]; show _ = (256 * t.val + r.val) / 256; omega
  | ⟨1, _⟩ => show win0_1.index t 1 * 1 + 1 * 0 = _; rw [hi.2.1]; rfl
  | ⟨2, _⟩ => show win0_1.index t 2 * 256 + 1 * r.val = _; rw [hi.2.2]; show _ = (256 * t.val + r.val) % 256; omega

theorem blk3_at (c : Dev nD) (t : Fin cfg0.N) (r : Fin 256) :
    (iblk m c 3 t : Vec Ideal S1x1x256 .f32) (ix3 0 0 r)
      = V m c main_v12 (ix3 (⟨(tok t r).val / 256, by omega⟩ : Fin 96) (0 : Fin 1) (⟨(tok t r).val % 256, by omega⟩ : Fin 256)) := by
  have hi := (idx_three t).2.1
  have hr := r.isLt
  unfold iblk
  rw [View.read_apply]
  show V m c main_v12 _ = _
  congr 1
  funext a
  apply Fin.ext
  match a with
  | ⟨0, _⟩ => show win0_3.index t 0 * 1 + 1 * 0 = _; rw [hi.1]; show _ = (256 * t.val + r.val) / 256; omega
  | ⟨1, _⟩ => show win0_3.index t 1 * 1 + 1 * 0 = _; rw [hi.2.1]; rfl
  | ⟨2, _⟩ => show win0_3.index t 2 * 256 + 1 * r.val = _; rw [hi.2.2]; show _ = (256 * t.val + r.val) % 256; omega

theorem blk5_at (c : Dev nD) (t : Fin cfg0.N) (r : Fin 256) :
    (iblk m c 5 t : Vec Ideal S1x1x256 .f32) (ix3 0 0 r)
      = V m c main_v13 (ix3 (⟨(tok t r).val / 256, by omega⟩ : Fin 96) (0 : Fin 1) (⟨(tok t r).val % 256, by omega⟩ : Fin 256)) := by
  have hi := (idx_three t).2.2.1
  have hr := r.isLt
  unfold iblk
  rw [View.read_apply]
  show V m c main_v13 _ = _
  congr 1
  funext a
  apply Fin.ext
  match a with
  | ⟨0, _⟩ => show win0_5.index t 0 * 1 + 1 * 0 = _; rw [hi.1]; show _ = (256 * t.val + r.val) / 256; omega
  | ⟨1, _⟩ => show win0_5.index t 1 * 1 + 1 * 0 = _; rw [hi.2.1]; rfl
  | ⟨2, _⟩ => show win0_5.index t 2 * 256 + 1 * r.val = _; rw [hi.2.2]; show _ = (256 * t.val + r.val) % 256; omega

theorem blk6_at (c : Dev nD) (t : Fin cfg0.N) (r : Fin 256) :
    (iblk m c 6 t : Vec Ideal S1x1x256 .f32) (ix3 0 0 r)
      = V m c main_v14 (ix3 (⟨(tok t r).val / 256, by omega⟩ : Fin 96) (0 : Fin 1) (⟨(tok t r).val % 256, by omega⟩ : Fin 256)) := by
  have hi := (idx_three t).2.2.2.1
  have hr := r.isLt
  unfold iblk
  rw [View.read_apply]
  show V m c main_v14 _ = _
  congr 1
  funext a
  apply Fin.ext
  match a with
  | ⟨0, _⟩ => show win0_6.index t 0 * 1 + 1 * 0 = _; rw [hi.1]; show _ = (256 * t.val + r.val) / 256; omega
  | ⟨1, _⟩ => show win0_6.index t 1 * 1 + 1 * 0 = _; rw [hi.2.1]; rfl
  | ⟨2, _⟩ => show win0_6.index t 2 * 256 + 1 * r.val = _; rw [hi.2.2]; show _ = (256 * t.val + r.val) % 256; omega

theorem blk9_at (c : Dev nD) (t : Fin cfg0.N) (r : Fin 256) :
    (iblk m c 9 t : Vec Ideal S1x1x256 .f32) (ix3 0 0 r)
      = V m c main_v16 (ix3 (⟨(tok t r).val / 256, by omega⟩ : Fin 96) (0 : Fin 1) (⟨(tok t r).val % 256, by omega⟩ : Fin 256)) := by
  have hi := (idx_three t).2.2.2.2.1
  have hr := r.isLt
  unfold iblk
  rw [View.read_apply]
  show V m c main_v16 _ = _
  congr 1
  funext a
  apply Fin.ext
  match a with
  | ⟨0, _⟩ => show win0_9.index t 0 * 1 + 1 * 0 = _; rw [hi.1]; show _ = (256 * t.val + r.val) / 256; omega
  | ⟨1, _⟩ => show win0_9.index t 1 * 1 + 1 * 0 = _; rw [hi.2.1]; rfl
  | ⟨2, _⟩ => show win0_9.index t 2 * 256 + 1 * r.val = _; rw [hi.2.2]; show _ = (256 * t.val + r.val) % 256; omega

theorem blk7_at (c : Dev nD) (t : Fin cfg0.N) (p : Fin 1) (q : Fin 2048) :
    (iblk m c 7 t : Vec Ideal S1x2048 .f32) (ix2 p q) = V m c main_v15 (ix2 p q) := by
  have hi := (idx_whole t).1
  unfold iblk
  rw [View.read_apply]
  show V m c main_v15 _ = _
  congr 1
  funext a
  apply Fin.ext
  match a with
  | ⟨0, _⟩ => show win0_7.index t 0 * 1 + 1 * p.val = _; rw [hi.1]; show _ = p.val; omega
  | ⟨1, _⟩ => show win0_7.index t 1 * 2048 + 1 * q.val = _; rw [hi.2]; show _ = q.val; omega

theorem blk10_at (c : Dev nD) (t : Fin cfg0.N) (p : Fin 2048) (q : Fin 5632) :
    (iblk m c 10 t : Vec Ideal S2048x5632 .fp8e4m3) (ix2 p q) = V m c main_arg10 (ix2 p q) := by
  have hi := (idx_whole t).2.1
  unfold iblk
  rw [View.read_apply]
  show V m c main_arg10 _ = _
  congr 1
  funext a
  apply Fin.ext
  match a with
  | ⟨0, _⟩ => show win0_10.index t 0 * 2048 + 1 * p.val = _; rw [hi.1]; show _ = p.val; omega
  | ⟨1, _⟩ => show win0_10.index t 1 * 5632 + 1 * q.val = _; rw [hi.2]; show _ = q.val; omega

theorem blk11_at (c : Dev nD) (t : Fin cfg0.N) (p : Fin 1) (q : Fin 5632) :
    (iblk m c 11 t : Vec Ideal S1x5632 .f32) (ix2 p q) = V m c main_v17 (ix2 p q) := by
  have hi := (idx_whole t).2.2.1
  unfold iblk
  rw [View.read_apply]
  show V m c main_v17 _ = _
  congr 1
  funext a
  apply Fin.ext
  match a with
  | ⟨0, _⟩ => show win0_11.index t 0 * 1 + 1 * p.val = _; rw [hi.1]; show _ = p.val; omega
  | ⟨1, _⟩ => show win0_11.index t 1 * 5632 + 1 * q.val = _; rw [hi.2]; show _ = q.val; omega

theorem blk12_at (c : Dev nD) (t : Fin cfg0.N) (p : Fin 5632) (q : Fin 2048) :
    (iblk m c 12 t : Vec Ideal S5632x2048 .fp8e4m3) (ix2 p q) = V m c main_arg12 (ix2 p q) := by
  have hi := (idx_whole t).2.2.2.1
  unfold iblk
  rw [View.read_apply]
  show V m c main_arg12 _ = _
  congr 1
  funext a
  apply Fin.ext
  match a with
  | ⟨0, _⟩ => show win0_12.index t 0 * 5632 + 1 * p.val = _; rw [hi.1]; show _ = p.val; omega
  | ⟨1, _⟩ => show win0_12.index t 1 * 2048 + 1 * q.val = _; rw [hi.2]; show _ = q.val; omega

theorem blk13_at (c : Dev nD) (t : Fin cfg0.N) (p : Fin 1) (q : Fin 2048) :
    (iblk m c 13 t : Vec Ideal S1x2048 .f32) (ix2 p q) = V m c main_v18 (ix2 p q) := by
  have hi := (idx_whole t).2.2.2.2.1
  unfold iblk
  rw [View.read_apply]
  show V m c main_v18 _ = _
  congr 1
  funext a
  apply Fin.ext
  match a with
  | ⟨0, _⟩ => show win0_13.index t 0 * 1 + 1 * p.val = _; rw [hi.1]; show _ = p.val; omega
  | ⟨1, _⟩ => show win0_13.index t 1 * 2048 + 1 * q.val = _; rw [hi.2]; show _ = q.val; omega

theorem blk14_at (c : Dev nD) (t : Fin cfg0.N) (p : Fin 2048) (q : Fin 6144) :
    (iblk m c 14 t : Vec Ideal S2048x6144 .fp8e4m3) (ix2 p q) = V m c main_v9 (ix2 p q) := by
  have hi := (idx_whole t).2.2.2.2.2.1
  unfold iblk
  rw [View.read_apply]
  show V m c main_v9 _ = _
  congr 1
  funext a
  apply Fin.ext
  match a with
  | ⟨0, _⟩ => show win0_14.index t 0 * 2048 + 1 * p.val = _; rw [hi.1]; show _ = p.val; omega
  | ⟨1, _⟩ => show win0_14.index t 1 * 6144 + 1 * q.val = _; rw [hi.2]; show _ = q.val; omega

theorem blk15_at (c : Dev nD) (t : Fin cfg0.N) (p : Fin 1) (q : Fin 6144) :
    (iblk m c 15 t : Vec Ideal S1x6144 .f32) (ix2 p q) = V m c main_v19 (ix2 p q) := by
  have hi := (idx_whole t).2.2.2.2.2.2.1
  unfold iblk
  rw [View.read_apply]
  show V m c main_v19 _ = _
  congr 1
  funext a
  apply Fin.ext
  match a with
  | ⟨0, _⟩ => show win0_15.index t 0 * 1 + 1 * p.val = _; rw [hi.1]; show _ = p.val; omega
  | ⟨1, _⟩ => show win0_15.index t 1 * 6144 + 1 * q.val = _; rw [hi.2]; show _ = q.val; omega

/-- A row of a point's blocks is known by its entries. -/
theorem row_eq (x0 : Vec Ideal S256x2048 .fp8e5m2) (x1 : Vec Ideal S1x1x256 .f32) (x2 : Vec Ideal S256x6144 .fp8e5m2) (x3 : Vec Ideal S1x1x256 .f32) (x4 : Vec Ideal S256x2048 .fp8e4m3) (x5 : Vec Ideal S1x1x256 .f32) (x6 : Vec Ideal S1x1x256 .f32) (x7 : Vec Ideal S1x2048 .f32) (x8 : Vec Ideal S256x5632 .fp8e4m3) (x9 : Vec Ideal S1x1x256 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32) (r : Fin 256) (k' : Row) (h0 : ∀ d, x0 (ix2 r d) = k'.dy d) (h1 : x1 (ix3 0 0 r) = k'.dys) (h2 : ∀ k, x2 (ix2 r k) = k'.q k) (h3 : x3 (ix3 0 0 r) = k'.qs) (h4 : ∀ d, x4 (ix2 r d) = k'.xh d) (h5 : x5 (ix3 0 0 r) = k'.xs) (h6 : x6 (ix3 0 0 r) = k'.rs) (h7 : ∀ d, x7 (ix2 0 d) = k'.g d) (h8 : ∀ f, x8 (ix2 r f) = k'.a f) (h9 : x9 (ix3 0 0 r) = k'.asc) (h10 : ∀ d f, x10 (ix2 d f) = k'.win d f) (h11 : ∀ f, x11 (ix2 0 f) = k'.sin f) (h12 : ∀ f d, x12 (ix2 f d) = k'.wout f d) (h13 : ∀ d, x13 (ix2 0 d) = k'.sout d) (h14 : ∀ d k, x14 (ix2 d k) = k'.wq d k) (h15 : ∀ k, x15 (ix2 0 k) = k'.sq k) : row x0 x1 x2 x3 x4 x5 x6 x7 x8 x9 x10 x11 x12 x13 x14 x15 r = k' :=
  Row.ext (funext fun d => h0 d) h1 (funext fun k => h2 k) h3 (funext fun d => h4 d) h5 h6 (funext fun d => h7 d) (funext fun f => h8 f) h9 (funext fun d => funext fun f => h10 d f) (funext fun f => h11 f) (funext fun f => funext fun d => h12 f d) (funext fun d => h13 d) (funext fun d => funext fun k => h14 d k) (funext fun k => h15 k)

set_option maxHeartbeats 4000000 in
/-- Row `r` of a point's blocks is one token of the arrays. -/
theorem row_blk (c : Dev nD) (t : Fin cfg0.N) (r : Fin 256) :
    row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r = krow m c (tok t r) :=
  row_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r (krow m c (tok t r)) (fun d => blk0_at m c t r d) (blk1_at m c t r) (fun k => blk2_at m c t r k) (blk3_at m c t r) (fun d => blk4_at m c t r d) (blk5_at m c t r) (blk6_at m c t r) (fun d => blk7_at m c t 0 d) (fun f => blk8_at m c t r f) (blk9_at m c t r) (fun d f => blk10_at m c t d f) (fun f => blk11_at m c t 0 f) (fun f d => blk12_at m c t f d) (fun d => blk13_at m c t 0 d) (fun d k => blk14_at m c t d k) (fun k => blk15_at m c t 0 k)

end Cert.TokenIdeal.Sum

end
-- ==== Proof.TokenSum.lean ====
/-
  The four result arrays of the token kernel, entry by entry, as functions of the token's row of numbers.
-/
module

public import proofs.«01_k».proof.Proof.TokenRows
public import proofs.«01_k».proof.Proof.TokenVal
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.TokenIdeal.Sum

open Cert.TokenIdeal Cert.TokenIdeal.Gen Cert.TokenIdeal.Point Cert.TokenMath

variable (m : (ℓ : Loc nD τ sig) → Buf (Elt Ideal) ℓ)

/-- The input gradient a point leaves, token by token. -/
theorem outs16 (c : Dev nD) (t : Fin cfg0.N) (r : Fin 256) (l : Fin 2048) :
    (outsAt0 m c t.val t.isLt).1 (ix2 r l) = (krow m c (tok t r)).dx l := by
  rw [← row_blk m c t r]
  by_cases h0 : t.val % 96 = 0
  · rw [outsAt0_A m c t h0]
    dsimp only
    rw [out16_A]
    exact dx_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l
  · rw [outsAt0_B m c t h0]
    dsimp only
    rw [out16_B]
    exact dx_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r l

/-- The codes a point leaves, token by token. -/
theorem outs17 (c : Dev nD) (t : Fin cfg0.N) (r : Fin 256) (f : Fin 5632) :
    (outsAt0 m c t.val t.isLt).2.1 (ix2 r f) = (krow m c (tok t r)).code f := by
  rw [← row_blk m c t r]
  by_cases h0 : t.val % 96 = 0
  · rw [outsAt0_A m c t h0]
    dsimp only
    rw [out17_A]
    exact code_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r f
  · rw [outsAt0_B m c t h0]
    dsimp only
    rw [out17_B]
    exact code_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r f

/-- The scales a point leaves, token by token. -/
theorem outs18 (c : Dev nD) (t : Fin cfg0.N) (r : Fin 256) :
    (outsAt0 m c t.val t.isLt).2.2.1 (ix3 0 0 r) = (krow m c (tok t r)).scale := by
  rw [← row_blk m c t r]
  by_cases h0 : t.val % 96 = 0
  · rw [outsAt0_A m c t h0]
    dsimp only
    rw [out18_A]
    exact das_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r
  · rw [outsAt0_B m c t h0]
    dsimp only
    rw [out18_B]
    exact das_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r

/-- Token 8g + s's share of the gain's sums. -/
def dgt (c : Dev nD) (s : Fin 8) (l : Fin 2048) (g : ℕ) : EReal :=
  if h : 8 * g + s.val < 24576 then (krow m c ⟨8 * g + s.val, h⟩).dg l else 0

theorem dgt_sum (c : Dev nD) (t : Fin cfg0.N) (s : Fin 8) (l : Fin 2048) :
    (∑ x : Fin 32, (row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨x.val * 8 + s.val, by omega⟩).dg l)
      = ∑ x ∈ Finset.range 32, dgt m c s l (32 * t.val + x) := by
  have hN : t.val < 96 := lt_of_lt_of_eq t.isLt (show cfg0.N = 96 from N_0)
  rw [Finset.sum_range]
  refine Finset.sum_congr rfl fun x _ => ?_
  have hx := x.isLt
  have hs := s.isLt
  rw [row_blk]
  unfold dgt
  rw [dif_pos (by omega)]
  congr 2
  apply Fin.ext
  show 256 * t.val + (x.val * 8 + s.val) = 8 * (32 * t.val + x.val) + s.val
  omega

theorem zero_at (s : Fin 8) (l : Fin 2048) : k0_pay2 (F := Ideal) (ix2 s l) = (0 : EReal) := by
  pointwise [k0_pay2]

/-- After point `n` the gain's block holds the sums over every eighth token seen so far. -/
theorem outs19 (c : Dev nD) (s : Fin 8) (l : Fin 2048) : ∀ (n : ℕ) (h : n < cfg0.N),
    (outsAt0 m c n h).2.2.2 (ix2 s l) = ∑ g ∈ Finset.range (32 * (n + 1)), dgt m c s l g := by
  intro n
  induction n with
  | zero =>
    intro h
    have e := outsAt0_A m c ⟨0, h⟩ rfl
    rw [e]
    dsimp only
    rw [out19_A]
    refine (dg_row (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩) (iblk m c 15 ⟨0, h⟩) (k0_pay2 (F := Ideal)) s l).trans ?_
    rw [dgt_sum, zero_at, zero_add]
    refine Finset.sum_congr rfl fun x _ => ?_
    show dgt m c s l (32 * 0 + x) = _
    rw [Nat.mul_zero, Nat.zero_add]
  | succ n ih =>
    intro h
    have hN : n + 1 < 96 := lt_of_lt_of_eq h (show cfg0.N = 96 from N_0)
    have e := outsAt0_B m c ⟨n + 1, h⟩ (by dsimp only; omega)
    rw [e]
    dsimp only
    rw [out19_B]
    refine (dg_row (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (iblk m c 15 ⟨n + 1, h⟩) _ s l).trans ?_
    rw [dgt_sum, show 32 * (n + 1 + 1) = 32 * (n + 1) + 32 by ring, Finset.sum_range_add]
    exact congrArg (· + _) (ih (Nat.lt_of_succ_lt h))

/-- The point whose block holds token `T`. -/
def pt (T : Fin 24576) : Fin cfg0.N := ⟨T.val / 256, by rw [show cfg0.N = 96 from N_0]; omega⟩

theorem tok_pt (T : Fin 24576) : tok (pt T) ⟨T.val % 256, by omega⟩ = T := by
  apply Fin.ext
  show 256 * (T.val / 256) + T.val % 256 = T.val
  omega

theorem fl16 : ∀ t : Fin cfg0.N, (cfg0.win 16).flush t = true := by decide +kernel
theorem fl17 : ∀ t : Fin cfg0.N, (cfg0.win 17).flush t = true := by decide +kernel
theorem fl18 : ∀ t : Fin cfg0.N, (cfg0.win 18).flush t = true := by decide +kernel
theorem fl19 : ∀ t : Fin cfg0.N, (cfg0.win 19).flush t = true → t.val = 95 := by decide +kernel
theorem fl19' : ∀ t : Fin cfg0.N, t.val = 95 → (cfg0.win 19).flush t = true := by decide +kernel

/-- THE INPUT GRADIENT array: row T holds token T's. -/
theorem arr16 (c : Dev nD) (T : Fin 24576) (l : Fin 2048) :
    (dats m 0 c).arrAt 16 cfg0.N (ix2 T l) = (krow m c T).dx l := by
  have hi := (idx_two (pt T)).2.2.2.2.1
  have e := congrFun ((Value.blocks16 m c (pt T) (fl16 _)).trans (Value.flushed16 m c (pt T))) (ix2 (⟨T.val % 256, by omega⟩ : Fin 256) l)
  rw [View.read_apply] at e
  refine Eq.trans ?_ (e.trans ?_)
  · congr 1
    funext a
    apply Fin.ext
    match a with
    | ⟨0, _⟩ => show T.val = win0_16.index (pt T) 0 * 256 + 1 * (T.val % 256); rw [hi.1]; show T.val = T.val / 256 * 256 + 1 * (T.val % 256); omega
    | ⟨1, _⟩ => show l.val = win0_16.index (pt T) 1 * 2048 + 1 * l.val; rw [hi.2]; omega
  · refine (outs16 m c (pt T) ⟨T.val % 256, by omega⟩ l).trans ?_
    rw [tok_pt]

/-- THE CODES array: row T holds token T's. -/
theorem arr17 (c : Dev nD) (T : Fin 24576) (l : Fin 5632) :
    (dats m 0 c).arrAt 17 cfg0.N (ix2 T l) = (krow m c T).code l := by
  have hi := (idx_two (pt T)).2.2.2.2.2
  have e := congrFun ((Value.blocks17 m c (pt T) (fl17 _)).trans (Value.flushed17 m c (pt T))) (ix2 (⟨T.val % 256, by omega⟩ : Fin 256) l)
  rw [View.read_apply] at e
  refine Eq.trans ?_ (e.trans ?_)
  · congr 1
    funext a
    apply Fin.ext
    match a with
    | ⟨0, _⟩ => show T.val = win0_17.index (pt T) 0 * 256 + 1 * (T.val % 256); rw [hi.1]; show T.val = T.val / 256 * 256 + 1 * (T.val % 256); omega
    | ⟨1, _⟩ => show l.val = win0_17.index (pt T) 1 * 5632 + 1 * l.val; rw [hi.2]; omega
  · refine (outs17 m c (pt T) ⟨T.val % 256, by omega⟩ l).trans ?_
    rw [tok_pt]

/-- THE SCALE array: block T / 256, entry T % 256 holds token T's. -/
theorem arr18 (c : Dev nD) (T : Fin 24576) :
    (dats m 0 c).arrAt 18 cfg0.N (ix3 (⟨T.val / 256, by omega⟩ : Fin 96) (0 : Fin 1) (⟨T.val % 256, by omega⟩ : Fin 256)) = (krow m c T).scale := by
  have hi := (idx_three (pt T)).2.2.2.2.2
  have e := congrFun ((Value.blocks18 m c (pt T) (fl18 _)).trans (Value.flushed18 m c (pt T))) (ix3 (0 : Fin 1) (0 : Fin 1) (⟨T.val % 256, by omega⟩ : Fin 256))
  rw [View.read_apply] at e
  refine Eq.trans ?_ (e.trans ?_)
  · congr 1
    funext a
    apply Fin.ext
    match a with
    | ⟨0, _⟩ => show T.val / 256 = win0_18.index (pt T) 0 * 1 + 1 * 0; rw [hi.1]; show T.val / 256 = T.val / 256 * 1 + 1 * 0; omega
    | ⟨1, _⟩ => show 0 = win0_18.index (pt T) 1 * 1 + 1 * 0; rw [hi.2.1]
    | ⟨2, _⟩ => show T.val % 256 = win0_18.index (pt T) 2 * 256 + 1 * (T.val % 256); rw [hi.2.2]; omega
  · refine (outs18 m c (pt T) ⟨T.val % 256, by omega⟩).trans ?_
    rw [tok_pt]

/-- The last point. -/
def last : Fin cfg0.N := ⟨95, by rw [show cfg0.N = 96 from N_0]; omega⟩

/-- The gain's block is its whole array. -/
theorem last_read (X : Vec Ideal S8x2048 .f32) :
    (cfg0.win 19).cut (grid0.coords last) X = ((cfg0.win 19).blk last).view.read (Elt Ideal) X := by
  have hi := (idx_whole last).2.2.2.2.2.2.2
  funext j
  rw [View.read_apply]
  show X _ = X _
  congr 1
  funext a
  apply Fin.ext
  match a with
  | ⟨0, _⟩ => show (j 0).val = win0_19.index last 0 * 8 + 1 * (j 0).val; rw [hi.1]; omega
  | ⟨1, _⟩ => show (j 1).val = win0_19.index last 1 * 2048 + 1 * (j 1).val; rw [hi.2]; omega

/-- What the last point writes back is the gain's block as it left it. -/
theorem fl19_read (c : Dev nD) (G : Vec Ideal S8x2048 .f32) (hG : (outsAt0 m c last.val last.isLt).2.2.2 = G)
    (t : Fin cfg0.N) (hf : (cfg0.win 19).flush t = true) :
    (dats m 0 c).flushed 19 t = ((cfg0.win 19).blk t).view.read (Elt Ideal) G := by
  have e : t = last := Fin.ext (fl19 t hf)
  rw [e, Value.flushed19 m c last, hG]
  exact last_read G

/-- The gain's array is what the last point leaves in the gain's block. -/
theorem arr19_last (c : Dev nD) (G : Vec Ideal S8x2048 .f32) (hG : (outsAt0 m c last.val last.isLt).2.2.2 = G) (s : Fin 8) (l : Fin 2048) :
    (dats m 0 c).arrAt 19 cfg0.N (ix2 s l) = G (ix2 s l) := by
  have hi := (idx_whole last).2.2.2.2.2.2.2
  have hm : (ix2 s l : S8x2048.Idx) ∈ ((cfg0.win 19).blk last).view.set := by
    have e := ((cfg0.win 19).blk last).view.emb_mem_set (ix2 s l)
    refine (congrArg (· ∈ ((cfg0.win 19).blk last).view.set) ?_).mp e
    funext a
    apply Fin.ext
    match a with
    | ⟨0, _⟩ => show win0_19.index last 0 * 8 + 1 * s.val = s.val; rw [hi.1]; omega
    | ⟨1, _⟩ => show win0_19.index last 1 * 2048 + 1 * l.val = l.val; rw [hi.2]; omega
  exact (dats m 0 c).arrAt_apply_of_mem 19 G (fl19_read m c G hG) cfg0.N last (ix2 s l) last.isLt (fl19' _ rfl) hm

/-- THE GAIN'S SUMS: entry (s, l) is the sum over the 3072 tokens 8g + s. -/
theorem arr19 (c : Dev nD) (s : Fin 8) (l : Fin 2048) :
    (dats m 0 c).arrAt 19 cfg0.N (ix2 s l) = ∑ g ∈ Finset.range 3072, dgt m c s l g := by
  obtain ⟨G, hG⟩ : ∃ G : Vec Ideal S8x2048 .f32, (outsAt0 m c last.val last.isLt).2.2.2 = G := ⟨_, rfl⟩
  rw [arr19_last m c G hG s l, ← hG]
  exact outs19 m c s l last.val last.isLt

end Cert.TokenIdeal.Sum

end
-- ==== Proof.TokenRefPay.lean ====
/-
  What the plain reference of the token pass computes, entry by entry, as functions of the token's row of numbers.
-/
module

public import proofs.«01_k».proof.Proof.TokenRow
public import proofs.«01_k».proof.Proof.TokenRefVal
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.TokenRefIdeal.Pay

open Cert.TokenRefIdeal Cert.TokenRefIdeal.Gen Cert.TokenMath

theorem hz2 : (![0, 0] : Fin 2 → Nat) = fun _ => 0 := funext fun a => by fin_cases a <;> rfl
theorem hz3 : (![0, 0, 0] : Fin 3 → Nat) = fun _ => 0 := funext fun a => by fin_cases a <;> rfl

theorem c_eq : (Named.named (F := Ideal) κ "c" 0x3F4C422A#32 : Ideal .f32) = (cq : EReal) := rfl
theorem a_eq : (Named.named (F := Ideal) κ "a" 0x3D372713#32 : Ideal .f32) = (aq : EReal) := by
  show ((8943 / 200000 : ℝ) : EReal) = ((44715 / 1000000 : ℝ) : EReal)
  norm_num
theorem three_a_eq : (Named.named (F := Ideal) κ "three_a" 0x3E095D4F#32 : Ideal .f32) = ((3 * aq : ℝ) : EReal) := by
  show ((26829 / 200000 : ℝ) : EReal) = ((3 * (44715 / 1000000) : ℝ) : EReal)
  norm_num

/-- Everything the arrays hold about one token. -/
def rrow (x0 : Vec Ideal S24576x2048 .fp8e5m2) (x1 : Vec Ideal S24576x1 .f32) (x2 : Vec Ideal S24576x6144 .fp8e5m2) (x3 : Vec Ideal S24576x1 .f32) (x4 : Vec Ideal S24576x2048 .fp8e4m3) (x5 : Vec Ideal S24576x1 .f32) (x6 : Vec Ideal S24576x1 .f32) (x7 : Vec Ideal S1x2048 .f32) (x8 : Vec Ideal S24576x5632 .fp8e4m3) (x9 : Vec Ideal S24576x1 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32) (T : Fin 24576) : Row where
  dy d := x0 (ix2 T d)
  dys := x1 (ix2 T 0)
  q k := x2 (ix2 T k)
  qs := x3 (ix2 T 0)
  xh d := x4 (ix2 T d)
  xs := x5 (ix2 T 0)
  rs := x6 (ix2 T 0)
  g d := x7 (ix2 0 d)
  a f := x8 (ix2 T f)
  asc := x9 (ix2 T 0)
  win d f := x10 (ix2 d f)
  sin f := x11 (ix2 0 f)
  wout f d := x12 (ix2 f d)
  sout d := x13 (ix2 0 d)
  wq d k := x14 (ix2 d k)
  sq k := x15 (ix2 0 k)

section Small

variable (x0 : Vec Ideal S24576x2048 .fp8e5m2) (x1 : Vec Ideal S24576x1 .f32) (x2 : Vec Ideal S24576x6144 .fp8e5m2) (x3 : Vec Ideal S24576x1 .f32) (x4 : Vec Ideal S24576x2048 .fp8e4m3) (x5 : Vec Ideal S24576x1 .f32) (x6 : Vec Ideal S24576x1 .f32) (x7 : Vec Ideal S1x2048 .f32) (x8 : Vec Ideal S24576x5632 .fp8e4m3) (x9 : Vec Ideal S24576x1 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32)

/-- The gradient through the output weights. -/
theorem dg_at (T : Fin 24576) (f : Fin 5632) : k0_pay5 x0 x1 x12 x13 (ix2 T f)
    = (∑ d : Fin 2048, x0 (ix2 T d) * (x12 (ix2 f d) * x13 (ix2 0 d))) * x1 (ix2 T 0) := by
  pointwise [k0_pay5, k0_pay3, k0_pay4]

theorem a32_at (T : Fin 24576) (f : Fin 5632) : k0_pay6 x8 x9 (ix2 T f) = x8 (ix2 T f) * x9 (ix2 T 0) := by
  pointwise [k0_pay6]

theorem th_at (T : Fin 24576) (f : Fin 5632) : k0_pay7 x8 x9 (ix2 T f)
    = Ideal.tanh ((Named.named (F := Ideal) κ "c" 0x3F4C422A#32 : Ideal .f32) * (k0_pay6 x8 x9 (ix2 T f)
      + (Named.named (F := Ideal) κ "a" 0x3D372713#32 : Ideal .f32) * k0_pay6 x8 x9 (ix2 T f) * k0_pay6 x8 x9 (ix2 T f) * k0_pay6 x8 x9 (ix2 T f))) := by
  pointwise [k0_pay7]

theorem p8_at (T : Fin 24576) (f : Fin 5632) : k0_pay8 x8 x9 (ix2 T f)
    = Ideal.ofBits .f32 0x3F000000#32 * (Ideal.ofBits .f32 0x3F800000#32 + k0_pay7 x8 x9 (ix2 T f)) := by
  pointwise [k0_pay8]

theorem p9_at (T : Fin 24576) (f : Fin 5632) : k0_pay9 x8 x9 (ix2 T f)
    = Ideal.ofBits .f32 0x3F000000#32 * k0_pay6 x8 x9 (ix2 T f)
      * (Ideal.ofBits .f32 0x3F800000#32 - k0_pay7 x8 x9 (ix2 T f) * k0_pay7 x8 x9 (ix2 T f)) := by
  pointwise [k0_pay9]

theorem p10_at (v14 v21 v33 v39 : FVec Ideal S24576x5632 .f32) (cc : Ideal .f32) (T : Fin 24576) (f : Fin 5632) :
    k0_pay10 v14 v21 v33 v39 cc (ix2 T f)
      = v14 (ix2 T f) * (v33 (ix2 T f) + v39 (ix2 T f) * cc * (Ideal.ofBits .f32 0x3F800000#32
        + (Named.named (F := Ideal) κ "three_a" 0x3E095D4F#32 : Ideal .f32) * v21 (ix2 T f) * v21 (ix2 T f))) := by
  pointwise [k0_pay10]

/-- The gradient before the activation. -/
theorem da_at (v14 : FVec Ideal S24576x5632 .f32) (T : Fin 24576) (f : Fin 5632) :
    k0_pay10 v14 (k0_pay6 x8 x9) (k0_pay8 x8 x9) (k0_pay9 x8 x9) (Named.named (F := Ideal) κ "c" 0x3F4C422A#32) (ix2 T f)
      = v14 (ix2 T f) * gref (x8 (ix2 T f) * x9 (ix2 T 0)) := by
  rw [p10_at, p8_at, p9_at, th_at, a32_at, c_eq, a_eq, three_a_eq, bits_half, bits_one]
  rfl

/-- The exponents tried: -125, …, 126. -/
theorem cand_at (j : Fin 252) : (((j.val : ℝ) : EReal) - Ideal.ofBits .f32 0x42FA0000#32) = (((j.val : ℤ) - 125 : ℝ) : EReal) := by
  rw [bits_125, ← EReal.coe_sub]
  norm_num

theorem exp2_int (k : ℤ) : Ideal.exp2 ((k : ℝ) : EReal) = (((2 : ℝ) ^ k : ℝ) : EReal) := by
  show ((2 ^ (k : ℝ) : ℝ) : EReal) = _
  rw [Real.rpow_intCast]

theorem sitofp_at (j : Fin 252) : FloatOps.sitofp (F := Ideal) FTy.f32 (BitVec.ofNat 32 j.val) = ((j.val : ℝ) : EReal) := by
  show (((BitVec.ofNat 32 j.val).toInt : ℝ) : EReal) = _
  have h : (BitVec.ofNat 32 j.val).toInt = (j.val : ℤ) := by
    have := j.isLt
    rw [BitVec.toInt_eq_toNat_of_lt (by rw [BitVec.toNat_ofNat]; omega), BitVec.toNat_ofNat]
    omega
  rw [h]
  norm_num

/-- The row's largest magnitude over the largest code, as the exponent reads it. -/
def ratio (d : Fin 5632 → EReal) : EReal := (Finset.univ.fold max (⊥ : EReal) fun f => max (d f) (-d f)) * Ideal.ofBits .f32 0x37924925#32

/-- The column of ratios. -/
def ratV (v49 : FVec Ideal S24576x5632 .f32) : FVec Ideal S24576x1 .f32 :=
  mulf (shapeCast S24576x1 (multiReduction .maximumf [1] S24576 (absf v49) 0xFF800000#32 reduces_S24576x5632_S24576 (.inl rfl) rfl) shapeCasts_S24576_S24576x1)
    (broadcast S24576x1 (Scalar.ofBits .f32 0x37924925#32))

theorem max_at (v : FVec Ideal S24576x5632 .f32) (T : Fin 24576) :
    multiReduction .maximumf [1] S24576 v 0xFF800000#32 reduces_S24576x5632_S24576 (.inl rfl) rfl (ix1 T)
      = (Finset.univ.fold max (Ideal.ofBits .f32 0xFF800000#32) fun f : Fin 5632 => (v (ix2 T f) : EReal)) := by
  pointwise

theorem col_at (w : FVec Ideal S24576 .f32) (T : Fin 24576) :
    mulf (shapeCast S24576x1 w shapeCasts_S24576_S24576x1) (broadcast S24576x1 (Scalar.ofBits .f32 0x37924925#32)) (ix2 T 0)
      = w (ix1 T) * Ideal.ofBits .f32 0x37924925#32 := by
  pointwise

theorem abs_at (v : FVec Ideal S24576x5632 .f32) (T : Fin 24576) (f : Fin 5632) : absf v (ix2 T f) = max (v (ix2 T f)) (-(v (ix2 T f)) : EReal) := rfl

theorem ratV_at (v49 : FVec Ideal S24576x5632 .f32) (T : Fin 24576) (d : Fin 5632 → EReal) (hd : ∀ f, v49 (ix2 T f) = d f) :
    ratV v49 (ix2 T 0) = ratio d := by
  refine (col_at _ T).trans (congrArg (fun z : EReal => z * Ideal.ofBits .f32 0x37924925#32) ?_)
  refine (max_at _ T).trans ?_
  rw [bits_neginf]
  refine congrArg (fun g : Fin 5632 → EReal => Finset.univ.fold max (⊥ : EReal) g) (funext fun f => ?_)
  rw [abs_at, hd]

/-- The row of candidate exponents. -/
def candV : FVec Ideal S1x252 .f32 :=
  subf (sitofp .f32 (iota .tc S1x252 32 [1] iota_S1x252_d1_w32)) (broadcast S1x252 (Scalar.ofBits .f32 0x42FA0000#32))

theorem candV_at (j : Fin 252) : candV (ix2 0 j) = FloatOps.sitofp (F := Ideal) FTy.f32 (BitVec.ofNat 32 j.val) - Ideal.ofBits FTy.f32 0x42FA0000#32 := by
  pointwise [candV]

/-- The least candidate of each row. -/
def minV (v54 : FVec Ideal S24576x1 .f32) (v58 : FVec Ideal S1x252 .f32) : FVec Ideal S24576x1 .f32 :=
  shapeCast S24576x1 (multiReduction .minimumf [1] S24576 (select (cmpf .olt (broadcastTo S24576x252 v54 broadcasts_S24576x1_S24576x252)
      (broadcastTo S24576x252 (exp2 v58) broadcasts_S1x252_S24576x252))
    (broadcastTo S24576x252 (shapeCast S1x252 v58 shapeCasts_S1x252_S1x252) broadcasts_S1x252_S24576x252)
    (broadcast S24576x252 (Scalar.ofBits .f32 0x42FC0000#32))) 0x7F800000#32 reduces_S24576x252_S24576 (.inl rfl) rfl) shapeCasts_S24576_S24576x1

theorem minV_at (v54 : FVec Ideal S24576x1 .f32) (v58 : FVec Ideal S1x252 .f32) (T : Fin 24576) : minV v54 v58 (ix2 T 0)
    = Finset.univ.fold min (Ideal.ofBits .f32 0x7F800000#32) fun j : Fin 252 =>
      if v54 (ix2 T 0) < FloatOps.exp2 (F := Ideal) (φ := .f32) (v58 (ix2 0 j)) then v58 (ix2 0 j) else Ideal.ofBits .f32 0x42FC0000#32 := by
  pointwise [minV]

/-- The exponents, zero below the normal range. -/
def selV (v54 v68 : FVec Ideal S24576x1 .f32) : FVec Ideal S24576x1 .f32 :=
  select (cmpf .olt v54 (broadcast S24576x1 (Scalar.ofBits .f32 0x00800000#32))) (broadcast S24576x1 (Scalar.ofBits .f32 0x00000000#32)) v68

theorem selV_at (v54 v68 : FVec Ideal S24576x1 .f32) (T : Fin 24576) : selV v54 v68 (ix2 T 0)
    = if v54 (ix2 T 0) < Ideal.ofBits .f32 0x00800000#32 then 0 else v68 (ix2 T 0) := by
  pointwise [selV]

theorem pay11_eq (v14 v21 v33 v39 : FVec Ideal S24576x5632 .f32) (cc : Ideal .f32) :
    k0_pay11 v14 v21 v33 v39 cc = selV (ratV (k0_pay10 v14 v21 v33 v39 cc)) (minV (ratV (k0_pay10 v14 v21 v33 v39 cc)) candV) := rfl

theorem ex_at (v14 v21 v33 v39 : FVec Ideal S24576x5632 .f32) (cc : Ideal .f32) (T : Fin 24576) (d : Fin 5632 → EReal)
    (hd : ∀ f, k0_pay10 v14 v21 v33 v39 cc (ix2 T f) = d f) : k0_pay11 v14 v21 v33 v39 cc (ix2 T 0) = eref (ratio d) := by
  rw [pay11_eq, selV_at, minV_at, ratV_at _ T d hd, bits_minnormal, bits_posinf, bits_126]
  unfold eref
  have hc : ∀ j : Fin 252, candV (ix2 0 j) = ((((j.val : ℤ) - 125 : ℤ) : ℝ) : EReal) := by
    intro j
    rw [candV_at, sitofp_at, cand_at]
    push_cast
    rfl
  have he : ∀ j : Fin 252, FloatOps.exp2 (F := Ideal) (φ := .f32) (candV (ix2 0 j)) = (((2 : ℝ) ^ ((j.val : ℤ) - 125) : ℝ) : EReal) := by
    intro j
    rw [hc]
    exact exp2_int _
  refine if_congr Iff.rfl rfl ?_
  refine congrArg (fun g : Fin 252 → EReal => Finset.univ.fold min (⊤ : EReal) g) (funext fun j => ?_)
  rw [he j, hc j]
  push_cast
  rfl

end Small

end Cert.TokenRefIdeal.Pay

end
-- ==== Proof.TokenRefOut.lean ====
/-
  The later steps of the token pass's plain reference at an index: the codes, the scale, the gradient behind the layer norm,
  the input gradient, and the gain's sums.
-/
module

public import proofs.«01_k».proof.Proof.TokenRow
public import proofs.«01_k».proof.Proof.Gen.TokenRefIdeal.Skeleton
public import Idealize.ShloMosaic.Lib.Pointwise
public import Idealize.ShloMosaic.Lib.Tactic

@[expose] public section

set_option maxRecDepth 16384

noncomputable section

open Idealize.ShloMosaic Idealize.ShloMosaic.TcCoe Idealize.SL.Sem
open scoped BigOperators

namespace Cert.TokenRefIdeal.Pay

open Cert.TokenRefIdeal Cert.TokenRefIdeal.Gen Cert.TokenMath

/-- The gradient behind the layer norm. -/
theorem p14_at (v82 : FVec Ideal S24576x5632 .fp8e5m2) (v83 : FVec Ideal S24576x1 .f32) (x10 : Vec Ideal S2048x5632 .fp8e4m3)
    (x11 : Vec Ideal S1x5632 .f32) (x14 : Vec Ideal S2048x6144 .fp8e4m3) (x15 : Vec Ideal S1x6144 .f32)
    (x2 : Vec Ideal S24576x6144 .fp8e5m2) (x3 : Vec Ideal S24576x1 .f32) (T : Fin 24576) (l : Fin 2048) :
    k0_pay14 v82 v83 x10 x11 x14 x15 x2 x3 (ix2 T l)
      = (∑ f : Fin 5632, v82 (ix2 T f) * (x10 (ix2 l f) * x11 (ix2 0 f))) * v83 (ix2 T 0)
        + (∑ k : Fin 6144, x2 (ix2 T k) * (x14 (ix2 l k) * x15 (ix2 0 k))) * x3 (ix2 T 0) := by
  pointwise [k0_pay14]

/-- The normalised activation. -/
theorem p15_at (x4 : Vec Ideal S24576x2048 .fp8e4m3) (x5 : Vec Ideal S24576x1 .f32) (T : Fin 24576) (l : Fin 2048) :
    k0_pay15 x4 x5 (ix2 T l) = x4 (ix2 T l) * x5 (ix2 T 0) := by
  pointwise [k0_pay15]

/-- The sums over the tokens of the products of two arrays. -/
def sumV (a b : FVec Ideal S24576x2048 .f32) : FVec Ideal S2048 .f32 :=
  multiReduction .add [0] S2048 (mulf a b) 0x00000000#32 reduces_S24576x2048_S2048 (.inl rfl) rfl

theorem sumV_at (a b : FVec Ideal S24576x2048 .f32) (l : Fin 2048) :
    sumV a b (ix1 l) = ∑ T : Fin 24576, (a (ix2 T l) : EReal) * b (ix2 T l) := by
  pointwise [sumV]

/-- The gain's gradient is such a sum. -/
theorem pay16_eq (v82 : FVec Ideal S24576x5632 .fp8e5m2) (v83 : FVec Ideal S24576x1 .f32) (x10 : Vec Ideal S2048x5632 .fp8e4m3)
    (x11 : Vec Ideal S1x5632 .f32) (x14 : Vec Ideal S2048x6144 .fp8e4m3) (x15 : Vec Ideal S1x6144 .f32)
    (x2 : Vec Ideal S24576x6144 .fp8e5m2) (x3 : Vec Ideal S24576x1 .f32) (x4 : Vec Ideal S24576x2048 .fp8e4m3)
    (x5 : Vec Ideal S24576x1 .f32) :
    k0_pay16 v82 v83 x10 x11 x14 x15 x2 x3 x4 x5
      = sumV (k0_pay14 v82 v83 x10 x11 x14 x15 x2 x3) (k0_pay15 x4 x5) := rfl

/-- It is laid out as one row. -/
theorem p1_at (v : FVec Ideal S2048 .f32) (l : Fin 2048) : k0_pay1 v (ix2 0 l) = v (ix1 l) := by
  pointwise [k0_pay1]

/-- The input gradient. -/
theorem p2_at (x0 : FVec Ideal S24576x2048 .fp8e5m2) (x1 : FVec Ideal S24576x1 .f32) (v114 v121 : FVec Ideal S24576x2048 .f32)
    (x7 : Vec Ideal S1x2048 .f32) (x6 : Vec Ideal S24576x1 .f32) (T : Fin 24576) (l : Fin 2048) :
    k0_pay2 x0 x1 v114 v121 x7 x6 (ix2 T l)
      = x0 (ix2 T l) * x1 (ix2 T 0) + x6 (ix2 T 0) * (v114 (ix2 T l) * x7 (ix2 0 l)
        - Ideal.div (∑ k : Fin 2048, v114 (ix2 T k) * x7 (ix2 0 k)) (Ideal.ofBits .f32 0x45000000#32)
        - v121 (ix2 T l) * Ideal.div (∑ k : Fin 2048, v114 (ix2 T k) * x7 (ix2 0 k) * v121 (ix2 T k)) (Ideal.ofBits .f32 0x45000000#32)) := by
  pointwise [k0_pay2]

/-- The codes from the gradient and the exponents. -/
def codeV (v49 : FVec Ideal S24576x5632 .f32) (v72 : FVec Ideal S24576x1 .f32) : FVec Ideal S24576x5632 .fp8e5m2 :=
  truncf .fp8e5m2 (minimumf (broadcast S24576x5632 (Scalar.ofBits .f32 0x47600000#32)) (maximumf (broadcast S24576x5632 (Scalar.ofBits .f32 0xC7600000#32))
    (mulf v49 (broadcastTo S24576x5632 (exp2 (subf (broadcast S24576x1 (Scalar.ofBits .f32 0x00000000#32)) v72)) broadcasts_S24576x1_S24576x5632)))) bitsLt_fp8e5m2_f32

theorem codeV_at (v49 : FVec Ideal S24576x5632 .f32) (v72 : FVec Ideal S24576x1 .f32) (T : Fin 24576) (f : Fin 5632) :
    codeV v49 v72 (ix2 T f)
      = min (Ideal.ofBits .f32 0x47600000#32) (max (Ideal.ofBits .f32 0xC7600000#32)
        (v49 (ix2 T f) * FloatOps.exp2 (F := Ideal) (φ := .f32) (0 - v72 (ix2 T 0) : EReal))) := by
  pointwise [codeV]

theorem pay12_eq (v14 v21 v33 v39 : FVec Ideal S24576x5632 .f32) (cc : Ideal .f32) :
    k0_pay12 v14 v21 v33 v39 cc = codeV (k0_pay10 v14 v21 v33 v39 cc) (k0_pay11 v14 v21 v33 v39 cc) := rfl

theorem exp2_at (v : FVec Ideal S24576x1 .f32) (i : S24576x1.Idx) : exp2 v i = Ideal.exp2 (v i) := rfl

/-- The scale. -/
theorem p13_at (v14 v21 v33 v39 : FVec Ideal S24576x5632 .f32) (cc : Ideal .f32) (T : Fin 24576) :
    k0_pay13 v14 v21 v33 v39 cc (ix2 T 0) = Ideal.exp2 (k0_pay11 v14 v21 v33 v39 cc (ix2 T 0)) := by
  unfold k0_pay13
  exact exp2_at _ _

end Cert.TokenRefIdeal.Pay

end
-- ==== Proof.TokenRefSum.lean ====
/-
  What the token pass's plain reference leaves in its four result arrays: for every token the input gradient, the codes and
  the scale of its row of numbers, and for the gain the sums over all tokens.
-/
module

public import proofs.«01_k».proof.Proof.TokenRefPay
public import proofs.«01_k».proof.Proof.TokenRefOut
public import proofs.«01_k».proof.Proof.TokenRefVal
public import Idealize.ShloMosaic.Lib.Pointwise
public import Idealize.ShloMosaic.Lib.Tactic

@[expose] public section

set_option maxRecDepth 100000

noncomputable section

open Idealize.ShloMosaic Idealize.ShloMosaic.TcCoe Idealize.SL.Sem
open scoped BigOperators

namespace Cert.TokenRefIdeal.Pay

open Cert.TokenRefIdeal Cert.TokenRefIdeal.Gen Cert.TokenMath

section Blocks

variable (x0 : Vec Ideal S24576x2048 .fp8e5m2) (x1 : Vec Ideal S24576x1 .f32) (x2 : Vec Ideal S24576x6144 .fp8e5m2) (x3 : Vec Ideal S24576x1 .f32) (x4 : Vec Ideal S24576x2048 .fp8e4m3) (x5 : Vec Ideal S24576x1 .f32) (x6 : Vec Ideal S24576x1 .f32) (x7 : Vec Ideal S1x2048 .f32) (x8 : Vec Ideal S24576x5632 .fp8e4m3) (x9 : Vec Ideal S24576x1 .f32) (x10 : Vec Ideal S2048x5632 .fp8e4m3) (x11 : Vec Ideal S1x5632 .f32) (x12 : Vec Ideal S5632x2048 .fp8e4m3) (x13 : Vec Ideal S1x2048 .f32) (x14 : Vec Ideal S2048x6144 .fp8e4m3) (x15 : Vec Ideal S1x6144 .f32)

/-- The column of exponents. -/
def exV : FVec Ideal S24576x1 .f32 :=
  k0_pay11 (k0_pay5 x0 x1 x12 x13) (k0_pay6 x8 x9) (k0_pay8 x8 x9) (k0_pay9 x8 x9) (Named.named (F := Ideal) κ "c" 0x3F4C422A#32)

/-- The gradients before the activation. -/
def daV : FVec Ideal S24576x5632 .f32 :=
  k0_pay10 (k0_pay5 x0 x1 x12 x13) (k0_pay6 x8 x9) (k0_pay8 x8 x9) (k0_pay9 x8 x9) (Named.named (F := Ideal) κ "c" 0x3F4C422A#32)

/-- The codes. -/
def cdV : FVec Ideal S24576x5632 .fp8e5m2 :=
  k0_pay12 (k0_pay5 x0 x1 x12 x13) (k0_pay6 x8 x9) (k0_pay8 x8 x9) (k0_pay9 x8 x9) (Named.named (F := Ideal) κ "c" 0x3F4C422A#32)

/-- The scales. -/
def scV : FVec Ideal S24576x1 .f32 :=
  k0_pay13 (k0_pay5 x0 x1 x12 x13) (k0_pay6 x8 x9) (k0_pay8 x8 x9) (k0_pay9 x8 x9) (Named.named (F := Ideal) κ "c" 0x3F4C422A#32)

theorem daV_at (T : Fin 24576) (f : Fin 5632) : daV x0 x1 x8 x9 x12 x13 (ix2 T f) = (rrow x0 x1 x2 x3 x4 x5 x6 x7 x8 x9 x10 x11 x12 x13 x14 x15 T).da f := by
  unfold daV
  rw [da_at, dg_at]
  rfl

theorem exV_at (T : Fin 24576) : exV x0 x1 x8 x9 x12 x13 (ix2 T 0) = (rrow x0 x1 x2 x3 x4 x5 x6 x7 x8 x9 x10 x11 x12 x13 x14 x15 T).ex := by
  unfold exV
  exact ex_at _ _ _ _ _ T (rrow x0 x1 x2 x3 x4 x5 x6 x7 x8 x9 x10 x11 x12 x13 x14 x15 T).da fun f => daV_at x0 x1 x2 x3 x4 x5 x6 x7 x8 x9 x10 x11 x12 x13 x14 x15 T f

theorem cdV_at (T : Fin 24576) (f : Fin 5632) : cdV x0 x1 x8 x9 x12 x13 (ix2 T f) = (rrow x0 x1 x2 x3 x4 x5 x6 x7 x8 x9 x10 x11 x12 x13 x14 x15 T).code f := by
  unfold cdV
  rw [pay12_eq, codeV_at]
  have e1 := daV_at x0 x1 x2 x3 x4 x5 x6 x7 x8 x9 x10 x11 x12 x13 x14 x15 T f
  have e2 := exV_at x0 x1 x2 x3 x4 x5 x6 x7 x8 x9 x10 x11 x12 x13 x14 x15 T
  unfold daV at e1
  unfold exV at e2
  rw [e1, e2]
  rfl

theorem scV_at (T : Fin 24576) : scV x0 x1 x8 x9 x12 x13 (ix2 T 0) = (rrow x0 x1 x2 x3 x4 x5 x6 x7 x8 x9 x10 x11 x12 x13 x14 x15 T).scale := by
  unfold scV
  rw [p13_at]
  have e2 := exV_at x0 x1 x2 x3 x4 x5 x6 x7 x8 x9 x10 x11 x12 x13 x14 x15 T
  unfold exV at e2
  rw [e2]
  rfl

/-- The gradients behind the layer norm. -/
def dhV : FVec Ideal S24576x2048 .f32 :=
  k0_pay14 (cdV x0 x1 x8 x9 x12 x13) (scV x0 x1 x8 x9 x12 x13) x10 x11 x14 x15 x2 x3

theorem dhV_at (T : Fin 24576) (l : Fin 2048) : dhV x0 x1 x2 x3 x8 x9 x10 x11 x12 x13 x14 x15 (ix2 T l) = (rrow x0 x1 x2 x3 x4 x5 x6 x7 x8 x9 x10 x11 x12 x13 x14 x15 T).dh l := by
  unfold dhV
  rw [p14_at, scV_at x0 x1 x2 x3 x4 x5 x6 x7 x8 x9 x10 x11 x12 x13 x14 x15 T]
  simp only [cdV_at x0 x1 x2 x3 x4 x5 x6 x7 x8 x9 x10 x11 x12 x13 x14 x15 T]
  rfl

theorem xnV_at (T : Fin 24576) (l : Fin 2048) : k0_pay15 x4 x5 (ix2 T l) = (rrow x0 x1 x2 x3 x4 x5 x6 x7 x8 x9 x10 x11 x12 x13 x14 x15 T).xn l := p15_at x4 x5 T l

theorem out16_at (T : Fin 24576) (l : Fin 2048) : out0_16 (F := Ideal) x0 x1 x2 x3 x4 x5 x6 x7 x8 x9 x10 x11 x12 x13 x14 x15 (ix2 T l) = (rrow x0 x1 x2 x3 x4 x5 x6 x7 x8 x9 x10 x11 x12 x13 x14 x15 T).dx l := by
  have e : out0_16 (F := Ideal) x0 x1 x2 x3 x4 x5 x6 x7 x8 x9 x10 x11 x12 x13 x14 x15 = k0_pay2 (k0_pay3 x0) (k0_pay4 x1) (dhV x0 x1 x2 x3 x8 x9 x10 x11 x12 x13 x14 x15) (k0_pay15 x4 x5) x7 x6 := by
    unfold_out out0_16
    rw [View.canon_unit_zero hz2]
    simp only [View.ld_unit_zero (S := S24576x2048) hz2, View.ld_unit_zero (S := S24576x1) hz2, View.ld_unit_zero (S := S24576x6144) hz2, View.ld_unit_zero (S := S1x2048) hz2, View.ld_unit_zero (S := S24576x5632) hz2, View.ld_unit_zero (S := S2048x5632) hz2, View.ld_unit_zero (S := S1x5632) hz2, View.ld_unit_zero (S := S5632x2048) hz2, View.ld_unit_zero (S := S2048x6144) hz2, View.ld_unit_zero (S := S1x6144) hz2]
    rfl
  have e3 : k0_pay3 (F := Ideal) x0 = x0 := by
    funext i
    obtain ⟨a, b, rfl⟩ : ∃ (a : Fin 24576) (b : Fin 2048), i = ix2 a b := ⟨i 0, i 1, eq_ix2 i⟩
    pointwise [k0_pay3]
  have e4 : k0_pay4 (F := Ideal) x1 = x1 := by
    funext i
    obtain ⟨a, b, rfl⟩ : ∃ (a : Fin 24576) (b : Fin 1), i = ix2 a b := ⟨i 0, i 1, eq_ix2 i⟩
    pointwise [k0_pay4]
  rw [e, e3, e4, p2_at]
  simp only [dhV_at x0 x1 x2 x3 x4 x5 x6 x7 x8 x9 x10 x11 x12 x13 x14 x15 T, xnV_at x0 x1 x2 x3 x4 x5 x6 x7 x8 x9 x10 x11 x12 x13 x14 x15 T]
  rfl

theorem out17_at (T : Fin 24576) (f : Fin 5632) : out0_17 (F := Ideal) x0 x1 x2 x3 x4 x5 x6 x7 x8 x9 x10 x11 x12 x13 x14 x15 (ix2 T f) = (rrow x0 x1 x2 x3 x4 x5 x6 x7 x8 x9 x10 x11 x12 x13 x14 x15 T).code f := by
  have e : out0_17 (F := Ideal) x0 x1 x2 x3 x4 x5 x6 x7 x8 x9 x10 x11 x12 x13 x14 x15 = cdV x0 x1 x8 x9 x12 x13 := by
    unfold_out out0_17
    rw [View.canon_unit_zero hz2]
    simp only [View.ld_unit_zero (S := S24576x2048) hz2, View.ld_unit_zero (S := S24576x1) hz2, View.ld_unit_zero (S := S1x2048) hz2, View.ld_unit_zero (S := S24576x5632) hz2, View.ld_unit_zero (S := S5632x2048) hz2]
    rfl
  rw [e]
  exact cdV_at x0 x1 x2 x3 x4 x5 x6 x7 x8 x9 x10 x11 x12 x13 x14 x15 T f

theorem out18_at (T : Fin 24576) : out0_18 (F := Ideal) x0 x1 x2 x3 x4 x5 x6 x7 x8 x9 x10 x11 x12 x13 x14 x15 (ix2 T 0) = (rrow x0 x1 x2 x3 x4 x5 x6 x7 x8 x9 x10 x11 x12 x13 x14 x15 T).scale := by
  have e : out0_18 (F := Ideal) x0 x1 x2 x3 x4 x5 x6 x7 x8 x9 x10 x11 x12 x13 x14 x15 = scV x0 x1 x8 x9 x12 x13 := by
    unfold_out out0_18
    rw [View.canon_unit_zero hz2]
    simp only [View.ld_unit_zero (S := S24576x2048) hz2, View.ld_unit_zero (S := S24576x1) hz2, View.ld_unit_zero (S := S1x2048) hz2, View.ld_unit_zero (S := S24576x5632) hz2, View.ld_unit_zero (S := S5632x2048) hz2]
    rfl
  rw [e]
  exact scV_at x0 x1 x2 x3 x4 x5 x6 x7 x8 x9 x10 x11 x12 x13 x14 x15 T

theorem out19_at (l : Fin 2048) :
    out0_19 (F := Ideal) x0 x1 x2 x3 x4 x5 x6 x7 x8 x9 x10 x11 x12 x13 x14 x15 (ix2 0 l) = ∑ T : Fin 24576, (rrow x0 x1 x2 x3 x4 x5 x6 x7 x8 x9 x10 x11 x12 x13 x14 x15 T).dg l := by
  have e : out0_19 (F := Ideal) x0 x1 x2 x3 x4 x5 x6 x7 x8 x9 x10 x11 x12 x13 x14 x15 = k0_pay1 (k0_pay16 (cdV x0 x1 x8 x9 x12 x13) (scV x0 x1 x8 x9 x12 x13) x10 x11 x14 x15 x2 x3 x4 x5) := by
    unfold_out out0_19
    rw [View.canon_unit_zero hz2]
    simp only [View.ld_unit_zero (S := S24576x2048) hz2, View.ld_unit_zero (S := S24576x1) hz2, View.ld_unit_zero (S := S24576x6144) hz2, View.ld_unit_zero (S := S1x2048) hz2, View.ld_unit_zero (S := S24576x5632) hz2, View.ld_unit_zero (S := S2048x5632) hz2, View.ld_unit_zero (S := S1x5632) hz2, View.ld_unit_zero (S := S5632x2048) hz2, View.ld_unit_zero (S := S2048x6144) hz2, View.ld_unit_zero (S := S1x6144) hz2]
    rfl
  rw [e, p1_at, pay16_eq, sumV_at]
  refine Finset.sum_congr rfl fun T _ => ?_
  rw [xnV_at x0 x1 x2 x3 x4 x5 x6 x7 x8 x9 x10 x11 x12 x13 x14 x15]
  exact congrArg (fun z : EReal => z * _) (dhV_at x0 x1 x2 x3 x4 x5 x6 x7 x8 x9 x10 x11 x12 x13 x14 x15 T l)

end Blocks

end Cert.TokenRefIdeal.Pay

namespace Cert.TokenRefIdeal.Sum

open Cert.TokenRefIdeal Cert.TokenRefIdeal.Gen Cert.TokenRefIdeal.Pay Cert.TokenMath

variable (m : (ℓ : Loc nD τ sig) → Buf (Elt Ideal) ℓ)

theorem blk0 (c : Dev nD) : (iblk m c 0 t0_0 : Vec Ideal S24576x2048 .fp8e5m2) = V m c main_v0 := by
  funext j
  unfold iblk
  rw [View.read_apply]
  show V m c main_v0 _ = V m c main_v0 j
  congr 1
  funext a
  apply Fin.ext
  match a with
  | ⟨0, _⟩ => show 0 * 24576 + 1 * (j 0).val = (j 0).val; omega
  | ⟨1, _⟩ => show 0 * 2048 + 1 * (j 1).val = (j 1).val; omega

theorem blk1 (c : Dev nD) : (iblk m c 1 t0_0 : Vec Ideal S24576x1 .f32) = V m c main_v1 := by
  funext j
  unfold iblk
  rw [View.read_apply]
  show V m c main_v1 _ = V m c main_v1 j
  congr 1
  funext a
  apply Fin.ext
  match a with
  | ⟨0, _⟩ => show 0 * 24576 + 1 * (j 0).val = (j 0).val; omega
  | ⟨1, _⟩ => show 0 * 1 + 1 * (j 1).val = (j 1).val; omega

theorem blk2 (c : Dev nD) : (iblk m c 2 t0_0 : Vec Ideal S24576x6144 .fp8e5m2) = V m c main_v2 := by
  funext j
  unfold iblk
  rw [View.read_apply]
  show V m c main_v2 _ = V m c main_v2 j
  congr 1
  funext a
  apply Fin.ext
  match a with
  | ⟨0, _⟩ => show 0 * 24576 + 1 * (j 0).val = (j 0).val; omega
  | ⟨1, _⟩ => show 0 * 6144 + 1 * (j 1).val = (j 1).val; omega

theorem blk3 (c : Dev nD) : (iblk m c 3 t0_0 : Vec Ideal S24576x1 .f32) = V m c main_v3 := by
  funext j
  unfold iblk
  rw [View.read_apply]
  show V m c main_v3 _ = V m c main_v3 j
  congr 1
  funext a
  apply Fin.ext
  match a with
  | ⟨0, _⟩ => show 0 * 24576 + 1 * (j 0).val = (j 0).val; omega
  | ⟨1, _⟩ => show 0 * 1 + 1 * (j 1).val = (j 1).val; omega

theorem blk4 (c : Dev nD) : (iblk m c 4 t0_0 : Vec Ideal S24576x2048 .fp8e4m3) = V m c main_v4 := by
  funext j
  unfold iblk
  rw [View.read_apply]
  show V m c main_v4 _ = V m c main_v4 j
  congr 1
  funext a
  apply Fin.ext
  match a with
  | ⟨0, _⟩ => show 0 * 24576 + 1 * (j 0).val = (j 0).val; omega
  | ⟨1, _⟩ => show 0 * 2048 + 1 * (j 1).val = (j 1).val; omega

theorem blk5 (c : Dev nD) : (iblk m c 5 t0_0 : Vec Ideal S24576x1 .f32) = V m c main_v5 := by
  funext j
  unfold iblk
  rw [View.read_apply]
  show V m c main_v5 _ = V m c main_v5 j
  congr 1
  funext a
  apply Fin.ext
  match a with
  | ⟨0, _⟩ => show 0 * 24576 + 1 * (j 0).val = (j 0).val; omega
  | ⟨1, _⟩ => show 0 * 1 + 1 * (j 1).val = (j 1).val; omega

theorem blk6 (c : Dev nD) : (iblk m c 6 t0_0 : Vec Ideal S24576x1 .f32) = V m c main_v6 := by
  funext j
  unfold iblk
  rw [View.read_apply]
  show V m c main_v6 _ = V m c main_v6 j
  congr 1
  funext a
  apply Fin.ext
  match a with
  | ⟨0, _⟩ => show 0 * 24576 + 1 * (j 0).val = (j 0).val; omega
  | ⟨1, _⟩ => show 0 * 1 + 1 * (j 1).val = (j 1).val; omega

theorem blk7 (c : Dev nD) : (iblk m c 7 t0_0 : Vec Ideal S1x2048 .f32) = V m c main_v7 := by
  funext j
  unfold iblk
  rw [View.read_apply]
  show V m c main_v7 _ = V m c main_v7 j
  congr 1
  funext a
  apply Fin.ext
  match a with
  | ⟨0, _⟩ => show 0 * 1 + 1 * (j 0).val = (j 0).val; omega
  | ⟨1, _⟩ => show 0 * 2048 + 1 * (j 1).val = (j 1).val; omega

theorem blk8 (c : Dev nD) : (iblk m c 8 t0_0 : Vec Ideal S24576x5632 .fp8e4m3) = V m c main_v8 := by
  funext j
  unfold iblk
  rw [View.read_apply]
  show V m c main_v8 _ = V m c main_v8 j
  congr 1
  funext a
  apply Fin.ext
  match a with
  | ⟨0, _⟩ => show 0 * 24576 + 1 * (j 0).val = (j 0).val; omega
  | ⟨1, _⟩ => show 0 * 5632 + 1 * (j 1).val = (j 1).val; omega

theorem blk9 (c : Dev nD) : (iblk m c 9 t0_0 : Vec Ideal S24576x1 .f32) = V m c main_v9 := by
  funext j
  unfold iblk
  rw [View.read_apply]
  show V m c main_v9 _ = V m c main_v9 j
  congr 1
  funext a
  apply Fin.ext
  match a with
  | ⟨0, _⟩ => show 0 * 24576 + 1 * (j 0).val = (j 0).val; omega
  | ⟨1, _⟩ => show 0 * 1 + 1 * (j 1).val = (j 1).val; omega

theorem blk10 (c : Dev nD) : (iblk m c 10 t0_0 : Vec Ideal S2048x5632 .fp8e4m3) = V m c main_arg10 := by
  funext j
  unfold iblk
  rw [View.read_apply]
  show V m c main_arg10 _ = V m c main_arg10 j
  congr 1
  funext a
  apply Fin.ext
  match a with
  | ⟨0, _⟩ => show 0 * 2048 + 1 * (j 0).val = (j 0).val; omega
  | ⟨1, _⟩ => show 0 * 5632 + 1 * (j 1).val = (j 1).val; omega

theorem blk11 (c : Dev nD) : (iblk m c 11 t0_0 : Vec Ideal S1x5632 .f32) = V m c main_v10 := by
  funext j
  unfold iblk
  rw [View.read_apply]
  show V m c main_v10 _ = V m c main_v10 j
  congr 1
  funext a
  apply Fin.ext
  match a with
  | ⟨0, _⟩ => show 0 * 1 + 1 * (j 0).val = (j 0).val; omega
  | ⟨1, _⟩ => show 0 * 5632 + 1 * (j 1).val = (j 1).val; omega

theorem blk12 (c : Dev nD) : (iblk m c 12 t0_0 : Vec Ideal S5632x2048 .fp8e4m3) = V m c main_arg12 := by
  funext j
  unfold iblk
  rw [View.read_apply]
  show V m c main_arg12 _ = V m c main_arg12 j
  congr 1
  funext a
  apply Fin.ext
  match a with
  | ⟨0, _⟩ => show 0 * 5632 + 1 * (j 0).val = (j 0).val; omega
  | ⟨1, _⟩ => show 0 * 2048 + 1 * (j 1).val = (j 1).val; omega

theorem blk13 (c : Dev nD) : (iblk m c 13 t0_0 : Vec Ideal S1x2048 .f32) = V m c main_v11 := by
  funext j
  unfold iblk
  rw [View.read_apply]
  show V m c main_v11 _ = V m c main_v11 j
  congr 1
  funext a
  apply Fin.ext
  match a with
  | ⟨0, _⟩ => show 0 * 1 + 1 * (j 0).val = (j 0).val; omega
  | ⟨1, _⟩ => show 0 * 2048 + 1 * (j 1).val = (j 1).val; omega

theorem blk14 (c : Dev nD) : (iblk m c 14 t0_0 : Vec Ideal S2048x6144 .fp8e4m3) = V m c main_v12 := by
  funext j
  unfold iblk
  rw [View.read_apply]
  show V m c main_v12 _ = V m c main_v12 j
  congr 1
  funext a
  apply Fin.ext
  match a with
  | ⟨0, _⟩ => show 0 * 2048 + 1 * (j 0).val = (j 0).val; omega
  | ⟨1, _⟩ => show 0 * 6144 + 1 * (j 1).val = (j 1).val; omega

theorem blk15 (c : Dev nD) : (iblk m c 15 t0_0 : Vec Ideal S1x6144 .f32) = V m c main_v13 := by
  funext j
  unfold iblk
  rw [View.read_apply]
  show V m c main_v13 _ = V m c main_v13 j
  congr 1
  funext a
  apply Fin.ext
  match a with
  | ⟨0, _⟩ => show 0 * 1 + 1 * (j 0).val = (j 0).val; omega
  | ⟨1, _⟩ => show 0 * 6144 + 1 * (j 1).val = (j 1).val; omega

/-- Result array 0 is what the reference's one block computes. -/
theorem final16 (c : Dev nD) (j : S24576x2048.Idx) :
    (dats m 0 c).arrAt 16 cfg0.N j = out0_16 (F := Ideal) (V m c main_v0) (V m c main_v1) (V m c main_v2) (V m c main_v3) (V m c main_v4) (V m c main_v5) (V m c main_v6) (V m c main_v7) (V m c main_v8) (V m c main_v9) (V m c main_arg10) (V m c main_v10) (V m c main_arg12) (V m c main_v11) (V m c main_v12) (V m c main_v13) j := by
  have e := congrFun ((Value.blocks16 m c t0_0 rfl).trans (Value.flushed16 m c t0_0)) j
  rw [blk0, blk1, blk2, blk3, blk4, blk5, blk6, blk7, blk8, blk9, blk10, blk11, blk12, blk13, blk14, blk15] at e
  rw [View.read_apply] at e
  refine Eq.trans ?_ e
  refine congrArg ((dats m 0 c).arrAt 16 cfg0.N) ?_
  funext a
  apply Fin.ext
  match a with
  | ⟨0, _⟩ => show (j 0).val = 0 * 24576 + 1 * (j 0).val; omega
  | ⟨1, _⟩ => show (j 1).val = 0 * 2048 + 1 * (j 1).val; omega

/-- Result array 1 is what the reference's one block computes. -/
theorem final17 (c : Dev nD) (j : S24576x5632.Idx) :
    (dats m 0 c).arrAt 17 cfg0.N j = out0_17 (F := Ideal) (V m c main_v0) (V m c main_v1) (V m c main_v2) (V m c main_v3) (V m c main_v4) (V m c main_v5) (V m c main_v6) (V m c main_v7) (V m c main_v8) (V m c main_v9) (V m c main_arg10) (V m c main_v10) (V m c main_arg12) (V m c main_v11) (V m c main_v12) (V m c main_v13) j := by
  have e := congrFun ((Value.blocks17 m c t0_0 rfl).trans (Value.flushed17 m c t0_0)) j
  rw [blk0, blk1, blk2, blk3, blk4, blk5, blk6, blk7, blk8, blk9, blk10, blk11, blk12, blk13, blk14, blk15] at e
  rw [View.read_apply] at e
  refine Eq.trans ?_ e
  refine congrArg ((dats m 0 c).arrAt 17 cfg0.N) ?_
  funext a
  apply Fin.ext
  match a with
  | ⟨0, _⟩ => show (j 0).val = 0 * 24576 + 1 * (j 0).val; omega
  | ⟨1, _⟩ => show (j 1).val = 0 * 5632 + 1 * (j 1).val; omega

/-- Result array 2 is what the reference's one block computes. -/
theorem final18 (c : Dev nD) (j : S24576x1.Idx) :
    (dats m 0 c).arrAt 18 cfg0.N j = out0_18 (F := Ideal) (V m c main_v0) (V m c main_v1) (V m c main_v2) (V m c main_v3) (V m c main_v4) (V m c main_v5) (V m c main_v6) (V m c main_v7) (V m c main_v8) (V m c main_v9) (V m c main_arg10) (V m c main_v10) (V m c main_arg12) (V m c main_v11) (V m c main_v12) (V m c main_v13) j := by
  have e := congrFun ((Value.blocks18 m c t0_0 rfl).trans (Value.flushed18 m c t0_0)) j
  rw [blk0, blk1, blk2, blk3, blk4, blk5, blk6, blk7, blk8, blk9, blk10, blk11, blk12, blk13, blk14, blk15] at e
  rw [View.read_apply] at e
  refine Eq.trans ?_ e
  refine congrArg ((dats m 0 c).arrAt 18 cfg0.N) ?_
  funext a
  apply Fin.ext
  match a with
  | ⟨0, _⟩ => show (j 0).val = 0 * 24576 + 1 * (j 0).val; omega
  | ⟨1, _⟩ => show (j 1).val = 0 * 1 + 1 * (j 1).val; omega

/-- Result array 3 is what the reference's one block computes. -/
theorem final19 (c : Dev nD) (j : S1x2048.Idx) :
    (dats m 0 c).arrAt 19 cfg0.N j = out0_19 (F := Ideal) (V m c main_v0) (V m c main_v1) (V m c main_v2) (V m c main_v3) (V m c main_v4) (V m c main_v5) (V m c main_v6) (V m c main_v7) (V m c main_v8) (V m c main_v9) (V m c main_arg10) (V m c main_v10) (V m c main_arg12) (V m c main_v11) (V m c main_v12) (V m c main_v13) j := by
  have e := congrFun ((Value.blocks19 m c t0_0 rfl).trans (Value.flushed19 m c t0_0)) j
  rw [blk0, blk1, blk2, blk3, blk4, blk5, blk6, blk7, blk8, blk9, blk10, blk11, blk12, blk13, blk14, blk15] at e
  rw [View.read_apply] at e
  refine Eq.trans ?_ e
  refine congrArg ((dats m 0 c).arrAt 19 cfg0.N) ?_
  funext a
  apply Fin.ext
  match a with
  | ⟨0, _⟩ => show (j 0).val = 0 * 1 + 1 * (j 0).val; omega
  | ⟨1, _⟩ => show (j 1).val = 0 * 2048 + 1 * (j 1).val; omega

end Cert.TokenRefIdeal.Sum

end
-- ==== Proof.TokenHost.lean ====
/-
  The arrays the launch finds, in both programs of the token pass, read at an index of the arguments: so a token's row of
  numbers is the same in the kernel and in the reference when the arguments agree.
-/
module

public import proofs.«01_k».proof.Defs
public import proofs.«01_k».proof.Proof.TokenRows
public import proofs.«01_k».proof.Proof.TokenRefPay

@[expose] public section

set_option maxRecDepth 16384

noncomputable section

open Idealize.ShloMosaic Idealize.ShloMosaic.TcCoe Idealize.SL.Sem
open scoped BigOperators

namespace Cert.TokenEq

/-- A per-token number laid out in blocks of 256 tokens, read at token T. -/
theorem tok_split (s : (⟨2, ![6, 4096]⟩ : Shape).Idx → EReal) (h1 : (⟨2, ![6, 4096]⟩ : Shape).ShapeCasts ⟨1, ![24576]⟩)
    (h : (⟨1, ![24576]⟩ : Shape).ShapeCasts ⟨3, ![96, 1, 256]⟩) (T : Fin 24576) :
    shapeCast ⟨3, ![96, 1, 256]⟩ (shapeCast ⟨1, ![24576]⟩ s h1) h
        (ix3 (⟨T.val / 256, by omega⟩ : Fin 96) (0 : Fin 1) (⟨T.val % 256, by omega⟩ : Fin 256))
      = s (ix2 (⟨T.val / 4096, by omega⟩ : Fin 6) (⟨T.val % 4096, by omega⟩ : Fin 4096)) := by
  pointwise
  have e1 : T.val / 256 / 16 = T.val / 4096 := by omega
  have e2 : T.val / 256 % 16 * 256 + T.val % 256 = T.val % 4096 := by omega
  simp only [e1, e2]

/-- A per-token number as one column, read at token T. -/
theorem tok_col (s : (⟨2, ![6, 4096]⟩ : Shape).Idx → EReal) (h : (⟨2, ![6, 4096]⟩ : Shape).ShapeCasts ⟨2, ![24576, 1]⟩) (T : Fin 24576) :
    shapeCast ⟨2, ![24576, 1]⟩ s h (ix2 T 0)
      = s (ix2 (⟨T.val / 4096, by omega⟩ : Fin 6) (⟨T.val % 4096, by omega⟩ : Fin 4096)) := by
  pointwise

/-- A vector as one row, by broadcasting and by reshaping. -/
theorem row2048 (s : (⟨1, ![2048]⟩ : Shape).Idx → EReal) (h : (⟨1, ![2048]⟩ : Shape).BroadcastsInDim ⟨2, ![1, 2048]⟩ ![1])
    (h' : (⟨1, ![2048]⟩ : Shape).ShapeCasts ⟨2, ![1, 2048]⟩) (d : Fin 2048) :
    broadcastInDim ⟨2, ![1, 2048]⟩ ![1] h s (ix2 0 d) = shapeCast ⟨2, ![1, 2048]⟩ s h' (ix2 0 d) := by
  pointwise

theorem row5632 (s : (⟨1, ![5632]⟩ : Shape).Idx → EReal) (h : (⟨1, ![5632]⟩ : Shape).BroadcastsInDim ⟨2, ![1, 5632]⟩ ![1])
    (h' : (⟨1, ![5632]⟩ : Shape).ShapeCasts ⟨2, ![1, 5632]⟩) (d : Fin 5632) :
    broadcastInDim ⟨2, ![1, 5632]⟩ ![1] h s (ix2 0 d) = shapeCast ⟨2, ![1, 5632]⟩ s h' (ix2 0 d) := by
  pointwise

theorem row6144 (s : (⟨3, ![3, 32, 64]⟩ : Shape).Idx → EReal) (h1 : (⟨3, ![3, 32, 64]⟩ : Shape).ShapeCasts ⟨1, ![6144]⟩)
    (h : (⟨1, ![6144]⟩ : Shape).BroadcastsInDim ⟨2, ![1, 6144]⟩ ![1])
    (h' : (⟨3, ![3, 32, 64]⟩ : Shape).ShapeCasts ⟨2, ![1, 6144]⟩) (k : Fin 6144) :
    broadcastInDim ⟨2, ![1, 6144]⟩ ![1] h (shapeCast ⟨1, ![6144]⟩ s h1) (ix2 0 k) = shapeCast ⟨2, ![1, 6144]⟩ s h' (ix2 0 k) := by
  pointwise

end Cert.TokenEq

/-! ## The kernel's arrays -/

namespace Cert.TokenIdeal.Host

open Cert.TokenIdeal Cert.TokenIdeal.Gen

variable (m : (ℓ : Loc nD τ sig) → Buf (Elt Ideal) ℓ)

theorem v0_eq (c : Dev nD) : V m c main_v0 = shapeCast S24576x2048 (m ((c : Thread nD τ).loc main_arg0)) shapeCasts_S6x4096x2048_S24576x2048 := by
  show StableHlo.after hostOps0 (fun b => m (c, b)) main_v0 = _
  after_results
  try rfl

theorem v1_eq (c : Dev nD) : V m c main_v1 = shapeCast S24576x6144 (m ((c : Thread nD τ).loc main_arg2)) shapeCasts_S6x4096x3x32x64_S24576x6144 := by
  show StableHlo.after hostOps0 (fun b => m (c, b)) main_v1 = _
  after_results
  try rfl

theorem v2_eq (c : Dev nD) : V m c main_v2 = shapeCast S24576x2048 (m ((c : Thread nD τ).loc main_arg4)) shapeCasts_S6x4096x2048_S24576x2048 := by
  show StableHlo.after hostOps0 (fun b => m (c, b)) main_v2 = _
  after_results
  try rfl

theorem v3_eq (c : Dev nD) : V m c main_v3 = shapeCast S24576x5632 (m ((c : Thread nD τ).loc main_arg8)) shapeCasts_S6x4096x5632_S24576x5632 := by
  show StableHlo.after hostOps0 (fun b => m (c, b)) main_v3 = _
  after_results
  try rfl

theorem v9_eq (c : Dev nD) : V m c main_v9 = shapeCast S2048x6144 (m ((c : Thread nD τ).loc main_arg14)) shapeCasts_S2048x3x32x64_S2048x6144 := by
  show StableHlo.after hostOps0 (fun b => m (c, b)) main_v9 = _
  after_results
  try rfl

theorem v11_eq (c : Dev nD) : V m c main_v11 = shapeCast S96x1x256 (shapeCast S24576 (m ((c : Thread nD τ).loc main_arg1)) shapeCasts_S6x4096_S24576) shapeCasts_S24576_S96x1x256 := by
  show StableHlo.after hostOps0 (fun b => m (c, b)) main_v11 = _
  after_results
  try rfl

theorem v12_eq (c : Dev nD) : V m c main_v12 = shapeCast S96x1x256 (shapeCast S24576 (m ((c : Thread nD τ).loc main_arg3)) shapeCasts_S6x4096_S24576) shapeCasts_S24576_S96x1x256 := by
  show StableHlo.after hostOps0 (fun b => m (c, b)) main_v12 = _
  after_results
  try rfl

theorem v13_eq (c : Dev nD) : V m c main_v13 = shapeCast S96x1x256 (shapeCast S24576 (m ((c : Thread nD τ).loc main_arg5)) shapeCasts_S6x4096_S24576) shapeCasts_S24576_S96x1x256 := by
  show StableHlo.after hostOps0 (fun b => m (c, b)) main_v13 = _
  after_results
  try rfl

theorem v14_eq (c : Dev nD) : V m c main_v14 = shapeCast S96x1x256 (shapeCast S24576 (m ((c : Thread nD τ).loc main_arg6)) shapeCasts_S6x4096_S24576) shapeCasts_S24576_S96x1x256 := by
  show StableHlo.after hostOps0 (fun b => m (c, b)) main_v14 = _
  after_results
  try rfl

theorem v16_eq (c : Dev nD) : V m c main_v16 = shapeCast S96x1x256 (shapeCast S24576 (m ((c : Thread nD τ).loc main_arg9)) shapeCasts_S6x4096_S24576) shapeCasts_S24576_S96x1x256 := by
  show StableHlo.after hostOps0 (fun b => m (c, b)) main_v16 = _
  after_results
  try rfl

theorem v15_eq (c : Dev nD) : V m c main_v15 = broadcastInDim S1x2048 ![1] bcast_S2048_S1x2048_1 (m ((c : Thread nD τ).loc main_arg7)) := by
  show StableHlo.after hostOps0 (fun b => m (c, b)) main_v15 = _
  after_results
  try rfl

theorem v17_eq (c : Dev nD) : V m c main_v17 = broadcastInDim S1x5632 ![1] bcast_S5632_S1x5632_1 (m ((c : Thread nD τ).loc main_arg11)) := by
  show StableHlo.after hostOps0 (fun b => m (c, b)) main_v17 = _
  after_results
  try rfl

theorem v18_eq (c : Dev nD) : V m c main_v18 = broadcastInDim S1x2048 ![1] bcast_S2048_S1x2048_1 (m ((c : Thread nD τ).loc main_arg13)) := by
  show StableHlo.after hostOps0 (fun b => m (c, b)) main_v18 = _
  after_results
  try rfl

theorem v19_eq (c : Dev nD) : V m c main_v19 = broadcastInDim S1x6144 ![1] bcast_S6144_S1x6144_1 (shapeCast S6144 (m ((c : Thread nD τ).loc main_arg15)) shapeCasts_S3x32x64_S6144) := by
  show StableHlo.after hostOps0 (fun b => m (c, b)) main_v19 = _
  after_results
  try rfl

end Cert.TokenIdeal.Host

/-! ## The reference's arrays -/

namespace Cert.TokenRefIdeal.Host

open Cert.TokenRefIdeal Cert.TokenRefIdeal.Gen

variable (m : (ℓ : Loc nD τ sig) → Buf (Elt Ideal) ℓ)

theorem v0_eq (c : Dev nD) : V m c main_v0 = shapeCast S24576x2048 (m ((c : Thread nD τ).loc main_arg0)) shapeCasts_S6x4096x2048_S24576x2048 := by
  show StableHlo.after hostOps0 (fun b => m (c, b)) main_v0 = _
  after_results
  try rfl

theorem v2_eq (c : Dev nD) : V m c main_v2 = shapeCast S24576x6144 (m ((c : Thread nD τ).loc main_arg2)) shapeCasts_S6x4096x3x32x64_S24576x6144 := by
  show StableHlo.after hostOps0 (fun b => m (c, b)) main_v2 = _
  after_results
  try rfl

theorem v4_eq (c : Dev nD) : V m c main_v4 = shapeCast S24576x2048 (m ((c : Thread nD τ).loc main_arg4)) shapeCasts_S6x4096x2048_S24576x2048 := by
  show StableHlo.after hostOps0 (fun b => m (c, b)) main_v4 = _
  after_results
  try rfl

theorem v8_eq (c : Dev nD) : V m c main_v8 = shapeCast S24576x5632 (m ((c : Thread nD τ).loc main_arg8)) shapeCasts_S6x4096x5632_S24576x5632 := by
  show StableHlo.after hostOps0 (fun b => m (c, b)) main_v8 = _
  after_results
  try rfl

theorem v12_eq (c : Dev nD) : V m c main_v12 = shapeCast S2048x6144 (m ((c : Thread nD τ).loc main_arg14)) shapeCasts_S2048x3x32x64_S2048x6144 := by
  show StableHlo.after hostOps0 (fun b => m (c, b)) main_v12 = _
  after_results
  try rfl

theorem v1_eq (c : Dev nD) : V m c main_v1 = shapeCast S24576x1 (m ((c : Thread nD τ).loc main_arg1)) shapeCasts_S6x4096_S24576x1 := by
  show StableHlo.after hostOps0 (fun b => m (c, b)) main_v1 = _
  after_results
  try rfl

theorem v3_eq (c : Dev nD) : V m c main_v3 = shapeCast S24576x1 (m ((c : Thread nD τ).loc main_arg3)) shapeCasts_S6x4096_S24576x1 := by
  show StableHlo.after hostOps0 (fun b => m (c, b)) main_v3 = _
  after_results
  try rfl

theorem v5_eq (c : Dev nD) : V m c main_v5 = shapeCast S24576x1 (m ((c : Thread nD τ).loc main_arg5)) shapeCasts_S6x4096_S24576x1 := by
  show StableHlo.after hostOps0 (fun b => m (c, b)) main_v5 = _
  after_results
  try rfl

theorem v6_eq (c : Dev nD) : V m c main_v6 = shapeCast S24576x1 (m ((c : Thread nD τ).loc main_arg6)) shapeCasts_S6x4096_S24576x1 := by
  show StableHlo.after hostOps0 (fun b => m (c, b)) main_v6 = _
  after_results
  try rfl

theorem v9_eq (c : Dev nD) : V m c main_v9 = shapeCast S24576x1 (m ((c : Thread nD τ).loc main_arg9)) shapeCasts_S6x4096_S24576x1 := by
  show StableHlo.after hostOps0 (fun b => m (c, b)) main_v9 = _
  after_results
  try rfl

theorem v7_eq (c : Dev nD) : V m c main_v7 = shapeCast S1x2048 (m ((c : Thread nD τ).loc main_arg7)) shapeCasts_S2048_S1x2048 := by
  show StableHlo.after hostOps0 (fun b => m (c, b)) main_v7 = _
  after_results
  try rfl

theorem v10_eq (c : Dev nD) : V m c main_v10 = shapeCast S1x5632 (m ((c : Thread nD τ).loc main_arg11)) shapeCasts_S5632_S1x5632 := by
  show StableHlo.after hostOps0 (fun b => m (c, b)) main_v10 = _
  after_results
  try rfl

theorem v11_eq (c : Dev nD) : V m c main_v11 = shapeCast S1x2048 (m ((c : Thread nD τ).loc main_arg13)) shapeCasts_S2048_S1x2048 := by
  show StableHlo.after hostOps0 (fun b => m (c, b)) main_v11 = _
  after_results
  try rfl

theorem v13_eq (c : Dev nD) : V m c main_v13 = shapeCast S1x6144 (m ((c : Thread nD τ).loc main_arg15)) shapeCasts_S3x32x64_S1x6144 := by
  show StableHlo.after hostOps0 (fun b => m (c, b)) main_v13 = _
  after_results
  try rfl

end Cert.TokenRefIdeal.Host

/-! ## One token's row of numbers in the two programs -/

namespace Cert.TokenEq

open Cert.TokenMath

/-- The arguments of the two programs agree on a core. -/
def Agree (m : (ℓ : Loc Cert.TokenIdeal.nD Cert.TokenIdeal.τ Cert.TokenIdeal.sig) → Buf (Elt Ideal) ℓ)
    (m' : (ℓ : Loc Cert.TokenRefIdeal.nD Cert.TokenRefIdeal.τ Cert.TokenRefIdeal.sig) → Buf (Elt Ideal) ℓ) (c : Dev Cert.TokenIdeal.nD) : Prop :=
  m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0)
  ∧ m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1)
  ∧ m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2)
  ∧ m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3)
  ∧ m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4)
  ∧ m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5)
  ∧ m' ((c.tc : Thread Cert.TokenRefIdeal.nD Cert.TokenRefIdeal.τ).loc Cert.TokenRefIdeal.main_arg6) = m ((c.tc : Thread Cert.TokenIdeal.nD Cert.TokenIdeal.τ).loc Cert.TokenIdeal.main_arg6)
  ∧ m' ((c.tc : Thread Cert.TokenRefIdeal.nD Cert.TokenRefIdeal.τ).loc Cert.TokenRefIdeal.main_arg7) = m ((c.tc : Thread Cert.TokenIdeal.nD Cert.TokenIdeal.τ).loc Cert.TokenIdeal.main_arg7)
  ∧ m' ((c.tc : Thread Cert.TokenRefIdeal.nD Cert.TokenRefIdeal.τ).loc Cert.TokenRefIdeal.main_arg8) = m ((c.tc : Thread Cert.TokenIdeal.nD Cert.TokenIdeal.τ).loc Cert.TokenIdeal.main_arg8)
  ∧ m' ((c.tc : Thread Cert.TokenRefIdeal.nD Cert.TokenRefIdeal.τ).loc Cert.TokenRefIdeal.main_arg9) = m ((c.tc : Thread Cert.TokenIdeal.nD Cert.TokenIdeal.τ).loc Cert.TokenIdeal.main_arg9)
  ∧ m' ((c.tc : Thread Cert.TokenRefIdeal.nD Cert.TokenRefIdeal.τ).loc Cert.TokenRefIdeal.main_arg10) = m ((c.tc : Thread Cert.TokenIdeal.nD Cert.TokenIdeal.τ).loc Cert.TokenIdeal.main_arg10)
  ∧ m' ((c.tc : Thread Cert.TokenRefIdeal.nD Cert.TokenRefIdeal.τ).loc Cert.TokenRefIdeal.main_arg11) = m ((c.tc : Thread Cert.TokenIdeal.nD Cert.TokenIdeal.τ).loc Cert.TokenIdeal.main_arg11)
  ∧ m' ((c.tc : Thread Cert.TokenRefIdeal.nD Cert.TokenRefIdeal.τ).loc Cert.TokenRefIdeal.main_arg12) = m ((c.tc : Thread Cert.TokenIdeal.nD Cert.TokenIdeal.τ).loc Cert.TokenIdeal.main_arg12)
  ∧ m' ((c.tc : Thread Cert.TokenRefIdeal.nD Cert.TokenRefIdeal.τ).loc Cert.TokenRefIdeal.main_arg13) = m ((c.tc : Thread Cert.TokenIdeal.nD Cert.TokenIdeal.τ).loc Cert.TokenIdeal.main_arg13)
  ∧ m' ((c.tc : Thread Cert.TokenRefIdeal.nD Cert.TokenRefIdeal.τ).loc Cert.TokenRefIdeal.main_arg14) = m ((c.tc : Thread Cert.TokenIdeal.nD Cert.TokenIdeal.τ).loc Cert.TokenIdeal.main_arg14)
  ∧ m' ((c.tc : Thread Cert.TokenRefIdeal.nD Cert.TokenRefIdeal.τ).loc Cert.TokenRefIdeal.main_arg15) = m ((c.tc : Thread Cert.TokenIdeal.nD Cert.TokenIdeal.τ).loc Cert.TokenIdeal.main_arg15)

section Fields

variable (m : (ℓ : Loc Cert.TokenIdeal.nD Cert.TokenIdeal.τ Cert.TokenIdeal.sig) → Buf (Elt Ideal) ℓ)
    (m' : (ℓ : Loc Cert.TokenRefIdeal.nD Cert.TokenRefIdeal.τ Cert.TokenRefIdeal.sig) → Buf (Elt Ideal) ℓ)
    (c : Dev Cert.TokenIdeal.nD)

theorem dy_eq (h : m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0))
    (a : Fin 24576) (b : Fin 2048) :
    (show EReal from Cert.TokenIdeal.Gen.V m c Cert.TokenIdeal.main_v0 (ix2 a b))
      = (show EReal from Cert.TokenRefIdeal.Gen.V m' c Cert.TokenRefIdeal.main_v0 (ix2 a b)) := by
  rewrite [Cert.TokenIdeal.Host.v0_eq m c, Cert.TokenRefIdeal.Host.v0_eq m' c, h]
  generalize m ((c.tc : Thread Cert.TokenIdeal.nD Cert.TokenIdeal.τ).loc Cert.TokenIdeal.main_arg0) = s
  rfl

theorem dys_eq (h : m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1))
    (T : Fin 24576) :
    (show EReal from Cert.TokenIdeal.Gen.V m c Cert.TokenIdeal.main_v11 (ix3 (⟨T.val / 256, by omega⟩ : Fin 96) (0 : Fin 1) (⟨T.val % 256, by omega⟩ : Fin 256)))
      = (show EReal from Cert.TokenRefIdeal.Gen.V m' c Cert.TokenRefIdeal.main_v1 (ix2 T 0)) := by
  rewrite [Cert.TokenIdeal.Host.v11_eq m c, Cert.TokenRefIdeal.Host.v1_eq m' c, h]
  generalize m ((c.tc : Thread Cert.TokenIdeal.nD Cert.TokenIdeal.τ).loc Cert.TokenIdeal.main_arg1) = s
  exact (tok_split s _ _ T).trans (tok_col s _ T).symm

theorem q_eq (h : m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2))
    (a : Fin 24576) (b : Fin 6144) :
    (show EReal from Cert.TokenIdeal.Gen.V m c Cert.TokenIdeal.main_v1 (ix2 a b))
      = (show EReal from Cert.TokenRefIdeal.Gen.V m' c Cert.TokenRefIdeal.main_v2 (ix2 a b)) := by
  rewrite [Cert.TokenIdeal.Host.v1_eq m c, Cert.TokenRefIdeal.Host.v2_eq m' c, h]
  generalize m ((c.tc : Thread Cert.TokenIdeal.nD Cert.TokenIdeal.τ).loc Cert.TokenIdeal.main_arg2) = s
  rfl

theorem qs_eq (h : m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3))
    (T : Fin 24576) :
    (show EReal from Cert.TokenIdeal.Gen.V m c Cert.TokenIdeal.main_v12 (ix3 (⟨T.val / 256, by omega⟩ : Fin 96) (0 : Fin 1) (⟨T.val % 256, by omega⟩ : Fin 256)))
      = (show EReal from Cert.TokenRefIdeal.Gen.V m' c Cert.TokenRefIdeal.main_v3 (ix2 T 0)) := by
  rewrite [Cert.TokenIdeal.Host.v12_eq m c, Cert.TokenRefIdeal.Host.v3_eq m' c, h]
  generalize m ((c.tc : Thread Cert.TokenIdeal.nD Cert.TokenIdeal.τ).loc Cert.TokenIdeal.main_arg3) = s
  exact (tok_split s _ _ T).trans (tok_col s _ T).symm

theorem xh_eq (h : m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4))
    (a : Fin 24576) (b : Fin 2048) :
    (show EReal from Cert.TokenIdeal.Gen.V m c Cert.TokenIdeal.main_v2 (ix2 a b))
      = (show EReal from Cert.TokenRefIdeal.Gen.V m' c Cert.TokenRefIdeal.main_v4 (ix2 a b)) := by
  rewrite [Cert.TokenIdeal.Host.v2_eq m c, Cert.TokenRefIdeal.Host.v4_eq m' c, h]
  generalize m ((c.tc : Thread Cert.TokenIdeal.nD Cert.TokenIdeal.τ).loc Cert.TokenIdeal.main_arg4) = s
  rfl

theorem xs_eq (h : m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5))
    (T : Fin 24576) :
    (show EReal from Cert.TokenIdeal.Gen.V m c Cert.TokenIdeal.main_v13 (ix3 (⟨T.val / 256, by omega⟩ : Fin 96) (0 : Fin 1) (⟨T.val % 256, by omega⟩ : Fin 256)))
      = (show EReal from Cert.TokenRefIdeal.Gen.V m' c Cert.TokenRefIdeal.main_v5 (ix2 T 0)) := by
  rewrite [Cert.TokenIdeal.Host.v13_eq m c, Cert.TokenRefIdeal.Host.v5_eq m' c, h]
  generalize m ((c.tc : Thread Cert.TokenIdeal.nD Cert.TokenIdeal.τ).loc Cert.TokenIdeal.main_arg5) = s
  exact (tok_split s _ _ T).trans (tok_col s _ T).symm

theorem rs_eq (h : m' ((c.tc : Thread Cert.TokenRefIdeal.nD Cert.TokenRefIdeal.τ).loc Cert.TokenRefIdeal.main_arg6) = m ((c.tc : Thread Cert.TokenIdeal.nD Cert.TokenIdeal.τ).loc Cert.TokenIdeal.main_arg6))
    (T : Fin 24576) :
    (show EReal from Cert.TokenIdeal.Gen.V m c Cert.TokenIdeal.main_v14 (ix3 (⟨T.val / 256, by omega⟩ : Fin 96) (0 : Fin 1) (⟨T.val % 256, by omega⟩ : Fin 256)))
      = (show EReal from Cert.TokenRefIdeal.Gen.V m' c Cert.TokenRefIdeal.main_v6 (ix2 T 0)) := by
  rewrite [Cert.TokenIdeal.Host.v14_eq m c, Cert.TokenRefIdeal.Host.v6_eq m' c, h]
  generalize m ((c.tc : Thread Cert.TokenIdeal.nD Cert.TokenIdeal.τ).loc Cert.TokenIdeal.main_arg6) = s
  exact (tok_split s _ _ T).trans (tok_col s _ T).symm

theorem g_eq (h : m' ((c.tc : Thread Cert.TokenRefIdeal.nD Cert.TokenRefIdeal.τ).loc Cert.TokenRefIdeal.main_arg7) = m ((c.tc : Thread Cert.TokenIdeal.nD Cert.TokenIdeal.τ).loc Cert.TokenIdeal.main_arg7))
    (d : Fin 2048) :
    (show EReal from Cert.TokenIdeal.Gen.V m c Cert.TokenIdeal.main_v15 (ix2 0 d))
      = (show EReal from Cert.TokenRefIdeal.Gen.V m' c Cert.TokenRefIdeal.main_v7 (ix2 0 d)) := by
  rewrite [Cert.TokenIdeal.Host.v15_eq m c, Cert.TokenRefIdeal.Host.v7_eq m' c, h]
  generalize m ((c.tc : Thread Cert.TokenIdeal.nD Cert.TokenIdeal.τ).loc Cert.TokenIdeal.main_arg7) = s
  exact row2048 s _ _ d

theorem a_eq (h : m' ((c.tc : Thread Cert.TokenRefIdeal.nD Cert.TokenRefIdeal.τ).loc Cert.TokenRefIdeal.main_arg8) = m ((c.tc : Thread Cert.TokenIdeal.nD Cert.TokenIdeal.τ).loc Cert.TokenIdeal.main_arg8))
    (a : Fin 24576) (b : Fin 5632) :
    (show EReal from Cert.TokenIdeal.Gen.V m c Cert.TokenIdeal.main_v3 (ix2 a b))
      = (show EReal from Cert.TokenRefIdeal.Gen.V m' c Cert.TokenRefIdeal.main_v8 (ix2 a b)) := by
  rewrite [Cert.TokenIdeal.Host.v3_eq m c, Cert.TokenRefIdeal.Host.v8_eq m' c, h]
  generalize m ((c.tc : Thread Cert.TokenIdeal.nD Cert.TokenIdeal.τ).loc Cert.TokenIdeal.main_arg8) = s
  rfl

theorem asc_eq (h : m' ((c.tc : Thread Cert.TokenRefIdeal.nD Cert.TokenRefIdeal.τ).loc Cert.TokenRefIdeal.main_arg9) = m ((c.tc : Thread Cert.TokenIdeal.nD Cert.TokenIdeal.τ).loc Cert.TokenIdeal.main_arg9))
    (T : Fin 24576) :
    (show EReal from Cert.TokenIdeal.Gen.V m c Cert.TokenIdeal.main_v16 (ix3 (⟨T.val / 256, by omega⟩ : Fin 96) (0 : Fin 1) (⟨T.val % 256, by omega⟩ : Fin 256)))
      = (show EReal from Cert.TokenRefIdeal.Gen.V m' c Cert.TokenRefIdeal.main_v9 (ix2 T 0)) := by
  rewrite [Cert.TokenIdeal.Host.v16_eq m c, Cert.TokenRefIdeal.Host.v9_eq m' c, h]
  generalize m ((c.tc : Thread Cert.TokenIdeal.nD Cert.TokenIdeal.τ).loc Cert.TokenIdeal.main_arg9) = s
  exact (tok_split s _ _ T).trans (tok_col s _ T).symm

theorem win_eq (h : m' ((c.tc : Thread Cert.TokenRefIdeal.nD Cert.TokenRefIdeal.τ).loc Cert.TokenRefIdeal.main_arg10) = m ((c.tc : Thread Cert.TokenIdeal.nD Cert.TokenIdeal.τ).loc Cert.TokenIdeal.main_arg10))
    (a : Fin 2048) (b : Fin 5632) :
    (show EReal from Cert.TokenIdeal.Gen.V m c Cert.TokenIdeal.main_arg10 (ix2 a b))
      = (show EReal from Cert.TokenRefIdeal.Gen.V m' c Cert.TokenRefIdeal.main_arg10 (ix2 a b)) := by
  rewrite [Cert.TokenIdeal.Gen.V_main_arg10, Cert.TokenRefIdeal.Gen.V_main_arg10, h]
  rfl

theorem sin_eq (h : m' ((c.tc : Thread Cert.TokenRefIdeal.nD Cert.TokenRefIdeal.τ).loc Cert.TokenRefIdeal.main_arg11) = m ((c.tc : Thread Cert.TokenIdeal.nD Cert.TokenIdeal.τ).loc Cert.TokenIdeal.main_arg11))
    (d : Fin 5632) :
    (show EReal from Cert.TokenIdeal.Gen.V m c Cert.TokenIdeal.main_v17 (ix2 0 d))
      = (show EReal from Cert.TokenRefIdeal.Gen.V m' c Cert.TokenRefIdeal.main_v10 (ix2 0 d)) := by
  rewrite [Cert.TokenIdeal.Host.v17_eq m c, Cert.TokenRefIdeal.Host.v10_eq m' c, h]
  generalize m ((c.tc : Thread Cert.TokenIdeal.nD Cert.TokenIdeal.τ).loc Cert.TokenIdeal.main_arg11) = s
  exact row5632 s _ _ d

theorem wout_eq (h : m' ((c.tc : Thread Cert.TokenRefIdeal.nD Cert.TokenRefIdeal.τ).loc Cert.TokenRefIdeal.main_arg12) = m ((c.tc : Thread Cert.TokenIdeal.nD Cert.TokenIdeal.τ).loc Cert.TokenIdeal.main_arg12))
    (a : Fin 5632) (b : Fin 2048) :
    (show EReal from Cert.TokenIdeal.Gen.V m c Cert.TokenIdeal.main_arg12 (ix2 a b))
      = (show EReal from Cert.TokenRefIdeal.Gen.V m' c Cert.TokenRefIdeal.main_arg12 (ix2 a b)) := by
  rewrite [Cert.TokenIdeal.Gen.V_main_arg12, Cert.TokenRefIdeal.Gen.V_main_arg12, h]
  rfl

theorem sout_eq (h : m' ((c.tc : Thread Cert.TokenRefIdeal.nD Cert.TokenRefIdeal.τ).loc Cert.TokenRefIdeal.main_arg13) = m ((c.tc : Thread Cert.TokenIdeal.nD Cert.TokenIdeal.τ).loc Cert.TokenIdeal.main_arg13))
    (d : Fin 2048) :
    (show EReal from Cert.TokenIdeal.Gen.V m c Cert.TokenIdeal.main_v18 (ix2 0 d))
      = (show EReal from Cert.TokenRefIdeal.Gen.V m' c Cert.TokenRefIdeal.main_v11 (ix2 0 d)) := by
  rewrite [Cert.TokenIdeal.Host.v18_eq m c, Cert.TokenRefIdeal.Host.v11_eq m' c, h]
  generalize m ((c.tc : Thread Cert.TokenIdeal.nD Cert.TokenIdeal.τ).loc Cert.TokenIdeal.main_arg13) = s
  exact row2048 s _ _ d

theorem wq_eq (h : m' ((c.tc : Thread Cert.TokenRefIdeal.nD Cert.TokenRefIdeal.τ).loc Cert.TokenRefIdeal.main_arg14) = m ((c.tc : Thread Cert.TokenIdeal.nD Cert.TokenIdeal.τ).loc Cert.TokenIdeal.main_arg14))
    (a : Fin 2048) (b : Fin 6144) :
    (show EReal from Cert.TokenIdeal.Gen.V m c Cert.TokenIdeal.main_v9 (ix2 a b))
      = (show EReal from Cert.TokenRefIdeal.Gen.V m' c Cert.TokenRefIdeal.main_v12 (ix2 a b)) := by
  rewrite [Cert.TokenIdeal.Host.v9_eq m c, Cert.TokenRefIdeal.Host.v12_eq m' c, h]
  generalize m ((c.tc : Thread Cert.TokenIdeal.nD Cert.TokenIdeal.τ).loc Cert.TokenIdeal.main_arg14) = s
  rfl

theorem sq_eq (h : m' ((c.tc : Thread Cert.TokenRefIdeal.nD Cert.TokenRefIdeal.τ).loc Cert.TokenRefIdeal.main_arg15) = m ((c.tc : Thread Cert.TokenIdeal.nD Cert.TokenIdeal.τ).loc Cert.TokenIdeal.main_arg15))
    (d : Fin 6144) :
    (show EReal from Cert.TokenIdeal.Gen.V m c Cert.TokenIdeal.main_v19 (ix2 0 d))
      = (show EReal from Cert.TokenRefIdeal.Gen.V m' c Cert.TokenRefIdeal.main_v13 (ix2 0 d)) := by
  rewrite [Cert.TokenIdeal.Host.v19_eq m c, Cert.TokenRefIdeal.Host.v13_eq m' c, h]
  generalize m ((c.tc : Thread Cert.TokenIdeal.nD Cert.TokenIdeal.τ).loc Cert.TokenIdeal.main_arg15) = s
  exact row6144 s _ _ _ d

end Fields

set_option maxHeartbeats 1000000 in
/-- On equal arguments a token's row of numbers is the same in both programs. -/
theorem row_eq (m : (ℓ : Loc Cert.TokenIdeal.nD Cert.TokenIdeal.τ Cert.TokenIdeal.sig) → Buf (Elt Ideal) ℓ)
    (m' : (ℓ : Loc Cert.TokenRefIdeal.nD Cert.TokenRefIdeal.τ Cert.TokenRefIdeal.sig) → Buf (Elt Ideal) ℓ)
    (c : Dev Cert.TokenIdeal.nD) (h : Agree m m' c) (T : Fin 24576) :
    Cert.TokenIdeal.Sum.krow m c T = Cert.TokenRefIdeal.Pay.rrow (Cert.TokenRefIdeal.Gen.V m' c Cert.TokenRefIdeal.main_v0) (Cert.TokenRefIdeal.Gen.V m' c Cert.TokenRefIdeal.main_v1) (Cert.TokenRefIdeal.Gen.V m' c Cert.TokenRefIdeal.main_v2) (Cert.TokenRefIdeal.Gen.V m' c Cert.TokenRefIdeal.main_v3) (Cert.TokenRefIdeal.Gen.V m' c Cert.TokenRefIdeal.main_v4) (Cert.TokenRefIdeal.Gen.V m' c Cert.TokenRefIdeal.main_v5) (Cert.TokenRefIdeal.Gen.V m' c Cert.TokenRefIdeal.main_v6) (Cert.TokenRefIdeal.Gen.V m' c Cert.TokenRefIdeal.main_v7) (Cert.TokenRefIdeal.Gen.V m' c Cert.TokenRefIdeal.main_v8) (Cert.TokenRefIdeal.Gen.V m' c Cert.TokenRefIdeal.main_v9) (Cert.TokenRefIdeal.Gen.V m' c Cert.TokenRefIdeal.main_arg10) (Cert.TokenRefIdeal.Gen.V m' c Cert.TokenRefIdeal.main_v10) (Cert.TokenRefIdeal.Gen.V m' c Cert.TokenRefIdeal.main_arg12) (Cert.TokenRefIdeal.Gen.V m' c Cert.TokenRefIdeal.main_v11) (Cert.TokenRefIdeal.Gen.V m' c Cert.TokenRefIdeal.main_v12) (Cert.TokenRefIdeal.Gen.V m' c Cert.TokenRefIdeal.main_v13) T := by
  obtain ⟨h0, h1, h2, h3, h4, h5, h6, h7, h8, h9, h10, h11, h12, h13, h14, h15⟩ := h
  exact Row.ext (funext fun d => dy_eq m m' c h0 T d) (dys_eq m m' c h1 T) (funext fun d => q_eq m m' c h2 T d) (qs_eq m m' c h3 T) (funext fun d => xh_eq m m' c h4 T d) (xs_eq m m' c h5 T) (rs_eq m m' c h6 T) (funext fun d => g_eq m m' c h7 d) (funext fun d => a_eq m m' c h8 T d) (asc_eq m m' c h9 T) (funext fun d => funext fun k => win_eq m m' c h10 d k) (funext fun d => sin_eq m m' c h11 d) (funext fun d => funext fun k => wout_eq m m' c h12 d k) (funext fun d => sout_eq m m' c h13 d) (funext fun d => funext fun k => wq_eq m m' c h14 d k) (funext fun d => sq_eq m m' c h15 d)

end Cert.TokenEq

end
-- ==== Proof.TokenTail.lean ====
/-
  The host's work after the token pass, in the kernel and in the reference: the reshapes to (batch, sequence, feature), and
  in the kernel the sum of the gain's eight rows. Each program's run, with its results as functions of the call's arrays.
-/
module

public import proofs.«01_k».proof.Proof.TokenVal
public import proofs.«01_k».proof.Proof.TokenRefVal
public import Idealize.ShloMosaic.Lib.Pointwise
public import Idealize.ShloMosaic.Lib.Tactic

@[expose] public section

noncomputable section

open Idealize.ShloMosaic Idealize.ShloMosaic.TcCoe Idealize.SL.Sem

namespace Cert.TokenIdeal.Tail

open Cert.TokenIdeal Cert.TokenIdeal.Gen

/-- The sum of the eight rows. -/
def sum8 (x : FVec Ideal S8x2048 .f32) : FVec Ideal S2048 .f32 :=
  Host.reduceAdd (F := Ideal) x (constant S_ .f32 0x00000000#32) reducesTo_S8x2048_S2048_d0 h_S_

theorem sum8_at (x : FVec Ideal S8x2048 .f32) (l : Fin 2048) : sum8 x (ix1 l) = ∑ s : Fin 8, (x (ix2 s l) : EReal) := by
  pointwise [sum8]

end Cert.TokenIdeal.Tail

namespace Cert.TokenIdeal.Tail

open Cert.TokenIdeal Cert.TokenIdeal.Gen

/-- The input gradient is reshaped. -/
theorem host_dx (W : Valuation τ sig (Elt Ideal)) : StableHlo.after hostOps1 W main_v22
    = shapeCast S6x4096x2048 (W main_v20_0) shapeCasts_S24576x2048_S6x4096x2048 := by
  after_results
  try rfl

/-- The gain's gradient is the sum of its eight rows. -/
theorem host_dgamma (W : Valuation τ sig (Elt Ideal)) : StableHlo.after hostOps1 W main_v23
    = sum8 (W main_v20_3) := by
  after_results
  try rfl

/-- The codes are reshaped. -/
theorem host_codes (W : Valuation τ sig (Elt Ideal)) : StableHlo.after hostOps1 W main_v24
    = shapeCast S6x4096x5632 (W main_v20_1) shapeCasts_S24576x5632_S6x4096x5632 := by
  after_results
  try rfl

/-- The scales are reshaped. -/
theorem host_scale (W : Valuation τ sig (Elt Ideal)) : StableHlo.after hostOps1 W main_v25
    = shapeCast S6x4096 (shapeCast S24576 (W main_v20_2) shapeCasts_S96x1x256_S24576) shapeCasts_S24576_S6x4096 := by
  after_results
  try rfl

variable (m : (ℓ : Loc nD τ sig) → Buf (Elt Ideal) ℓ) (ρ : Dev nD → PrngReg)

/-- The buffers as the call leaves them. -/
abbrev W (c : Dev nD) : Valuation τ sig (Elt Ideal) := Pipeline.withArrays spec0 c (V0 m c) fun w => (dats m 0 c).arrAt w cfg0.N

theorem W_16 (c : Dev nD) : W m c main_v20_0 = (dats m 0 c).arrAt 16 cfg0.N :=
  Pipeline.withArrays_arr spec0 launch0.win.arr_inj c (V0 m c) _ 16

theorem W_17 (c : Dev nD) : W m c main_v20_1 = (dats m 0 c).arrAt 17 cfg0.N :=
  Pipeline.withArrays_arr spec0 launch0.win.arr_inj c (V0 m c) _ 17

theorem W_18 (c : Dev nD) : W m c main_v20_2 = (dats m 0 c).arrAt 18 cfg0.N :=
  Pipeline.withArrays_arr spec0 launch0.win.arr_inj c (V0 m c) _ 18

theorem W_19 (c : Dev nD) : W m c main_v20_3 = (dats m 0 c).arrAt 19 cfg0.N :=
  Pipeline.withArrays_arr spec0 launch0.win.arr_inj c (V0 m c) _ 19

/-- Result `dx`. -/
theorem res_dx (c : Dev nD) : Pipeline.afterTail₀ cfgs (dats m) 0 (V0 m) [hostOps1] c main_v22
    = shapeCast S6x4096x2048 ((dats m 0 c).arrAt 16 cfg0.N) shapeCasts_S24576x2048_S6x4096x2048 :=
  (host_dx (W m c)).trans (congrArg (fun x => shapeCast S6x4096x2048 x shapeCasts_S24576x2048_S6x4096x2048) (W_16 m c))

/-- Result `dgamma`. -/
theorem res_dgamma (c : Dev nD) : Pipeline.afterTail₀ cfgs (dats m) 0 (V0 m) [hostOps1] c main_v23
    = sum8 ((dats m 0 c).arrAt 19 cfg0.N) :=
  (host_dgamma (W m c)).trans (congrArg (fun x => sum8 x) (W_19 m c))

/-- Result `codes`. -/
theorem res_codes (c : Dev nD) : Pipeline.afterTail₀ cfgs (dats m) 0 (V0 m) [hostOps1] c main_v24
    = shapeCast S6x4096x5632 ((dats m 0 c).arrAt 17 cfg0.N) shapeCasts_S24576x5632_S6x4096x5632 :=
  (host_codes (W m c)).trans (congrArg (fun x => shapeCast S6x4096x5632 x shapeCasts_S24576x5632_S6x4096x5632) (W_17 m c))

/-- Result `scale`. -/
theorem res_scale (c : Dev nD) : Pipeline.afterTail₀ cfgs (dats m) 0 (V0 m) [hostOps1] c main_v25
    = shapeCast S6x4096 (shapeCast S24576 ((dats m 0 c).arrAt 18 cfg0.N) shapeCasts_S96x1x256_S24576) shapeCasts_S24576_S6x4096 :=
  (host_scale (W m c)).trans (congrArg (fun x => shapeCast S6x4096 (shapeCast S24576 x shapeCasts_S96x1x256_S24576) shapeCasts_S24576_S6x4096) (W_18 m c))

/-- The run: what the four result arrays hold, and the arguments unchanged. -/
theorem run : θ_run defs (onTc (τ := τ) (main (F := Ideal))) ⟨m, fun _ => 0, ρ⟩ fun r => ∀ c : Dev nD,
      r.2.mem ((c : Thread nD τ).loc main_v22) = shapeCast S6x4096x2048 ((dats m 0 c).arrAt 16 cfg0.N) shapeCasts_S24576x2048_S6x4096x2048
      ∧ r.2.mem ((c : Thread nD τ).loc main_v23) = sum8 ((dats m 0 c).arrAt 19 cfg0.N)
      ∧ r.2.mem ((c : Thread nD τ).loc main_v24) = shapeCast S6x4096x5632 ((dats m 0 c).arrAt 17 cfg0.N) shapeCasts_S24576x5632_S6x4096x5632
      ∧ r.2.mem ((c : Thread nD τ).loc main_v25) = shapeCast S6x4096 (shapeCast S24576 ((dats m 0 c).arrAt 18 cfg0.N) shapeCasts_S96x1x256_S24576) shapeCasts_S24576_S6x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h.1 c).2 main_v22 (Pipeline.mem_restRefs_of main_v22 (by decide) (by decide))).trans (res_dx m c),
      ((h.1 c).2 main_v23 (Pipeline.mem_restRefs_of main_v23 (by decide) (by decide))).trans (res_dgamma m c),
      ((h.1 c).2 main_v24 (Pipeline.mem_restRefs_of main_v24 (by decide) (by decide))).trans (res_codes m c),
      ((h.1 c).2 main_v25 (Pipeline.mem_restRefs_of main_v25 (by decide) (by decide))).trans (res_scale m c),
      h.2 c⟩)
    (θ_run_and (run_main m ρ) (unchanged m ρ))

end Cert.TokenIdeal.Tail

namespace Cert.TokenRefIdeal.Tail

open Cert.TokenRefIdeal Cert.TokenRefIdeal.Gen

/-- The input gradient is reshaped. -/
theorem host_dx (W : Valuation τ sig (Elt Ideal)) : StableHlo.after hostOps1 W main_v15
    = shapeCast S6x4096x2048 (W main_v14_0) shapeCasts_S24576x2048_S6x4096x2048 := by
  after_results
  try rfl

/-- The gain's gradient is reshaped. -/
theorem host_dgamma (W : Valuation τ sig (Elt Ideal)) : StableHlo.after hostOps1 W main_v16
    = shapeCast S2048 (W main_v14_3) shapeCasts_S1x2048_S2048 := by
  after_results
  try rfl

/-- The codes are reshaped. -/
theorem host_codes (W : Valuation τ sig (Elt Ideal)) : StableHlo.after hostOps1 W main_v17
    = shapeCast S6x4096x5632 (W main_v14_1) shapeCasts_S24576x5632_S6x4096x5632 := by
  after_results
  try rfl

/-- The scales are reshaped. -/
theorem host_scale (W : Valuation τ sig (Elt Ideal)) : StableHlo.after hostOps1 W main_v18
    = shapeCast S6x4096 (W main_v14_2) shapeCasts_S24576x1_S6x4096 := by
  after_results
  try rfl

variable (m : (ℓ : Loc nD τ sig) → Buf (Elt Ideal) ℓ) (ρ : Dev nD → PrngReg)

/-- The buffers as the call leaves them. -/
abbrev W (c : Dev nD) : Valuation τ sig (Elt Ideal) := Pipeline.withArrays spec0 c (V0 m c) fun w => (dats m 0 c).arrAt w cfg0.N

theorem W_16 (c : Dev nD) : W m c main_v14_0 = (dats m 0 c).arrAt 16 cfg0.N :=
  Pipeline.withArrays_arr spec0 launch0.win.arr_inj c (V0 m c) _ 16

theorem W_17 (c : Dev nD) : W m c main_v14_1 = (dats m 0 c).arrAt 17 cfg0.N :=
  Pipeline.withArrays_arr spec0 launch0.win.arr_inj c (V0 m c) _ 17

theorem W_18 (c : Dev nD) : W m c main_v14_2 = (dats m 0 c).arrAt 18 cfg0.N :=
  Pipeline.withArrays_arr spec0 launch0.win.arr_inj c (V0 m c) _ 18

theorem W_19 (c : Dev nD) : W m c main_v14_3 = (dats m 0 c).arrAt 19 cfg0.N :=
  Pipeline.withArrays_arr spec0 launch0.win.arr_inj c (V0 m c) _ 19

/-- Result `dx`. -/
theorem res_dx (c : Dev nD) : Pipeline.afterTail₀ cfgs (dats m) 0 (V0 m) [hostOps1] c main_v15
    = shapeCast S6x4096x2048 ((dats m 0 c).arrAt 16 cfg0.N) shapeCasts_S24576x2048_S6x4096x2048 :=
  (host_dx (W m c)).trans (congrArg (fun x => shapeCast S6x4096x2048 x shapeCasts_S24576x2048_S6x4096x2048) (W_16 m c))

/-- Result `dgamma`. -/
theorem res_dgamma (c : Dev nD) : Pipeline.afterTail₀ cfgs (dats m) 0 (V0 m) [hostOps1] c main_v16
    = shapeCast S2048 ((dats m 0 c).arrAt 19 cfg0.N) shapeCasts_S1x2048_S2048 :=
  (host_dgamma (W m c)).trans (congrArg (fun x => shapeCast S2048 x shapeCasts_S1x2048_S2048) (W_19 m c))

/-- Result `codes`. -/
theorem res_codes (c : Dev nD) : Pipeline.afterTail₀ cfgs (dats m) 0 (V0 m) [hostOps1] c main_v17
    = shapeCast S6x4096x5632 ((dats m 0 c).arrAt 17 cfg0.N) shapeCasts_S24576x5632_S6x4096x5632 :=
  (host_codes (W m c)).trans (congrArg (fun x => shapeCast S6x4096x5632 x shapeCasts_S24576x5632_S6x4096x5632) (W_17 m c))

/-- Result `scale`. -/
theorem res_scale (c : Dev nD) : Pipeline.afterTail₀ cfgs (dats m) 0 (V0 m) [hostOps1] c main_v18
    = shapeCast S6x4096 ((dats m 0 c).arrAt 18 cfg0.N) shapeCasts_S24576x1_S6x4096 :=
  (host_scale (W m c)).trans (congrArg (fun x => shapeCast S6x4096 x shapeCasts_S24576x1_S6x4096) (W_18 m c))

/-- The run: what the four result arrays hold, and the arguments unchanged. -/
theorem run : θ_run defs (onTc (τ := τ) (main (F := Ideal))) ⟨m, fun _ => 0, ρ⟩ fun r => ∀ c : Dev nD,
      r.2.mem ((c : Thread nD τ).loc main_v15) = shapeCast S6x4096x2048 ((dats m 0 c).arrAt 16 cfg0.N) shapeCasts_S24576x2048_S6x4096x2048
      ∧ r.2.mem ((c : Thread nD τ).loc main_v16) = shapeCast S2048 ((dats m 0 c).arrAt 19 cfg0.N) shapeCasts_S1x2048_S2048
      ∧ r.2.mem ((c : Thread nD τ).loc main_v17) = shapeCast S6x4096x5632 ((dats m 0 c).arrAt 17 cfg0.N) shapeCasts_S24576x5632_S6x4096x5632
      ∧ r.2.mem ((c : Thread nD τ).loc main_v18) = shapeCast S6x4096 ((dats m 0 c).arrAt 18 cfg0.N) shapeCasts_S24576x1_S6x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h.1 c).2 main_v15 (Pipeline.mem_restRefs_of main_v15 (by decide) (by decide))).trans (res_dx m c),
      ((h.1 c).2 main_v16 (Pipeline.mem_restRefs_of main_v16 (by decide) (by decide))).trans (res_dgamma m c),
      ((h.1 c).2 main_v17 (Pipeline.mem_restRefs_of main_v17 (by decide) (by decide))).trans (res_codes m c),
      ((h.1 c).2 main_v18 (Pipeline.mem_restRefs_of main_v18 (by decide) (by decide))).trans (res_scale m c),
      h.2 c⟩)
    (θ_run_and (run_main m ρ) (unchanged m ρ))

end Cert.TokenRefIdeal.Tail

end
-- ==== Proof.TokenEq.lean ====
/-
  The token pass's four result arrays are the same arrays in the kernel and in the reference on equal arguments: both are
  the same functions of a token's row of numbers, and the row is the same.
-/
module

public import proofs.«01_k».proof.Proof.TokenSum
public import proofs.«01_k».proof.Proof.TokenRefSum
public import proofs.«01_k».proof.Proof.TokenHost
public import proofs.«01_k».proof.Proof.TokenTail

@[expose] public section

set_option maxRecDepth 100000

noncomputable section

open Idealize.ShloMosaic Idealize.ShloMosaic.TcCoe Idealize.SL.Sem
open scoped BigOperators

namespace Cert.TokenEq

open Cert.TokenMath

variable (m : (ℓ : Loc Cert.TokenIdeal.nD Cert.TokenIdeal.τ Cert.TokenIdeal.sig) → Buf (Elt Ideal) ℓ)
    (m' : (ℓ : Loc Cert.TokenRefIdeal.nD Cert.TokenRefIdeal.τ Cert.TokenRefIdeal.sig) → Buf (Elt Ideal) ℓ)
    (c : Dev Cert.TokenIdeal.nD) (h : Agree m m' c)

include h

/-- The input gradients are the same. -/
theorem eq16 : (Cert.TokenRefIdeal.Gen.dats m' 0 c).arrAt 16 Cert.TokenRefIdeal.cfg0.N
    = (Cert.TokenIdeal.Gen.dats m 0 c).arrAt 16 Cert.TokenIdeal.cfg0.N := by
  funext j
  obtain ⟨T, l, rfl⟩ : ∃ (T : Fin 24576) (l : Fin 2048), j = ix2 T l := ⟨j 0, j 1, eq_ix2 j⟩
  refine (Cert.TokenRefIdeal.Sum.final16 m' c (ix2 T l)).trans ?_
  refine (Cert.TokenRefIdeal.Pay.out16_at _ _ _ _ _ _ _ _ _ _ _ _ _ _ _ _ T l).trans ?_
  exact (congrArg (fun R : Row => R.dx l) (row_eq m m' c h T)).symm.trans (Cert.TokenIdeal.Sum.arr16 m c T l).symm

/-- The codes are the same. -/
theorem eq17 : (Cert.TokenRefIdeal.Gen.dats m' 0 c).arrAt 17 Cert.TokenRefIdeal.cfg0.N
    = (Cert.TokenIdeal.Gen.dats m 0 c).arrAt 17 Cert.TokenIdeal.cfg0.N := by
  funext j
  obtain ⟨T, l, rfl⟩ : ∃ (T : Fin 24576) (l : Fin 5632), j = ix2 T l := ⟨j 0, j 1, eq_ix2 j⟩
  refine (Cert.TokenRefIdeal.Sum.final17 m' c (ix2 T l)).trans ?_
  refine (Cert.TokenRefIdeal.Pay.out17_at _ _ _ _ _ _ _ _ _ _ _ _ _ _ _ _ T l).trans ?_
  exact (congrArg (fun R : Row => R.code l) (row_eq m m' c h T)).symm.trans (Cert.TokenIdeal.Sum.arr17 m c T l).symm

/-- A token's scale is the same. -/
theorem eq18 (T : Fin 24576) : (Cert.TokenRefIdeal.Gen.dats m' 0 c).arrAt 18 Cert.TokenRefIdeal.cfg0.N (ix2 T 0)
    = (Cert.TokenIdeal.Gen.dats m 0 c).arrAt 18 Cert.TokenIdeal.cfg0.N
      (ix3 (⟨T.val / 256, by omega⟩ : Fin 96) (0 : Fin 1) (⟨T.val % 256, by omega⟩ : Fin 256)) := by
  refine (Cert.TokenRefIdeal.Sum.final18 m' c _).trans ?_
  refine (Cert.TokenRefIdeal.Pay.out18_at _ _ _ _ _ _ _ _ _ _ _ _ _ _ _ _ T).trans ?_
  exact (congrArg (fun R : Row => R.scale) (row_eq m m' c h T)).symm.trans (Cert.TokenIdeal.Sum.arr18 m c T).symm

omit h in
/-- A sum over the tokens, taken by the remainder of a token's number modulo 8. -/
theorem sum_tokens (f : Fin 24576 → EReal) :
    ∑ T : Fin 24576, f T = ∑ s : Fin 8, ∑ g : Fin 3072, f ⟨8 * g.val + s.val, by omega⟩ := by
  rw [Finset.sum_comm, ← Fintype.sum_prod_type' (f := fun (g : Fin 3072) (s : Fin 8) => f ⟨8 * g.val + s.val, by omega⟩)]
  refine (Fintype.sum_equiv (finProdFinEquiv : Fin 3072 × Fin 8 ≃ Fin (3072 * 8)) _ _ fun x => ?_).symm
  refine congrArg f (Fin.ext ?_)
  show 8 * x.1.val + x.2.val = x.2.val + 8 * x.1.val
  omega

/-- The gain's gradient is the same. -/
theorem eq19 (l : Fin 2048) : (Cert.TokenRefIdeal.Gen.dats m' 0 c).arrAt 19 Cert.TokenRefIdeal.cfg0.N (ix2 0 l)
    = Cert.TokenIdeal.Tail.sum8 ((Cert.TokenIdeal.Gen.dats m 0 c).arrAt 19 Cert.TokenIdeal.cfg0.N) (ix1 l) := by
  refine Eq.trans ?_ (Cert.TokenIdeal.Tail.sum8_at _ l).symm
  refine (Cert.TokenRefIdeal.Sum.final19 m' c (ix2 0 l)).trans ?_
  refine (Cert.TokenRefIdeal.Pay.out19_at _ _ _ _ _ _ _ _ _ _ _ _ _ _ _ _ l).trans ?_
  rw [sum_tokens]
  refine Finset.sum_congr rfl fun s _ => ?_
  refine Eq.trans ?_ (Cert.TokenIdeal.Sum.arr19 m c s l).symm
  rw [Finset.sum_range]
  refine Finset.sum_congr rfl fun g _ => ?_
  have hg : 8 * g.val + s.val < 24576 := by omega
  unfold Cert.TokenIdeal.Sum.dgt
  rw [dif_pos hg, ← row_eq m m' c h]

/-! ## After the host's work -/

omit h in
/-- The scales of the kernel's layout, reshaped. -/
theorem scale_k (x : (⟨3, ![96, 1, 256]⟩ : Shape).Idx → EReal) (h1 : (⟨3, ![96, 1, 256]⟩ : Shape).ShapeCasts ⟨1, ![24576]⟩)
    (h2 : (⟨1, ![24576]⟩ : Shape).ShapeCasts ⟨2, ![6, 4096]⟩) (b : Fin 6) (s : Fin 4096) :
    shapeCast ⟨2, ![6, 4096]⟩ (shapeCast ⟨1, ![24576]⟩ x h1) h2 (ix2 b s)
      = x (ix3 (⟨(b.val * 4096 + s.val) / 256, by omega⟩ : Fin 96) (0 : Fin 1) (⟨(b.val * 4096 + s.val) % 256, by omega⟩ : Fin 256)) := by
  pointwise
  have e1 : (b.val * 4096 + s.val) / 256 = b.val * 16 + s.val / 256 := by omega
  have e2 : (b.val * 4096 + s.val) % 256 = s.val % 256 := by omega
  simp only [e1, e2]

omit h in
/-- The scales of the reference's column, reshaped. -/
theorem scale_r (x : (⟨2, ![24576, 1]⟩ : Shape).Idx → EReal) (h1 : (⟨2, ![24576, 1]⟩ : Shape).ShapeCasts ⟨2, ![6, 4096]⟩)
    (b : Fin 6) (s : Fin 4096) :
    shapeCast ⟨2, ![6, 4096]⟩ x h1 (ix2 b s) = x (ix2 (⟨b.val * 4096 + s.val, by omega⟩ : Fin 24576) (0 : Fin 1)) := by
  pointwise

omit h in
/-- The reference's row, reshaped. -/
theorem gain_r (x : (⟨2, ![1, 2048]⟩ : Shape).Idx → EReal) (h1 : (⟨2, ![1, 2048]⟩ : Shape).ShapeCasts ⟨1, ![2048]⟩)
    (l : Fin 2048) : shapeCast ⟨1, ![2048]⟩ x h1 (ix1 l) = x (ix2 (0 : Fin 1) l) := by
  pointwise

/-- The results of the two programs, each as its run states it. -/
theorem res_dx : shapeCast Cert.TokenRefIdeal.S6x4096x2048 ((Cert.TokenRefIdeal.Gen.dats m' 0 c).arrAt 16 Cert.TokenRefIdeal.cfg0.N) Cert.TokenRefIdeal.Gen.shapeCasts_S24576x2048_S6x4096x2048
    = shapeCast Cert.TokenIdeal.S6x4096x2048 ((Cert.TokenIdeal.Gen.dats m 0 c).arrAt 16 Cert.TokenIdeal.cfg0.N) Cert.TokenIdeal.Gen.shapeCasts_S24576x2048_S6x4096x2048 := by
  rw [eq16 m m' c h]

theorem res_codes : shapeCast Cert.TokenRefIdeal.S6x4096x5632 ((Cert.TokenRefIdeal.Gen.dats m' 0 c).arrAt 17 Cert.TokenRefIdeal.cfg0.N) Cert.TokenRefIdeal.Gen.shapeCasts_S24576x5632_S6x4096x5632
    = shapeCast Cert.TokenIdeal.S6x4096x5632 ((Cert.TokenIdeal.Gen.dats m 0 c).arrAt 17 Cert.TokenIdeal.cfg0.N) Cert.TokenIdeal.Gen.shapeCasts_S24576x5632_S6x4096x5632 := by
  rw [eq17 m m' c h]

theorem res_scale : shapeCast Cert.TokenRefIdeal.S6x4096 ((Cert.TokenRefIdeal.Gen.dats m' 0 c).arrAt 18 Cert.TokenRefIdeal.cfg0.N) Cert.TokenRefIdeal.Gen.shapeCasts_S24576x1_S6x4096
    = shapeCast Cert.TokenIdeal.S6x4096 (shapeCast Cert.TokenIdeal.S24576 ((Cert.TokenIdeal.Gen.dats m 0 c).arrAt 18 Cert.TokenIdeal.cfg0.N) Cert.TokenIdeal.Gen.shapeCasts_S96x1x256_S24576) Cert.TokenIdeal.Gen.shapeCasts_S24576_S6x4096 := by
  funext j
  obtain ⟨b, s, rfl⟩ : ∃ (b : Fin 6) (s : Fin 4096), j = ix2 b s := ⟨j 0, j 1, eq_ix2 j⟩
  refine (scale_r _ _ b s).trans ?_
  exact (eq18 m m' c h ⟨b.val * 4096 + s.val, by omega⟩).trans (scale_k _ _ _ b s).symm

theorem res_dgamma : shapeCast Cert.TokenRefIdeal.S2048 ((Cert.TokenRefIdeal.Gen.dats m' 0 c).arrAt 19 Cert.TokenRefIdeal.cfg0.N) Cert.TokenRefIdeal.Gen.shapeCasts_S1x2048_S2048
    = Cert.TokenIdeal.Tail.sum8 ((Cert.TokenIdeal.Gen.dats m 0 c).arrAt 19 Cert.TokenIdeal.cfg0.N) := by
  funext j
  obtain ⟨l, rfl⟩ : ∃ l : Fin 2048, j = ix1 l := ⟨j 0, eq_ix1 j⟩
  refine (gain_r _ _ l).trans ?_
  exact eq19 m m' c h l

end Cert.TokenEq

end
-- ==== Proof.lean ====
/-
  The claim: the frames of the four programs, of their idealizations and of their references; that the idealizations rewrote
  nothing but named constants; and that each kernel's result arrays equal its reference's on equal arguments.
-/
module

public import proofs.«01_k».proof.Defs
public import proofs.«01_k».proof.Proof.Gen.DwOut.Frame
public import proofs.«01_k».proof.Proof.Gen.DwIn.Frame
public import proofs.«01_k».proof.Proof.Gen.DwQkv.Frame
public import proofs.«01_k».proof.Proof.Gen.DwOutIdeal.Value
public import proofs.«01_k».proof.Proof.Gen.DwInIdeal.Value
public import proofs.«01_k».proof.Proof.DwQkvVal
public import proofs.«01_k».proof.Proof.Gen.DwOutRefIdeal.Value
public import proofs.«01_k».proof.Proof.Gen.DwInRefIdeal.Value
public import proofs.«01_k».proof.Proof.Gen.Token.Frame
public import proofs.«01_k».proof.Proof.TokenVal
public import proofs.«01_k».proof.Proof.TokenRefVal
public import proofs.«01_k».proof.Proof.DwOutEq
public import proofs.«01_k».proof.Proof.DwInEq
public import proofs.«01_k».proof.Proof.DwQkvEq
public import proofs.«01_k».proof.Proof.TokenEq

@[expose] public section

open Idealize.ShloMosaic Idealize.ShloMosaic.TcCoe Idealize.SL.Sem

/-- `DwOut`: on equal arguments the kernel and the reference both run and end with equal result arrays. -/
theorem Cert.DwOutEq.claim : Cert.algebraic_DwOutIdeal_DwOutRefIdeal := fun m g m' g' _ h =>
  ⟨fun c => Cert.DwOutIdeal.Value.G4 m c, Cert.DwOutIdeal.Value.run m g,
    (θ_run Cert.DwOutRefIdeal.defs _ _).mono
      (fun _ hr c => ⟨(hr c).1.trans (Cert.DwOutEq.result_eq m m' c (h c).1 (h c).2.1 (h c).2.2.1 (h c).2.2.2), (hr c).2⟩)
      (Cert.DwOutRefIdeal.Value.run_blocks m' g')⟩

/-- `DwIn`: on equal arguments the kernel and the reference both run and end with equal result arrays. -/
theorem Cert.DwInEq.claim : Cert.algebraic_DwInIdeal_DwInRefIdeal := fun m g m' g' _ h =>
  ⟨fun c => Cert.DwInIdeal.Value.G4 m c, Cert.DwInIdeal.Value.run m g,
    (θ_run Cert.DwInRefIdeal.defs _ _).mono
      (fun _ hr c => ⟨(hr c).1.trans (Cert.DwInEq.result_eq m m' c (h c).1 (h c).2.1 (h c).2.2.1 (h c).2.2.2.1 (h c).2.2.2.2), (hr c).2⟩)
      (Cert.DwInRefIdeal.Value.run_blocks m' g')⟩

/-- `DwQkv`: on equal arguments the kernel and the reference both run and end with equal result arrays. -/
theorem Cert.DwQkvEq.claim : Cert.algebraic_DwQkvIdeal_DwQkvRefIdeal := fun m g m' g' _ h =>
  ⟨_, Cert.DwQkvIdeal.Value.run m g,
    (θ_run Cert.DwQkvRefIdeal.defs _ _).mono
      (fun _ hr c => ⟨(hr c).1.trans (congrArg (fun x => shapeCast Cert.DwQkvIdeal.S2048x3x32x64 x Cert.DwQkvIdeal.Gen.shapeCasts_S2048x6144_S2048x3x32x64)
        (Cert.DwQkvEq.result_eq m m' c (h c).1 (h c).2.1 (h c).2.2.1 (h c).2.2.2.1 (h c).2.2.2.2.1)), (hr c).2⟩)
      (Cert.DwQkvRefIdeal.Value.run m' g')⟩

/-- The token pass's idealization replaced only named constants, each the rounding of its real value. -/
theorem Cert.TokenEq.preserves : Cert.preserves_Token_TokenIdeal :=
  ⟨IdealRules.named_const.statement Cert.TokenIdeal.κ "c_a" .f32 0x3D122279#32 ((35677408136300126361 / 1000000000000000000000 : ℝ) : EReal) rfl,
    IdealRules.named_const.statement Cert.TokenIdeal.κ "c" .f32 0x3F4C422A#32 ((3989422804014327 / 5000000000000000 : ℝ) : EReal) rfl,
    IdealRules.named_const.statement Cert.TokenIdeal.κ "three_half_c_a" .f32 0x3D5B33B6#32 ((107032224408900379083 / 2000000000000000000000 : ℝ) : EReal) rfl,
    IdealRules.named_const.statement Cert.TokenIdeal.κ "half_c" .f32 0x3ECC422A#32 ((3989422804014327 / 10000000000000000 : ℝ) : EReal) rfl⟩

/-- `Token`: on equal arguments the kernel and the reference both run and end with equal result arrays. -/
theorem Cert.TokenEq.claim : Cert.algebraic_TokenIdeal_TokenRefIdeal := fun m g m' g' _ h =>
  ⟨_, _, _, _, Cert.TokenIdeal.Tail.run m g,
    (θ_run Cert.TokenRefIdeal.defs _ _).mono
      (fun _ hr c => ⟨(hr c).1.trans (Cert.TokenEq.res_dx m m' c (h c)), (hr c).2.1.trans (Cert.TokenEq.res_dgamma m m' c (h c)),
        (hr c).2.2.1.trans (Cert.TokenEq.res_codes m m' c (h c)), (hr c).2.2.2.1.trans (Cert.TokenEq.res_scale m m' c (h c)), (hr c).2.2.2.2⟩)
      (Cert.TokenRefIdeal.Tail.run m' g')⟩

/-- The claim of the whole certificate. -/
theorem Cert.Proof.claim : Cert.Claim :=
  ⟨Cert.DwOut.Gen.facts, Cert.DwOutIdeal.Gen.facts, Cert.DwOutRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts, Cert.Token.Gen.facts, Cert.TokenIdeal.Gen.facts, Cert.TokenRefIdeal.Gen.facts,
    fun m g _ => Cert.DwOut.Gen.frame m g,
    fun m g _ => Cert.DwOutIdeal.Gen.frame m g,
    fun m g _ => Cert.DwOutRefIdeal.Gen.frame m g,
    fun m g _ => Cert.DwIn.Gen.frame m g,
    fun m g _ => Cert.DwInIdeal.Gen.frame m g,
    fun m g _ => Cert.DwInRefIdeal.Gen.frame m g,
    fun m g _ => Cert.DwQkv.Gen.frame m g,
    fun m g _ => Cert.DwQkvIdeal.Gen.frame m g,
    fun m g _ => Cert.DwQkvRefIdeal.Gen.frame m g,
    fun m g _ => Cert.Token.Gen.frame m g,
    fun m g _ => Cert.TokenIdeal.Gen.frame m g,
    fun m g _ => Cert.TokenRefIdeal.Gen.frame m g,
    trivial, Cert.DwOutEq.claim, trivial, Cert.DwInEq.claim, trivial, Cert.DwQkvEq.claim,
    Cert.TokenEq.preserves, Cert.TokenEq.claim⟩

end
